-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "log2e" .bf16 0x3FB9#16 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v21)) (v2 : (c : Dev Cert.Kernel2Ideal.nD) → Buf (Elt Ideal) ((c.tc : Thread Cert.Kernel2Ideal.nD Cert.Kernel2Ideal.τ).loc Cert.Kernel2Ideal.main_v22)) (v3 : (c : Dev Cert.Kernel2Ideal.nD) → Buf (Elt Ideal) ((c.tc : Thread Cert.Kernel2Ideal.nD Cert.Kernel2Ideal.τ).loc Cert.Kernel2Ideal.main_v23)) (v4 : (c : Dev Cert.Kernel2Ideal.nD) → Buf (Elt Ideal) ((c.tc : Thread Cert.Kernel2Ideal.nD Cert.Kernel2Ideal.τ).loc Cert.Kernel2Ideal.main_v24)) (v5 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v21) = v1 c
          ∧ r.2.mem ((c.tc : Thread Cert.Kernel2Ideal.nD Cert.Kernel2Ideal.τ).loc Cert.Kernel2Ideal.main_v22) = v2 c
          ∧ r.2.mem ((c.tc : Thread Cert.Kernel2Ideal.nD Cert.Kernel2Ideal.τ).loc Cert.Kernel2Ideal.main_v23) = v3 c
          ∧ r.2.mem ((c.tc : Thread Cert.Kernel2Ideal.nD Cert.Kernel2Ideal.τ).loc Cert.Kernel2Ideal.main_v24) = v4 c
          ∧ r.2.mem ((c.tc : Thread Cert.Kernel2Ideal.nD Cert.Kernel2Ideal.τ).loc Cert.Kernel2Ideal.main_v25) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v14) = v4 c
          ∧ r.2.mem ((c.tc : Thread Cert.Reference2Ideal.nD Cert.Reference2Ideal.τ).loc Cert.Reference2Ideal.main_v20) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v53) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "rsqrt2" .bf16 0x3F35#16 (((Real.sqrt 2)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S32768x6144 : Shape := ⟨2, ![32768, 6144]⟩
abbrev S_ : Shape := ⟨0, ![]⟩

class Facts : Prop where
  bitsLt_bf16_f32 : FTy.bits .bf16 < FTy.bits .f32
  bcast_S_S32768x6144 : S_.BroadcastsInDim S32768x6144 (![] : Fin 0 → Fin S32768x6144.rank)

variable [Facts]

def fn {F : FTy → Type} [FloatOps F] (main_arg0 : FVec F S32768x6144 .bf16) : IVec S32768x6144 1 :=
  let main_v0 : FVec F S32768x6144 .f32 := (extf .f32 · bitsLt_bf16_f32) main_arg0
  let main_v1 : FVec F S32768x6144 .f32 := Host.absf main_v0
  let main_cst : FVec F S_ .f32 := constant S_ .f32 0x7F800000#32
  let main_v2 : FVec F S32768x6144 .f32 := broadcastInDim S32768x6144 ![] bcast_S_S32768x6144 main_cst
  let main_v3 : IVec S32768x6144 1 := cmpf .olt main_v1 main_v2
  main_v3
-- ==== Kernel.lean ====
abbrev S32768x6144 : Shape := ⟨2, ![32768, 6144]⟩
abbrev S32768x2048 : Shape := ⟨2, ![32768, 2048]⟩
abbrev S1024x512 : Shape := ⟨2, ![1024, 512]⟩
abbrev S4096x512 : Shape := ⟨2, ![4096, 512]⟩
abbrev S4x1024x128 : Shape := ⟨3, ![4, 1024, 128]⟩
abbrev S256x256 : Shape := ⟨2, ![256, 256]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x1 : Shape := ⟨2, ![256, 1]⟩
abbrev S512x256 : Shape := ⟨2, ![512, 256]⟩
abbrev S1x512x128 : Shape := ⟨3, ![1, 512, 128]⟩
abbrev S512x128 : Shape := ⟨2, ![512, 128]⟩
abbrev S512x1 : Shape := ⟨2, ![512, 1]⟩
abbrev S768x256 : Shape := ⟨2, ![768, 256]⟩
abbrev S1x768x128 : Shape := ⟨3, ![1, 768, 128]⟩
abbrev S768x128 : Shape := ⟨2, ![768, 128]⟩
abbrev S768x1 : Shape := ⟨2, ![768, 1]⟩
abbrev S1024x256 : Shape := ⟨2, ![1024, 256]⟩
abbrev S1024x1 : Shape := ⟨2, ![1024, 1]⟩

abbrev nBuf : Space → Nat
  | .hbm => 2
  | .vmem => 11
  | .smem => 0
  | _ => 0

abbrev bufTy : (tb : Table) → Fin (tcTables nBuf tb) → BufTy
  | .hbm, ⟨0, _⟩ => ⟨S32768x6144, .bf16⟩
  | .hbm, ⟨1, _⟩ => ⟨S32768x2048, .bf16⟩
  | .local _ .vmem, ⟨0, _⟩ => ⟨S1024x512, .bf16⟩
  | .local _ .vmem, ⟨1, _⟩ => ⟨S1024x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S4x1024x128, .bf16⟩
  | .local _ .vmem, ⟨9, _⟩ => ⟨S4x1024x128, .f32⟩
  | .local _ .vmem, ⟨10, _⟩ => ⟨S4x1024x128, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v47 : BitVec 32 := Scalar.muli arg2 c1024_i32
  let c768_i32 : BitVec 32 := 768#32
  let v48 : BitVec 32 := Scalar.addi v47 c768_i32
  v48
def k0_off1 (i : grid0.Coords) (c768_i32 : BitVec 32) : Fin 2 → Nat :=
  let arg2 : BitVec 32 := BitVec.ofNat 32 (i 2).val
  let c1024_i32 : BitVec 32 := 1024#32
  let v47 : BitVec 32 := Scalar.muli arg2 c1024_i32
  let v48 : BitVec 32 := Scalar.addi v47 c768_i32
  let v49 : BitVec 32 := v48
  let v55 : Index := Scalar.indexCast v49
  let c0_28 : Index := 0#32
  ![v55.toNat, 0]
def k0_off2 (i : grid0.Coords) (c768_i32 : BitVec 32) : Fin 2 → Nat :=
  let arg2 : BitVec 32 := BitVec.ofNat 32 (i 2).val
  let c1024_i32 : BitVec 32 := 1024#32
  let v47 : BitVec 32 := Scalar.muli arg2 c1024_i32
  let v48 : BitVec 32 := Scalar.addi v47 c768_i32
  let v49 : BitVec 32 := v48
  let v107 : Index := Scalar.indexCast v49
  let c128_53 : Index := 128#32
  ![v107.toNat, 128]
def k0_off3 (i : grid0.Coords) (c768_i32 : BitVec 32) : Fin 2 → Nat :=
  let arg2 : BitVec 32 := BitVec.ofNat 32 (i 2).val
  let c1024_i32 : BitVec 32 := 1024#32
  let v47 : BitVec 32 := Scalar.muli arg2 c1024_i32
  let v48 : BitVec 32 := Scalar.addi v47 c768_i32
  let v49 : BitVec 32 := v48
  let v159 : Index := Scalar.indexCast v49
  let c256_78 : Index := 256#32
  ![v159.toNat, 256]
def k0_off4 (i : grid0.Coords) (c768_i32 : BitVec 32) : Fin 2 → Nat :=
  let arg2 : BitVec 32 := BitVec.ofNat 32 (i 2).val
  let c1024_i32 : BitVec 32 := 1024#32
  let v47 : BitVec 32 := Scalar.muli arg2 c1024_i32
  let v48 : BitVec 32 := Scalar.addi v47 c768_i32
  let v49 : BitVec 32 := v48
  let v211 : Index := Scalar.indexCast v49
  let c384_103 : Index := 384#32
  ![v211.toNat, 384]
def k0_mult2 (i : grid0.Coords) : BitVec 32 :=
  let arg2 : BitVec 32 := BitVec.ofNat 32 (i 2).val
  let c1024_i32_125 : BitVec 32 := 1024#32
  let v261 : BitVec 32 := Scalar.muli arg2 c1024_i32_125
  let c512_i32 : BitVec 32 := 512#32
  let v262 : BitVec 32 := Scalar.addi v261 c512_i32
  v262
def k0_mult3 (i : grid0.Coords) : BitVec 32 :=
  let arg2 : BitVec 32 := BitVec.ofNat 32 (i 2).val
  let c1024_i32_225 : BitVec 32 := 1024#32
  let v475 : BitVec 32 := Scalar.muli arg2 c1024_i32_225
  let c256_i32 : BitVec 32 := 256#32
  let v476 : BitVec 32 := Scalar.addi v475 c256_i32
  v476
def k0_mult4 (i : grid0.Coords) : BitVec 32 :=
  let arg2 : BitVec 32 := BitVec.ofNat 32 (i 2).val
  let c1024_i32_326 : BitVec 32 := 1024#32
  let v689 : BitVec 32 := Scalar.muli arg2 c1024_i32_326
  let c0_i32 : BitVec 32 := 0#32
  let v690 : BitVec 32 := Scalar.addi v689 c0_i32
  v690
@[reducible] def k0_t1_loop (i : grid0.Coords) : Scf.Loop 32 :=
  let c0_i32_451 : BitVec 32 := 0#32
  let arg2 : BitVec 32 := BitVec.ofNat 32 (i 2).val
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_452 : BitVec 32 := 1#32
  ⟨c0_i32_451, v923, c1_i32_452⟩
def k0_mult5 (i : grid0.Coords) (k0_t1 : Fin (k0_t1_loop i).trips) : BitVec 32 :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let c0_i32_457 : BitVec 32 := 0#32
  let v932 : BitVec 32 := Scalar.subi v931 c0_i32_457
  let c256_i32_458 : BitVec 32 := 256#32
  let v933 : BitVec 32 := Scalar.muli v932 c256_i32_458
  v933
def k0_off5 (i : grid0.Coords) (k0_t1 : Fin (k0_t1_loop i).trips) (c0_i32_457 : BitVec 32) : Fin 2 → Nat :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v935 : Index := Scalar.indexCast v934
  let c0_459 : Index := 0#32
  ![v935.toNat, 0]
def k0_off6 (i : grid0.Coords) (k0_t1 : Fin (k0_t1_loop i).trips) (c0_i32_457 : BitVec 32) : Fin 2 → Nat :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v971 : Index := Scalar.indexCast v934
  let c128_470 : Index := 128#32
  ![v971.toNat, 128]
def k0_off7 (i : grid0.Coords) (k0_t1 : Fin (k0_t1_loop i).trips) (c0_i32_457 : BitVec 32) : Fin 2 → Nat :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v1007 : Index := Scalar.indexCast v934
  let c256_481 : Index := 256#32
  ![v1007.toNat, 256]
def k0_off8 (i : grid0.Coords) (k0_t1 : Fin (k0_t1_loop i).trips) (c0_i32_457 : BitVec 32) : Fin 2 → Nat :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v1043 : Index := Scalar.indexCast v934
  let c384_492 : Index := 384#32
  ![v1043.toNat, 384]
def k0_mult6 (i : grid0.Coords) (k0_t1 : Fin (k0_t1_loop i).trips) : BitVec 32 :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v1079 : BitVec 32 := Scalar.subi arg2 arg10
  let c4_i32_503 : BitVec 32 := 4#32
  let v1080 : BitVec 32 := Scalar.muli v1079 c4_i32_503
  let c1_i32_504 : BitVec 32 := 1#32
  let v1081 : BitVec 32 := Scalar.subi v1080 c1_i32_504
  let c1_i32_505 : BitVec 32 := 1#32
  let v1082 : BitVec 32 := Scalar.subi v1081 c1_i32_505
  let c256_i32_506 : BitVec 32 := 256#32
  let v1083 : BitVec 32 := Scalar.muli v1082 c256_i32_506
  v1083
def k0_mult7 (i : grid0.Coords) (k0_t1 : Fin (k0_t1_loop i).trips) : BitVec 32 :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v1229 : BitVec 32 := Scalar.subi arg2 arg10
  let c4_i32_551 : BitVec 32 := 4#32
  let v1230 : BitVec 32 := Scalar.muli v1229 c4_i32_551
  let c1_i32_552 : BitVec 32 := 1#32
  let v1231 : BitVec 32 := Scalar.subi v1230 c1_i32_552
  let c2_i32 : BitVec 32 := 2#32
  let v1232 : BitVec 32 := Scalar.subi v1231 c2_i32
  let c256_i32_553 : BitVec 32 := 256#32
  let v1233 : BitVec 32 := Scalar.muli v1232 c256_i32_553
  v1233
def k0_mult8 (i : grid0.Coords) (k0_t1 : Fin (k0_t1_loop i).trips) : BitVec 32 :=
  let arg2 : BitVec 32 := BitVec.ofNat 32 (i 2).val
  let c0_i32_451 : BitVec 32 := 0#32
  let c1_i32_452 : BitVec 32 := 1#32
  let arg10 : BitVec 32 := Scf.iv c0_i32_451 c1_i32_452 k0_t1
  let v1379 : BitVec 32 := Scalar.subi arg2 arg10
  let c4_i32_598 : BitVec 32 := 4#32
  let v1380 : BitVec 32 := Scalar.muli v1379 c4_i32_598
  let c1_i32_599 : BitVec 32 := 1#32
  let v1381 : BitVec 32 := Scalar.subi v1380 c1_i32_599
  let c3_i32 : BitVec 32 := 3#32
  let v1382 : BitVec 32 := Scalar.subi v1381 c3_i32
  let c256_i32_600 : BitVec 32 := 256#32
  let v1383 : BitVec 32 := Scalar.muli v1382 c256_i32_600
  v1383
@[reducible] def k0_t2_loop (i : grid0.Coords) : Scf.Loop 32 :=
  let c0_i32_451 : BitVec 32 := 0#32
  let arg2 : BitVec 32 := BitVec.ofNat 32 (i 2).val
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let v920 : BitVec 32 := Scalar.addi c0_i32_451 v919
  let c1_i32_453 : BitVec 32 := 1#32
  ⟨v923, v920, c1_i32_453⟩
def k0_mult9 (i : grid0.Coords) (k0_t2 : Fin (k0_t2_loop i).trips) : BitVec 32 :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let c0_i32_457 : BitVec 32 := 0#32
  let v932 : BitVec 32 := Scalar.subi v931 c0_i32_457
  let c256_i32_458 : BitVec 32 := 256#32
  let v933 : BitVec 32 := Scalar.muli v932 c256_i32_458
  v933
def k0_off9 (i : grid0.Coords) (k0_t2 : Fin (k0_t2_loop i).trips) (c0_i32_457 : BitVec 32) : Fin 2 → Nat :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v935 : Index := Scalar.indexCast v934
  let c0_459 : Index := 0#32
  ![v935.toNat, 0]
def k0_off10 (i : grid0.Coords) (k0_t2 : Fin (k0_t2_loop i).trips) (c0_i32_457 : BitVec 32) : Fin 2 → Nat :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v971 : Index := Scalar.indexCast v934
  let c128_470 : Index := 128#32
  ![v971.toNat, 128]
def k0_off11 (i : grid0.Coords) (k0_t2 : Fin (k0_t2_loop i).trips) (c0_i32_457 : BitVec 32) : Fin 2 → Nat :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v1007 : Index := Scalar.indexCast v934
  let c256_481 : Index := 256#32
  ![v1007.toNat, 256]
def k0_off12 (i : grid0.Coords) (k0_t2 : Fin (k0_t2_loop i).trips) (c0_i32_457 : BitVec 32) : Fin 2 → Nat :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v929 : BitVec 32 := Scalar.subi arg2 arg10
  let c4_i32 : BitVec 32 := 4#32
  let v930 : BitVec 32 := Scalar.muli v929 c4_i32
  let c1_i32_456 : BitVec 32 := 1#32
  let v931 : BitVec 32 := Scalar.subi v930 c1_i32_456
  let v932 : BitVec 32 := Scalar.subi v931 c0_i32_457
  let c256_i32_458 : BitVec 32 := 256#32
  let v933 : BitVec 32 := Scalar.muli v932 c256_i32_458
  let v934 : BitVec 32 := v933
  let v1043 : Index := Scalar.indexCast v934
  let c384_492 : Index := 384#32
  ![v1043.toNat, 384]
def k0_mult10 (i : grid0.Coords) (k0_t2 : Fin (k0_t2_loop i).trips) : BitVec 32 :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v1079 : BitVec 32 := Scalar.subi arg2 arg10
  let c4_i32_503 : BitVec 32 := 4#32
  let v1080 : BitVec 32 := Scalar.muli v1079 c4_i32_503
  let c1_i32_504 : BitVec 32 := 1#32
  let v1081 : BitVec 32 := Scalar.subi v1080 c1_i32_504
  let c1_i32_505 : BitVec 32 := 1#32
  let v1082 : BitVec 32 := Scalar.subi v1081 c1_i32_505
  let c256_i32_506 : BitVec 32 := 256#32
  let v1083 : BitVec 32 := Scalar.muli v1082 c256_i32_506
  v1083
def k0_mult11 (i : grid0.Coords) (k0_t2 : Fin (k0_t2_loop i).trips) : BitVec 32 :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v1229 : BitVec 32 := Scalar.subi arg2 arg10
  let c4_i32_551 : BitVec 32 := 4#32
  let v1230 : BitVec 32 := Scalar.muli v1229 c4_i32_551
  let c1_i32_552 : BitVec 32 := 1#32
  let v1231 : BitVec 32 := Scalar.subi v1230 c1_i32_552
  let c2_i32 : BitVec 32 := 2#32
  let v1232 : BitVec 32 := Scalar.subi v1231 c2_i32
  let c256_i32_553 : BitVec 32 := 256#32
  let v1233 : BitVec 32 := Scalar.muli v1232 c256_i32_553
  v1233
def k0_mult12 (i : grid0.Coords) (k0_t2 : Fin (k0_t2_loop i).trips) : BitVec 32 :=
  let arg2 : BitVec 32 := BitVec.ofNat 32 (i 2).val
  let c0_i32_451 : BitVec 32 := 0#32
  let v919 : BitVec 32 := Scalar.subi arg2 c0_i32_451
  let c1_i32 : BitVec 32 := 1#32
  let v921 : BitVec 32 := Scalar.divsi v919 c1_i32
  let v922 : BitVec 32 := Scalar.muli v921 c1_i32
  let v923 : BitVec 32 := Scalar.addi c0_i32_451 v922
  let c1_i32_453 : BitVec 32 := 1#32
  let arg10 : BitVec 32 := Scf.iv v923 c1_i32_453 k0_t2
  let v1379 : BitVec 32 := Scalar.subi arg2 arg10
  let c4_i32_598 : BitVec 32 := 4#32
  let v1380 : BitVec 32 := Scalar.muli v1379 c4_i32_598
  let c1_i32_599 : BitVec 32 := 1#32
  let v1381 : BitVec 32 := Scalar.subi v1380 c1_i32_599
  let c3_i32 : BitVec 32 := 3#32
  let v1382 : BitVec 32 := Scalar.subi v1381 c3_i32
  let c256_i32_600 : BitVec 32 := 256#32
  let v1383 : BitVec 32 := Scalar.muli v1382 c256_i32_600
  v1383
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S32768x6144 : Shape := ⟨2, ![32768, 6144]⟩
abbrev S8x4096x6144 : Shape := ⟨3, ![8, 4096, 6144]⟩
abbrev S8x4096x2048 : Shape := ⟨3, ![8, 4096, 2048]⟩
abbrev S8x4096x16x128 : Shape := ⟨4, ![8, 4096, 16, 128]⟩
abbrev S_ : Shape := ⟨0, ![]⟩
abbrev S4096 : Shape := ⟨1, ![4096]⟩
abbrev S8x16x4096x4096 : Shape := ⟨4, ![8, 16, 4096, 4096]⟩
abbrev S1x4096 : Shape := ⟨2, ![1, 4096]⟩
abbrev S4096x1 : Shape := ⟨2, ![4096, 1]⟩
abbrev S4096x4096 : Shape := ⟨2, ![4096, 4096]⟩
abbrev S8x16x128x4096 : Shape := ⟨4, ![8, 16, 128, 4096]⟩
abbrev S32768x2048 : Shape := ⟨2, ![32768, 2048]⟩

abbrev nBuf : Space → Nat
  | .hbm => 75
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S32768x6144, .f32⟩
  | .hbm, ⟨2, _⟩ => ⟨S8x4096x6144, .f32⟩
  | .hbm, ⟨3, _⟩ => ⟨S8x4096x2048, .f32⟩
  | .hbm, ⟨4, _⟩ => ⟨S8x4096x2048, .f32⟩
  | .hbm, ⟨5, _⟩ => ⟨S8x4096x2048, .f32⟩
  | .hbm, ⟨6, _⟩ => ⟨S8x4096x16x128, .f32⟩
  | .hbm, ⟨7, _⟩ => ⟨S8x4096x16x128, .f32⟩
  | .hbm, ⟨8, _⟩ => ⟨S8x4096x16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096, .i32⟩
  | .hbm, ⟨14, _⟩ => ⟨S8x16x4096x4096, .f32⟩
  | .hbm, ⟨15, _⟩ => ⟨S8x16x4096x4096, .f32⟩
  | .hbm, ⟨16, _⟩ => ⟨S8x16x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x16x4096x4096, .f32⟩
  | .hbm, ⟨23, _⟩ => ⟨S8x16x4096x4096, .f32⟩
  | .hbm, ⟨24, _⟩ => ⟨S_, .f32⟩
  | .hbm, ⟨25, _⟩ => ⟨S8x16x4096x4096, .f32⟩
  | .hbm, ⟨26, _⟩ => ⟨S8x16x4096x4096, .f32⟩
  | .hbm, ⟨27, _⟩ => ⟨S8x16x4096x4096, .f32⟩
  | .hbm, ⟨28, _⟩ => ⟨S8x16x4096x4096, .f32⟩
  | .hbm, ⟨29, _⟩ => ⟨S8x16x4096x4096, .i1⟩
  | .hbm, ⟨30, _⟩ => ⟨S8x16x4096x4096, .f32⟩
  | .hbm, ⟨31, _⟩ => ⟨S8x16x4096x4096, .f32⟩
  | .hbm, ⟨32, _⟩ => ⟨S8x16x4096x4096, .f32⟩
  | .hbm, ⟨33, _⟩ => ⟨S8x16x4096x4096, .f32⟩
  | .hbm, ⟨34, _⟩ => ⟨S8x16x4096x4096, .f32⟩
  | .hbm, ⟨35, _⟩ => ⟨S8x16x4096x4096, .f32⟩
  | .hbm, ⟨36, _⟩ => ⟨S8x16x4096x4096, .f32⟩
  | .hbm, ⟨37, _⟩ => ⟨S8x16x4096x4096, .f32⟩
  | .hbm, ⟨38, _⟩ => ⟨S8x16x4096x4096, .f32⟩
  | .hbm, ⟨39, _⟩ => ⟨S_, .f32⟩
  | .hbm, ⟨40, _⟩ => ⟨S_, .f32⟩
  | .hbm, ⟨41, _⟩ => ⟨S8x16x4096x4096, .i1⟩
  | .hbm, ⟨42, _⟩ => ⟨S8x16x4096x4096, .f32⟩
  | .hbm, ⟨43, _⟩ => ⟨S8x16x4096x4096, .f32⟩
  | .hbm, ⟨44, _⟩ => ⟨S_, .f32⟩
  | .hbm, ⟨45, _⟩ => ⟨S_, .f32⟩
  | .hbm, ⟨46, _⟩ => ⟨S8x16x4096x4096, .f32⟩
  | .hbm, ⟨47, _⟩ => ⟨S8x16x4096x4096, .f32⟩
  | .hbm, ⟨48, _⟩ => ⟨S8x16x4096x4096, .f32⟩
  | .hbm, ⟨49, _⟩ => ⟨S_, .f32⟩
  | .hbm, ⟨50, _⟩ => ⟨S8x16x4096x4096, .f32⟩
  | .hbm, ⟨51, _⟩ => ⟨S8x16x4096x4096, .f32⟩
  | .hbm, ⟨52, _⟩ => ⟨S8x16x4096x4096, .f32⟩
  | .hbm, ⟨53, _⟩ => ⟨S8x16x4096x4096, .f32⟩
  | .hbm, ⟨54, _⟩ => ⟨S8x16x4096x4096, .i1⟩
  | .hbm, ⟨55, _⟩ => ⟨S8x16x4096x4096, .f32⟩
  | .hbm, ⟨56, _⟩ => ⟨S8x16x4096x4096, .f32⟩
  | .hbm, ⟨57, _⟩ => ⟨S8x16x4096x4096, .f32⟩
  | .hbm, ⟨58, _⟩ => ⟨S8x16x4096x4096, .f32⟩
  | .hbm, ⟨59, _⟩ => ⟨S8x16x4096x4096, .f32⟩
  | .hbm, ⟨60, _⟩ => ⟨S8x16x4096x4096, .f32⟩
  | .hbm, ⟨61, _⟩ => ⟨S8x16x4096x4096, .f32⟩
  | .hbm, ⟨62, _⟩ => ⟨S8x16x4096x4096, .f32⟩
  | .hbm, ⟨63, _⟩ => ⟨S8x16x4096x4096, .f32⟩
  | .hbm, ⟨64, _⟩ => ⟨S8x16x4096x4096, .f32⟩
  | .hbm, ⟨65, _⟩ => ⟨S8x16x4096x4096, .f32⟩
  | .hbm, ⟨66, _⟩ => ⟨S_, .f32⟩
  | .hbm, ⟨67, _⟩ => ⟨S_, .f32⟩
  | .hbm, ⟨68, _⟩ => ⟨S8x16x4096x4096, .i1⟩
  | .hbm, ⟨69, _⟩ => ⟨S8x16x4096x4096, .f32⟩
  | .hbm, ⟨70, _⟩ => ⟨S8x16x4096x4096, .f32⟩
  | .hbm, ⟨71, _⟩ => ⟨S8x16x128x4096, .f32⟩
  | .hbm, ⟨72, _⟩ => ⟨S8x4096x16x128, .f32⟩
  | .hbm, ⟨73, _⟩ => ⟨S32768x2048, .f32⟩
  | .hbm, ⟨74, _⟩ => ⟨S32768x2048, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_2 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩

abbrev nD : Nat := 1
abbrev τ : Topo := Topo.v7x

variable {F : FTy → Type} [FloatOps F]
-- ==== Kernel2.lean ====
abbrev S32768x2048 : Shape := ⟨2, ![32768, 2048]⟩
abbrev S2048x28736 : Shape := ⟨2, ![2048, 28736]⟩
abbrev S6144 : Shape := ⟨1, ![6144]⟩
abbrev S2048x6144 : Shape := ⟨2, ![2048, 6144]⟩
abbrev S2048x4096 : Shape := ⟨2, ![2048, 4096]⟩
abbrev S2048x64 : Shape := ⟨2, ![2048, 64]⟩
abbrev S_ : Shape := ⟨0, ![]⟩
abbrev S6144x1 : Shape := ⟨2, ![6144, 1]⟩
abbrev S2048x128 : Shape := ⟨2, ![2048, 128]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩
abbrev S32768x4096 : Shape := ⟨2, ![32768, 4096]⟩
abbrev S32768x128 : Shape := ⟨2, ![32768, 128]⟩
abbrev S1024x128 : Shape := ⟨2, ![1024, 128]⟩

abbrev nBuf : Space → Nat
  | .hbm => 33
  | .vmem => 35
  | .smem => 0
  | _ => 0

abbrev bufTy : (tb : Table) → Fin (tcTables nBuf tb) → BufTy
  | .hbm, ⟨0, _⟩ => ⟨S32768x2048, .bf16⟩
  | .hbm, ⟨1, _⟩ => ⟨S2048x28736, .f32⟩
  | .hbm, ⟨2, _⟩ => ⟨S6144, .i32⟩
  | .hbm, ⟨3, _⟩ => ⟨S2048x6144, .f32⟩
  | .hbm, ⟨4, _⟩ => ⟨S2048x6144, .bf16⟩
  | .hbm, ⟨5, _⟩ => ⟨S2048x6144, .f32⟩
  | .hbm, ⟨6, _⟩ => ⟨S2048x6144, .bf16⟩
  | .hbm, ⟨7, _⟩ => ⟨S2048x4096, .f32⟩
  | .hbm, ⟨8, _⟩ => ⟨S2048x4096, .bf16⟩
  | .hbm, ⟨9, _⟩ => ⟨S2048x6144, .f32⟩
  | .hbm, ⟨10, _⟩ => ⟨S2048x6144, .bf16⟩
  | .hbm, ⟨11, _⟩ => ⟨S2048x64, .f32⟩
  | .hbm, ⟨12, _⟩ => ⟨S2048x64, .bf16⟩
  | .hbm, ⟨13, _⟩ => ⟨S2048x6144, .f32⟩
  | .hbm, ⟨14, _⟩ => ⟨S2048x6144, .bf16⟩
  | .hbm, ⟨15, _⟩ => ⟨S_, .i32⟩
  | .hbm, ⟨16, _⟩ => ⟨S6144, .i32⟩
  | .hbm, ⟨17, _⟩ => ⟨S6144, .i1⟩
  | .hbm, ⟨18, _⟩ => ⟨S_, .i32⟩
  | .hbm, ⟨19, _⟩ => ⟨S6144, .i32⟩
  | .hbm, ⟨20, _⟩ => ⟨S6144, .i32⟩
  | .hbm, ⟨21, _⟩ => ⟨S6144, .i32⟩
  | .hbm, ⟨22, _⟩ => ⟨S6144x1, .i32⟩
  | .hbm, ⟨23, _⟩ => ⟨S2048x6144, .bf16⟩
  | .hbm, ⟨24, _⟩ => ⟨S_, .i32⟩
  | .hbm, ⟨25, _⟩ => ⟨S_, .bf16⟩
  | .hbm, ⟨26, _⟩ => ⟨S2048x128, .bf16⟩
  | .hbm, ⟨27, _⟩ => ⟨S32768x6144, .bf16⟩
  | .hbm, ⟨28, _⟩ => ⟨S32768x6144, .bf16⟩
  | .hbm, ⟨29, _⟩ => ⟨S32768x4096, .bf16⟩
  | .hbm, ⟨30, _⟩ => ⟨S32768x6144, .bf16⟩
  | .hbm, ⟨31, _⟩ => ⟨S32768x128, .f32⟩
  | .hbm, ⟨32, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x2048, .bf16⟩
  | .local _ .vmem, ⟨13, _⟩ => ⟨S1024x2048, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x2048, .bf16⟩
  | .local _ .vmem, ⟨19, _⟩ => ⟨S1024x2048, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x2048, .bf16⟩
  | .local _ .vmem, ⟨25, _⟩ => ⟨S1024x2048, .bf16⟩
  | .local _ .vmem, ⟨26, _⟩ => ⟨S2048x128, .bf16⟩
  | .local _ .vmem, ⟨27, _⟩ => ⟨S1024x128, .f32⟩
  | .local _ .vmem, ⟨28, _⟩ => ⟨S1024x128, .f32⟩
  | .local _ .vmem, ⟨29, _⟩ => ⟨S1024x2048, .bf16⟩
  | .local _ .vmem, ⟨30, _⟩ => ⟨S1024x2048, .bf16⟩
  | .local _ .vmem, ⟨31, _⟩ => ⟨S2048x1024, .bf16⟩
  | .local _ .vmem, ⟨32, _⟩ => ⟨S2048x1024, .bf16⟩
  | .local _ .vmem, ⟨33, _⟩ => ⟨S1024x1024, .bf16⟩
  | .local _ .vmem, ⟨34, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![32, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![32, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![32, 6], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference2Ideal.lean ====
abbrev S32768x2048 : Shape := ⟨2, ![32768, 2048]⟩
abbrev S2048x28736 : Shape := ⟨2, ![2048, 28736]⟩
abbrev S32768x28736 : Shape := ⟨2, ![32768, 28736]⟩
abbrev S32768x6144 : Shape := ⟨2, ![32768, 6144]⟩
abbrev S32768x4096 : Shape := ⟨2, ![32768, 4096]⟩
abbrev S32768x1024 : Shape := ⟨2, ![32768, 1024]⟩
abbrev S32768x64 : Shape := ⟨2, ![32768, 64]⟩
abbrev S32768x8x512 : Shape := ⟨3, ![32768, 8, 512]⟩
abbrev S32768x8x128 : Shape := ⟨3, ![32768, 8, 128]⟩
abbrev S32768x8x768 : Shape := ⟨3, ![32768, 8, 768]⟩
abbrev S_ : Shape := ⟨0, ![]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x28736, .f32⟩
  | .hbm, ⟨2, _⟩ => ⟨S32768x2048, .f32⟩
  | .hbm, ⟨3, _⟩ => ⟨S32768x28736, .f32⟩
  | .hbm, ⟨4, _⟩ => ⟨S32768x6144, .f32⟩
  | .hbm, ⟨5, _⟩ => ⟨S32768x6144, .f32⟩
  | .hbm, ⟨6, _⟩ => ⟨S32768x4096, .f32⟩
  | .hbm, ⟨7, _⟩ => ⟨S32768x4096, .f32⟩
  | .hbm, ⟨8, _⟩ => ⟨S32768x1024, .f32⟩
  | .hbm, ⟨9, _⟩ => ⟨S32768x1024, .f32⟩
  | .hbm, ⟨10, _⟩ => ⟨S32768x64, .f32⟩
  | .hbm, ⟨11, _⟩ => ⟨S32768x6144, .f32⟩
  | .hbm, ⟨12, _⟩ => ⟨S32768x8x512, .f32⟩
  | .hbm, ⟨13, _⟩ => ⟨S32768x8x128, .f32⟩
  | .hbm, ⟨14, _⟩ => ⟨S32768x8x128, .f32⟩
  | .hbm, ⟨15, _⟩ => ⟨S32768x8x768, .f32⟩
  | .hbm, ⟨16, _⟩ => ⟨S_, .i32⟩
  | .hbm, ⟨17, _⟩ => ⟨S_, .f32⟩
  | .hbm, ⟨18, _⟩ => ⟨S32768x128, .f32⟩
  | .hbm, ⟨19, _⟩ => ⟨S32768x6144, .bf16⟩
  | .hbm, ⟨20, _⟩ => ⟨S32768x6144, .bf16⟩
  | .hbm, ⟨21, _⟩ => ⟨S32768x4096, .bf16⟩
  | .hbm, ⟨22, _⟩ => ⟨S32768x6144, .f32⟩
  | .hbm, ⟨23, _⟩ => ⟨S32768x6144, .bf16⟩
  | .hbm, ⟨24, _⟩ => ⟨S32768x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel3.lean ====
abbrev S32768x2048 : Shape := ⟨2, ![32768, 2048]⟩
abbrev S32768x4096 : Shape := ⟨2, ![32768, 4096]⟩
abbrev S32768x6144 : Shape := ⟨2, ![32768, 6144]⟩
abbrev S2048x2048 : Shape := ⟨2, ![2048, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 17
  | .vmem => 36
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x4096, .bf16⟩
  | .hbm, ⟨3, _⟩ => ⟨S32768x6144, .bf16⟩
  | .hbm, ⟨4, _⟩ => ⟨S32768x2048, .f32⟩
  | .hbm, ⟨5, _⟩ => ⟨S2048x2048, .f32⟩
  | .hbm, ⟨6, _⟩ => ⟨S2048x2048, .f32⟩
  | .hbm, ⟨7, _⟩ => ⟨S4096x2048, .f32⟩
  | .hbm, ⟨8, _⟩ => ⟨S2048x2048, .f32⟩
  | .hbm, ⟨9, _⟩ => ⟨S2048x2048, .bf16⟩
  | .hbm, ⟨10, _⟩ => ⟨S32768x2048, .f32⟩
  | .hbm, ⟨11, _⟩ => ⟨S2048x2048, .bf16⟩
  | .hbm, ⟨12, _⟩ => ⟨S32768x2048, .f32⟩
  | .hbm, ⟨13, _⟩ => ⟨S4096x2048, .bf16⟩
  | .hbm, ⟨14, _⟩ => ⟨S32768x2048, .bf16⟩
  | .hbm, ⟨15, _⟩ => ⟨S2048x2048, .bf16⟩
  | .hbm, ⟨16, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x4096, .bf16⟩
  | .local _ .vmem, ⟨19, _⟩ => ⟨S1024x4096, .bf16⟩
  | .local _ .vmem, ⟨20, _⟩ => ⟨S4096x512, .bf16⟩
  | .local _ .vmem, ⟨21, _⟩ => ⟨S4096x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .f32⟩
  | .local _ .vmem, ⟨25, _⟩ => ⟨S1024x512, .f32⟩
  | .local _ .vmem, ⟨26, _⟩ => ⟨S1024x512, .bf16⟩
  | .local _ .vmem, ⟨27, _⟩ => ⟨S1024x512, .bf16⟩
  | .local _ .vmem, ⟨28, _⟩ => ⟨S1024x2048, .bf16⟩
  | .local _ .vmem, ⟨29, _⟩ => ⟨S1024x2048, .bf16⟩
  | .local _ .vmem, ⟨30, _⟩ => ⟨S2048x1024, .bf16⟩
  | .local _ .vmem, ⟨31, _⟩ => ⟨S2048x1024, .bf16⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![32, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== Reference3Ideal.lean ====
abbrev S32768x2048 : Shape := ⟨2, ![32768, 2048]⟩
abbrev S32768x4096 : Shape := ⟨2, ![32768, 4096]⟩
abbrev S32768x6144 : Shape := ⟨2, ![32768, 6144]⟩
abbrev S2048x2048 : Shape := ⟨2, ![2048, 2048]⟩
abbrev S4096x2048 : Shape := ⟨2, ![4096, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x4096, .bf16⟩
  | .hbm, ⟨3, _⟩ => ⟨S32768x6144, .bf16⟩
  | .hbm, ⟨4, _⟩ => ⟨S32768x2048, .f32⟩
  | .hbm, ⟨5, _⟩ => ⟨S2048x2048, .f32⟩
  | .hbm, ⟨6, _⟩ => ⟨S2048x2048, .f32⟩
  | .hbm, ⟨7, _⟩ => ⟨S4096x2048, .f32⟩
  | .hbm, ⟨8, _⟩ => ⟨S2048x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x4096, .f32⟩
  | .hbm, ⟨14, _⟩ => ⟨S32768x2048, .f32⟩
  | .hbm, ⟨15, _⟩ => ⟨S32768x6144, .f32⟩
  | .hbm, ⟨16, _⟩ => ⟨S32768x6144, .f32⟩
  | .hbm, ⟨17, _⟩ => ⟨S32768x6144, .f32⟩
  | .hbm, ⟨18, _⟩ => ⟨S_, .f32⟩
  | .hbm, ⟨19, _⟩ => ⟨S32768x6144, .f32⟩
  | .hbm, ⟨20, _⟩ => ⟨S32768x6144, .f32⟩
  | .hbm, ⟨21, _⟩ => ⟨S_, .f32⟩
  | .hbm, ⟨22, _⟩ => ⟨S32768x6144, .f32⟩
  | .hbm, ⟨23, _⟩ => ⟨S32768x6144, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048x2048, .bf16⟩
  | .hbm, ⟨3, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | .hbm, ⟨4, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S1x2048, .f32⟩
  | .hbm, ⟨4, _⟩ => ⟨S32768x2048, .f32⟩
  | .hbm, ⟨5, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S1x2048, .f32⟩
  | .hbm, ⟨4, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel8.lean ====
abbrev S32768x6144 : Shape := ⟨2, ![32768, 6144]⟩
abbrev S3x2048 : Shape := ⟨2, ![3, 2048]⟩
abbrev S32768x2048 : Shape := ⟨2, ![32768, 2048]⟩
abbrev S256x2048 : Shape := ⟨2, ![256, 2048]⟩
abbrev S264x2048 : Shape := ⟨2, ![264, 2048]⟩
abbrev S8x2048 : Shape := ⟨2, ![8, 2048]⟩
abbrev S1x2048 : Shape := ⟨2, ![1, 2048]⟩

abbrev nBuf : Space → Nat
  | .hbm => 3
  | .vmem => 10
  | .smem => 0
  | _ => 0

abbrev bufTy : (tb : Table) → Fin (tcTables nBuf tb) → BufTy
  | .hbm, ⟨0, _⟩ => ⟨S32768x6144, .bf16⟩
  | .hbm, ⟨1, _⟩ => ⟨S3x2048, .f32⟩
  | .hbm, ⟨2, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S3x2048, .f32⟩
  | .local _ .vmem, ⟨7, _⟩ => ⟨S256x2048, .bf16⟩
  | .local _ .vmem, ⟨8, _⟩ => ⟨S256x2048, .bf16⟩
  | .local _ .vmem, ⟨9, _⟩ => ⟨S264x2048, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference8Ideal.lean ====
abbrev S32768x6144 : Shape := ⟨2, ![32768, 6144]⟩
abbrev S3x2048 : Shape := ⟨2, ![3, 2048]⟩
abbrev S8x4096x6144 : Shape := ⟨3, ![8, 4096, 6144]⟩
abbrev S8x4096x2048 : Shape := ⟨3, ![8, 4096, 2048]⟩
abbrev S_ : Shape := ⟨0, ![]⟩
abbrev S8x4098x2048 : Shape := ⟨3, ![8, 4098, 2048]⟩
abbrev S1x2048 : Shape := ⟨2, ![1, 2048]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S3x2048, .f32⟩
  | .hbm, ⟨2, _⟩ => ⟨S32768x6144, .f32⟩
  | .hbm, ⟨3, _⟩ => ⟨S8x4096x6144, .f32⟩
  | .hbm, ⟨4, _⟩ => ⟨S8x4096x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S_, .i32⟩
  | .hbm, ⟨9, _⟩ => ⟨S_, .f32⟩
  | .hbm, ⟨10, _⟩ => ⟨S8x4098x2048, .f32⟩
  | .hbm, ⟨11, _⟩ => ⟨S1x2048, .f32⟩
  | .hbm, ⟨12, _⟩ => ⟨S2048, .f32⟩
  | .hbm, ⟨13, _⟩ => ⟨S8x4096x2048, .f32⟩
  | .hbm, ⟨14, _⟩ => ⟨S1x1x2048, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S8x4096x2048, .f32⟩
  | .hbm, ⟨19, _⟩ => ⟨S8x4096x2048, .f32⟩
  | .hbm, ⟨20, _⟩ => ⟨S1x2048, .f32⟩
  | .hbm, ⟨21, _⟩ => ⟨S2048, .f32⟩
  | .hbm, ⟨22, _⟩ => ⟨S8x4096x2048, .f32⟩
  | .hbm, ⟨23, _⟩ => ⟨S1x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S1x2048, .f32⟩
  | .hbm, ⟨28, _⟩ => ⟨S2048, .f32⟩
  | .hbm, ⟨29, _⟩ => ⟨S8x4096x2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S32768x2048, .f32⟩
  | .hbm, ⟨36, _⟩ => ⟨S32768x2048, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Kernel9.lean ====
abbrev S32768x6144 : Shape := ⟨2, ![32768, 6144]⟩
abbrev S4x6144 : Shape := ⟨2, ![4, 6144]⟩
abbrev S6144 : Shape := ⟨1, ![6144]⟩
abbrev S_ : Shape := ⟨0, ![]⟩
abbrev S6144x1 : Shape := ⟨2, ![6144, 1]⟩
abbrev S1x6144 : Shape := ⟨2, ![1, 6144]⟩
abbrev S256x2048 : Shape := ⟨2, ![256, 2048]⟩
abbrev S4x2048 : Shape := ⟨2, ![4, 2048]⟩
abbrev S1x2048 : Shape := ⟨2, ![1, 2048]⟩
abbrev S272x2048 : Shape := ⟨2, ![272, 2048]⟩
abbrev S16x2048 : Shape := ⟨2, ![16, 2048]⟩
abbrev S128x144 : Shape := ⟨2, ![128, 144]⟩
abbrev S144x2048 : Shape := ⟨2, ![144, 2048]⟩
abbrev S128x2048 : Shape := ⟨2, ![128, 2048]⟩

abbrev nBuf : Space → Nat
  | .hbm => 24
  | .vmem => 9
  | .smem => 0
  | _ => 0

abbrev bufTy : (tb : Table) → Fin (tcTables nBuf tb) → BufTy
  | .hbm, ⟨0, _⟩ => ⟨S32768x6144, .bf16⟩
  | .hbm, ⟨1, _⟩ => ⟨S4x6144, .f32⟩
  | .hbm, ⟨2, _⟩ => ⟨S6144, .f32⟩
  | .hbm, ⟨3, _⟩ => ⟨S6144, .i32⟩
  | .hbm, ⟨4, _⟩ => ⟨S_, .i32⟩
  | .hbm, ⟨5, _⟩ => ⟨S6144, .i32⟩
  | .hbm, ⟨6, _⟩ => ⟨S6144, .i1⟩
  | .hbm, ⟨7, _⟩ => ⟨S_, .i32⟩
  | .hbm, ⟨8, _⟩ => ⟨S6144, .i32⟩
  | .hbm, ⟨9, _⟩ => ⟨S6144, .i32⟩
  | .hbm, ⟨10, _⟩ => ⟨S6144, .i32⟩
  | .hbm, ⟨11, _⟩ => ⟨S6144x1, .i32⟩
  | .hbm, ⟨12, _⟩ => ⟨S4x6144, .f32⟩
  | .hbm, ⟨13, _⟩ => ⟨S_, .i32⟩
  | .hbm, ⟨14, _⟩ => ⟨S6144, .i32⟩
  | .hbm, ⟨15, _⟩ => ⟨S6144, .i1⟩
  | .hbm, ⟨16, _⟩ => ⟨S_, .i32⟩
  | .hbm, ⟨17, _⟩ => ⟨S6144, .i32⟩
  | .hbm, ⟨18, _⟩ => ⟨S6144, .i32⟩
  | .hbm, ⟨19, _⟩ => ⟨S6144, .i32⟩
  | .hbm, ⟨20, _⟩ => ⟨S6144x1, .i32⟩
  | .hbm, ⟨21, _⟩ => ⟨S6144, .f32⟩
  | .hbm, ⟨22, _⟩ => ⟨S1x6144, .f32⟩
  | .hbm, ⟨23, _⟩ => ⟨S32768x6144, .bf16⟩
  | .local _ .vmem, ⟨0, _⟩ => ⟨S256x2048, .bf16⟩
  | .local _ .vmem, ⟨1, _⟩ => ⟨S256x2048, .bf16⟩
  | .local _ .vmem, ⟨2, _⟩ => ⟨S4x2048, .f32⟩
  | .local _ .vmem, ⟨3, _⟩ => ⟨S4x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S272x2048, .bf16⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S32768x6144 : Shape := ⟨2, ![32768, 6144]⟩
abbrev S4x6144 : Shape := ⟨2, ![4, 6144]⟩
abbrev S6144 : Shape := ⟨1, ![6144]⟩
abbrev S4x4096 : Shape := ⟨2, ![4, 4096]⟩
abbrev S4x1024 : Shape := ⟨2, ![4, 1024]⟩
abbrev S4x8x512 : Shape := ⟨3, ![4, 8, 512]⟩
abbrev S4x8x128 : Shape := ⟨3, ![4, 8, 128]⟩
abbrev S4x8x768 : Shape := ⟨3, ![4, 8, 768]⟩
abbrev S4096 : Shape := ⟨1, ![4096]⟩
abbrev S1024 : Shape := ⟨1, ![1024]⟩
abbrev S8x512 : Shape := ⟨2, ![8, 512]⟩
abbrev S8x128 : Shape := ⟨2, ![8, 128]⟩
abbrev S8x768 : Shape := ⟨2, ![8, 768]⟩
abbrev S8x4096x6144 : Shape := ⟨3, ![8, 4096, 6144]⟩
abbrev S_ : Shape := ⟨0, ![]⟩
abbrev S8x4099x6144 : Shape := ⟨3, ![8, 4099, 6144]⟩
abbrev S1x6144 : Shape := ⟨2, ![1, 6144]⟩
abbrev S1x1x6144 : Shape := ⟨3, ![1, 1, 6144]⟩

abbrev nBuf : Space → Nat
  | .hbm => 68
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S4x6144, .f32⟩
  | .hbm, ⟨2, _⟩ => ⟨S6144, .f32⟩
  | .hbm, ⟨3, _⟩ => ⟨S4x4096, .f32⟩
  | .hbm, ⟨4, _⟩ => ⟨S4x1024, .f32⟩
  | .hbm, ⟨5, _⟩ => ⟨S4x1024, .f32⟩
  | .hbm, ⟨6, _⟩ => ⟨S4x8x512, .f32⟩
  | .hbm, ⟨7, _⟩ => ⟨S4x8x128, .f32⟩
  | .hbm, ⟨8, _⟩ => ⟨S4x8x128, .f32⟩
  | .hbm, ⟨9, _⟩ => ⟨S4x8x768, .f32⟩
  | .hbm, ⟨10, _⟩ => ⟨S4x6144, .f32⟩
  | .hbm, ⟨11, _⟩ => ⟨S4096, .f32⟩
  | .hbm, ⟨12, _⟩ => ⟨S1024, .f32⟩
  | .hbm, ⟨13, _⟩ => ⟨S1024, .f32⟩
  | .hbm, ⟨14, _⟩ => ⟨S8x512, .f32⟩
  | .hbm, ⟨15, _⟩ => ⟨S8x128, .f32⟩
  | .hbm, ⟨16, _⟩ => ⟨S8x128, .f32⟩
  | .hbm, ⟨17, _⟩ => ⟨S8x768, .f32⟩
  | .hbm, ⟨18, _⟩ => ⟨S6144, .f32⟩
  | .hbm, ⟨19, _⟩ => ⟨S32768x6144, .f32⟩
  | .hbm, ⟨20, _⟩ => ⟨S8x4096x6144, .f32⟩
  | .hbm, ⟨21, _⟩ => ⟨S_, .i32⟩
  | .hbm, ⟨22, _⟩ => ⟨S_, .f32⟩
  | .hbm, ⟨23, _⟩ => ⟨S8x4099x6144, .f32⟩
  | .hbm, ⟨24, _⟩ => ⟨S1x6144, .f32⟩
  | .hbm, ⟨25, _⟩ => ⟨S6144, .f32⟩
  | .hbm, ⟨26, _⟩ => ⟨S8x4096x6144, .f32⟩
  | .hbm, ⟨27, _⟩ => ⟨S1x1x6144, .f32⟩
  | .hbm, ⟨28, _⟩ => ⟨S8x4096x6144, .f32⟩
  | .hbm, ⟨29, _⟩ => ⟨S8x4096x6144, .f32⟩
  | .hbm, ⟨30, _⟩ => ⟨S_, .f32⟩
  | .hbm, ⟨31, _⟩ => ⟨S8x4096x6144, .f32⟩
  | .hbm, ⟨32, _⟩ => ⟨S8x4096x6144, .f32⟩
  | .hbm, ⟨33, _⟩ => ⟨S1x6144, .f32⟩
  | .hbm, ⟨34, _⟩ => ⟨S6144, .f32⟩
  | .hbm, ⟨35, _⟩ => ⟨S8x4096x6144, .f32⟩
  | .hbm, ⟨36, _⟩ => ⟨S1x1x6144, .f32⟩
  | .hbm, ⟨37, _⟩ => ⟨S8x4096x6144, .f32⟩
  | .hbm, ⟨38, _⟩ => ⟨S8x4096x6144, .f32⟩
  | .hbm, ⟨39, _⟩ => ⟨S8x4096x6144, .f32⟩
  | .hbm, ⟨40, _⟩ => ⟨S1x6144, .f32⟩
  | .hbm, ⟨41, _⟩ => ⟨S6144, .f32⟩
  | .hbm, ⟨42, _⟩ => ⟨S8x4096x6144, .f32⟩
  | .hbm, ⟨43, _⟩ => ⟨S1x1x6144, .f32⟩
  | .hbm, ⟨44, _⟩ => ⟨S8x4096x6144, .f32⟩
  | .hbm, ⟨45, _⟩ => ⟨S8x4096x6144, .f32⟩
  | .hbm, ⟨46, _⟩ => ⟨S8x4096x6144, .f32⟩
  | .hbm, ⟨47, _⟩ => ⟨S1x6144, .f32⟩
  | .hbm, ⟨48, _⟩ => ⟨S6144, .f32⟩
  | .hbm, ⟨49, _⟩ => ⟨S8x4096x6144, .f32⟩
  | .hbm, ⟨50, _⟩ => ⟨S1x1x6144, .f32⟩
  | .hbm, ⟨51, _⟩ => ⟨S8x4096x6144, .f32⟩
  | .hbm, ⟨52, _⟩ => ⟨S8x4096x6144, .f32⟩
  | .hbm, ⟨53, _⟩ => ⟨S8x4096x6144, .f32⟩
  | .hbm, ⟨54, _⟩ => ⟨S1x1x6144, .f32⟩
  | .hbm, ⟨55, _⟩ => ⟨S8x4096x6144, .f32⟩
  | .hbm, ⟨56, _⟩ => ⟨S8x4096x6144, .f32⟩
  | .hbm, ⟨57, _⟩ => ⟨S8x4096x6144, .f32⟩
  | .hbm, ⟨58, _⟩ => ⟨S8x4096x6144, .f32⟩
  | .hbm, ⟨59, _⟩ => ⟨S_, .f32⟩
  | .hbm, ⟨60, _⟩ => ⟨S8x4096x6144, .f32⟩
  | .hbm, ⟨61, _⟩ => ⟨S8x4096x6144, .f32⟩
  | .hbm, ⟨62, _⟩ => ⟨S_, .f32⟩
  | .hbm, ⟨63, _⟩ => ⟨S8x4096x6144, .f32⟩
  | .hbm, ⟨64, _⟩ => ⟨S8x4096x6144, .f32⟩
  | .hbm, ⟨65, _⟩ => ⟨S8x4096x6144, .f32⟩
  | .hbm, ⟨66, _⟩ => ⟨S32768x6144, .f32⟩
  | .hbm, ⟨67, _⟩ => ⟨S32768x6144, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel10.lean ====
abbrev S32768x2048 : Shape := ⟨2, ![32768, 2048]⟩
abbrev S16x262144x128 : Shape := ⟨3, ![16, 262144, 128]⟩
abbrev S16384x2048 : Shape := ⟨2, ![16384, 2048]⟩
abbrev S32x512x2048 : Shape := ⟨3, ![32, 512, 2048]⟩
abbrev S32x2048x512 : Shape := ⟨3, ![32, 2048, 512]⟩
abbrev S1024x2048 : Shape := ⟨2, ![1024, 2048]⟩
abbrev S1x2048x512 : Shape := ⟨3, ![1, 2048, 512]⟩
abbrev S512x2048 : Shape := ⟨2, ![512, 2048]⟩
abbrev S1x8192x128 : Shape := ⟨3, ![1, 8192, 128]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S1024x1024 : Shape := ⟨2, ![1024, 1024]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S16x262144x128, .f32⟩
  | .hbm, ⟨2, _⟩ => ⟨S16384x2048, .f32⟩
  | .hbm, ⟨3, _⟩ => ⟨S16384x2048, .f32⟩
  | .hbm, ⟨4, _⟩ => ⟨S16384x2048, .bf16⟩
  | .hbm, ⟨5, _⟩ => ⟨S16384x2048, .bf16⟩
  | .hbm, ⟨6, _⟩ => ⟨S32x512x2048, .bf16⟩
  | .hbm, ⟨7, _⟩ => ⟨S32x2048x512, .bf16⟩
  | .hbm, ⟨8, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x8192x128, .f32⟩
  | .local _ .vmem, ⟨7, _⟩ => ⟨S1x8192x128, .f32⟩
  | .local _ .vmem, ⟨8, _⟩ => ⟨S1024x2048, .f32⟩
  | .local _ .vmem, ⟨9, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v3 : BitVec 32 := Scalar.remsi arg1 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg1 : BitVec 32 := BitVec.ofNat 32 (i 1).val
  let c2_i32_3 : BitVec 32 := 2#32
  let v7 : BitVec 32 := Scalar.remsi arg1 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg0.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel10Ideal.lean ====
variable {F : FTy → Type} [FloatOps F] [Named F]
def κ : String → Option EReal := fun
  | "rsqrt2" => some (((Real.sqrt 2)⁻¹ : ℝ) : EReal)
  | _ => none
-- ==== Reference10Ideal.lean ====
abbrev S32768x2048 : Shape := ⟨2, ![32768, 2048]⟩
abbrev S16x262144x128 : Shape := ⟨3, ![16, 262144, 128]⟩
abbrev S16384x2048 : Shape := ⟨2, ![16384, 2048]⟩
abbrev S16x32768x8x128 : Shape := ⟨4, ![16, 32768, 8, 128]⟩
abbrev S32768x16x8x128 : Shape := ⟨4, ![32768, 16, 8, 128]⟩
abbrev S32768x16384 : Shape := ⟨2, ![32768, 16384]⟩
abbrev S2048x16384 : Shape := ⟨2, ![2048, 16384]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S16x262144x128, .f32⟩
  | .hbm, ⟨2, _⟩ => ⟨S16384x2048, .f32⟩
  | .hbm, ⟨3, _⟩ => ⟨S16384x2048, .f32⟩
  | .hbm, ⟨4, _⟩ => ⟨S16x32768x8x128, .f32⟩
  | .hbm, ⟨5, _⟩ => ⟨S32768x16x8x128, .f32⟩
  | .hbm, ⟨6, _⟩ => ⟨S32768x16384, .f32⟩
  | .hbm, ⟨7, _⟩ => ⟨S32768x2048, .f32⟩
  | .hbm, ⟨8, _⟩ => ⟨S2048x16384, .f32⟩
  | .hbm, ⟨9, _⟩ => ⟨S32768x16384, .f32⟩
  | .hbm, ⟨10, _⟩ => ⟨S_, .f32⟩
  | .hbm, ⟨11, _⟩ => ⟨S32768x16384, .f32⟩
  | .hbm, ⟨12, _⟩ => ⟨S32768x16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32768x16384, .f32⟩
  | .hbm, ⟨18, _⟩ => ⟨S32768x16384, .f32⟩
  | .hbm, ⟨19, _⟩ => ⟨S32768x16384, .f32⟩
  | .hbm, ⟨20, _⟩ => ⟨S_, .f32⟩
  | .hbm, ⟨21, _⟩ => ⟨S32768x16384, .f32⟩
  | .hbm, ⟨22, _⟩ => ⟨S32768x16384, .f32⟩
  | .hbm, ⟨23, _⟩ => ⟨S32768x16384, .f32⟩
  | .hbm, ⟨24, _⟩ => ⟨S32768x16384, .f32⟩
  | .hbm, ⟨25, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel11.lean ====
abbrev S128x32768 : Shape := ⟨2, ![128, 32768]⟩
abbrev S16x262144x128 : Shape := ⟨3, ![16, 262144, 128]⟩
abbrev S128x128 : Shape := ⟨2, ![128, 128]⟩
abbrev S16x1024x128 : Shape := ⟨3, ![16, 1024, 128]⟩
abbrev S1x128 : Shape := ⟨2, ![1, 128]⟩
abbrev S16x8x128 : Shape := ⟨3, ![16, 8, 128]⟩

abbrev nBuf : Space → Nat
  | .hbm => 4
  | .vmem => 11
  | .smem => 0
  | _ => 0

abbrev bufTy : (tb : Table) → Fin (tcTables nBuf tb) → BufTy
  | .hbm, ⟨0, _⟩ => ⟨S128x32768, .i32⟩
  | .hbm, ⟨1, _⟩ => ⟨S128x32768, .i32⟩
  | .hbm, ⟨2, _⟩ => ⟨S128x32768, .f32⟩
  | .hbm, ⟨3, _⟩ => ⟨S16x262144x128, .f32⟩
  | .local _ .vmem, ⟨0, _⟩ => ⟨S128x128, .i32⟩
  | .local _ .vmem, ⟨1, _⟩ => ⟨S128x128, .i32⟩
  | .local _ .vmem, ⟨2, _⟩ => ⟨S128x128, .i32⟩
  | .local _ .vmem, ⟨3, _⟩ => ⟨S128x128, .i32⟩
  | .local _ .vmem, ⟨4, _⟩ => ⟨S128x128, .f32⟩
  | .local _ .vmem, ⟨5, _⟩ => ⟨S128x128, .f32⟩
  | .local _ .vmem, ⟨6, _⟩ => ⟨S16x1024x128, .f32⟩
  | .local _ .vmem, ⟨7, _⟩ => ⟨S16x1024x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | _, _ => ⟨S128x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def k0_mult1 : BitVec 32 :=
  let c0_i32 : BitVec 32 := 0#32
  let c8_i32 : BitVec 32 := 8#32
  let v40 : BitVec 32 := Scalar.muli c0_i32 c8_i32
  v40
def k0_off1 (c0_i32 : BitVec 32) : Fin 3 → Nat :=
  let c0_17 : Index := 0#32
  let c8_i32 : BitVec 32 := 8#32
  let v40 : BitVec 32 := Scalar.muli c0_i32 c8_i32
  let v41 : BitVec 32 := v40
  let v42 : Index := Scalar.indexCast v41
  let c0_18 : Index := 0#32
  ![0, v42.toNat, 0]
def k0_mult2 : BitVec 32 :=
  let c1_i32 : BitVec 32 := 1#32
  let c8_i32_26 : BitVec 32 := 8#32
  let v65 : BitVec 32 := Scalar.muli c1_i32 c8_i32_26
  v65
def k0_mult3 : BitVec 32 :=
  let c2_i32 : BitVec 32 := 2#32
  let c8_i32_36 : BitVec 32 := 8#32
  let v90 : BitVec 32 := Scalar.muli c2_i32 c8_i32_36
  v90
def k0_mult4 : BitVec 32 :=
  let c3_i32 : BitVec 32 := 3#32
  let c8_i32_46 : BitVec 32 := 8#32
  let v115 : BitVec 32 := Scalar.muli c3_i32 c8_i32_46
  v115
def k0_mult5 : BitVec 32 :=
  let c4_i32 : BitVec 32 := 4#32
  let c8_i32_56 : BitVec 32 := 8#32
  let v140 : BitVec 32 := Scalar.muli c4_i32 c8_i32_56
  v140
def k0_mult6 : BitVec 32 :=
  let c5_i32 : BitVec 32 := 5#32
  let c8_i32_66 : BitVec 32 := 8#32
  let v165 : BitVec 32 := Scalar.muli c5_i32 c8_i32_66
  v165
def k0_mult7 : BitVec 32 :=
  let c6_i32 : BitVec 32 := 6#32
  let c8_i32_76 : BitVec 32 := 8#32
  let v190 : BitVec 32 := Scalar.muli c6_i32 c8_i32_76
  v190
def k0_mult8 : BitVec 32 :=
  let c7_i32 : BitVec 32 := 7#32
  let c8_i32_86 : BitVec 32 := 8#32
  let v215 : BitVec 32 := Scalar.muli c7_i32 c8_i32_86
  v215
def k0_mult9 : BitVec 32 :=
  let c8_i32_89 : BitVec 32 := 8#32
  let c8_i32_97 : BitVec 32 := 8#32
  let v240 : BitVec 32 := Scalar.muli c8_i32_89 c8_i32_97
  v240
def k0_mult10 : BitVec 32 :=
  let c9_i32 : BitVec 32 := 9#32
  let c8_i32_107 : BitVec 32 := 8#32
  let v265 : BitVec 32 := Scalar.muli c9_i32 c8_i32_107
  v265
def k0_mult11 : BitVec 32 :=
  let c10_i32 : BitVec 32 := 10#32
  let c8_i32_117 : BitVec 32 := 8#32
  let v290 : BitVec 32 := Scalar.muli c10_i32 c8_i32_117
  v290
def k0_mult12 : BitVec 32 :=
  let c11_i32 : BitVec 32 := 11#32
  let c8_i32_127 : BitVec 32 := 8#32
  let v315 : BitVec 32 := Scalar.muli c11_i32 c8_i32_127
  v315
def k0_mult13 : BitVec 32 :=
  let c12_i32 : BitVec 32 := 12#32
  let c8_i32_137 : BitVec 32 := 8#32
  let v340 : BitVec 32 := Scalar.muli c12_i32 c8_i32_137
  v340
def k0_mult14 : BitVec 32 :=
  let c13_i32 : BitVec 32 := 13#32
  let c8_i32_147 : BitVec 32 := 8#32
  let v365 : BitVec 32 := Scalar.muli c13_i32 c8_i32_147
  v365
def k0_mult15 : BitVec 32 :=
  let c14_i32 : BitVec 32 := 14#32
  let c8_i32_157 : BitVec 32 := 8#32
  let v390 : BitVec 32 := Scalar.muli c14_i32 c8_i32_157
  v390
def k0_mult16 : BitVec 32 :=
  let c15_i32 : BitVec 32 := 15#32
  let c8_i32_167 : BitVec 32 := 8#32
  let v415 : BitVec 32 := Scalar.muli c15_i32 c8_i32_167
  v415
def k0_mult17 : BitVec 32 :=
  let c16_i32 : BitVec 32 := 16#32
  let c8_i32_177 : BitVec 32 := 8#32
  let v440 : BitVec 32 := Scalar.muli c16_i32 c8_i32_177
  v440
def k0_mult18 : BitVec 32 :=
  let c17_i32 : BitVec 32 := 17#32
  let c8_i32_187 : BitVec 32 := 8#32
  let v465 : BitVec 32 := Scalar.muli c17_i32 c8_i32_187
  v465
def k0_mult19 : BitVec 32 :=
  let c18_i32 : BitVec 32 := 18#32
  let c8_i32_197 : BitVec 32 := 8#32
  let v490 : BitVec 32 := Scalar.muli c18_i32 c8_i32_197
  v490
def k0_mult20 : BitVec 32 :=
  let c19_i32 : BitVec 32 := 19#32
  let c8_i32_207 : BitVec 32 := 8#32
  let v515 : BitVec 32 := Scalar.muli c19_i32 c8_i32_207
  v515
def k0_mult21 : BitVec 32 :=
  let c20_i32 : BitVec 32 := 20#32
  let c8_i32_217 : BitVec 32 := 8#32
  let v540 : BitVec 32 := Scalar.muli c20_i32 c8_i32_217
  v540
def k0_mult22 : BitVec 32 :=
  let c21_i32 : BitVec 32 := 21#32
  let c8_i32_227 : BitVec 32 := 8#32
  let v565 : BitVec 32 := Scalar.muli c21_i32 c8_i32_227
  v565
def k0_mult23 : BitVec 32 :=
  let c22_i32 : BitVec 32 := 22#32
  let c8_i32_237 : BitVec 32 := 8#32
  let v590 : BitVec 32 := Scalar.muli c22_i32 c8_i32_237
  v590
def k0_mult24 : BitVec 32 :=
  let c23_i32 : BitVec 32 := 23#32
  let c8_i32_247 : BitVec 32 := 8#32
  let v615 : BitVec 32 := Scalar.muli c23_i32 c8_i32_247
  v615
def k0_mult25 : BitVec 32 :=
  let c24_i32 : BitVec 32 := 24#32
  let c8_i32_257 : BitVec 32 := 8#32
  let v640 : BitVec 32 := Scalar.muli c24_i32 c8_i32_257
  v640
def k0_mult26 : BitVec 32 :=
  let c25_i32 : BitVec 32 := 25#32
  let c8_i32_267 : BitVec 32 := 8#32
  let v665 : BitVec 32 := Scalar.muli c25_i32 c8_i32_267
  v665
def k0_mult27 : BitVec 32 :=
  let c26_i32 : BitVec 32 := 26#32
  let c8_i32_277 : BitVec 32 := 8#32
  let v690 : BitVec 32 := Scalar.muli c26_i32 c8_i32_277
  v690
def k0_mult28 : BitVec 32 :=
  let c27_i32 : BitVec 32 := 27#32
  let c8_i32_287 : BitVec 32 := 8#32
  let v715 : BitVec 32 := Scalar.muli c27_i32 c8_i32_287
  v715
def k0_mult29 : BitVec 32 :=
  let c28_i32 : BitVec 32 := 28#32
  let c8_i32_297 : BitVec 32 := 8#32
  let v740 : BitVec 32 := Scalar.muli c28_i32 c8_i32_297
  v740
def k0_mult30 : BitVec 32 :=
  let c29_i32 : BitVec 32 := 29#32
  let c8_i32_307 : BitVec 32 := 8#32
  let v765 : BitVec 32 := Scalar.muli c29_i32 c8_i32_307
  v765
def k0_mult31 : BitVec 32 :=
  let c30_i32 : BitVec 32 := 30#32
  let c8_i32_317 : BitVec 32 := 8#32
  let v790 : BitVec 32 := Scalar.muli c30_i32 c8_i32_317
  v790
def k0_mult32 : BitVec 32 :=
  let c31_i32 : BitVec 32 := 31#32
  let c8_i32_327 : BitVec 32 := 8#32
  let v815 : BitVec 32 := Scalar.muli c31_i32 c8_i32_327
  v815
def k0_mult33 : BitVec 32 :=
  let c32_i32 : BitVec 32 := 32#32
  let c8_i32_337 : BitVec 32 := 8#32
  let v840 : BitVec 32 := Scalar.muli c32_i32 c8_i32_337
  v840
def k0_mult34 : BitVec 32 :=
  let c33_i32 : BitVec 32 := 33#32
  let c8_i32_347 : BitVec 32 := 8#32
  let v865 : BitVec 32 := Scalar.muli c33_i32 c8_i32_347
  v865
def k0_mult35 : BitVec 32 :=
  let c34_i32 : BitVec 32 := 34#32
  let c8_i32_357 : BitVec 32 := 8#32
  let v890 : BitVec 32 := Scalar.muli c34_i32 c8_i32_357
  v890
def k0_mult36 : BitVec 32 :=
  let c35_i32 : BitVec 32 := 35#32
  let c8_i32_367 : BitVec 32 := 8#32
  let v915 : BitVec 32 := Scalar.muli c35_i32 c8_i32_367
  v915
def k0_mult37 : BitVec 32 :=
  let c36_i32 : BitVec 32 := 36#32
  let c8_i32_377 : BitVec 32 := 8#32
  let v940 : BitVec 32 := Scalar.muli c36_i32 c8_i32_377
  v940
def k0_mult38 : BitVec 32 :=
  let c37_i32 : BitVec 32 := 37#32
  let c8_i32_387 : BitVec 32 := 8#32
  let v965 : BitVec 32 := Scalar.muli c37_i32 c8_i32_387
  v965
def k0_mult39 : BitVec 32 :=
  let c38_i32 : BitVec 32 := 38#32
  let c8_i32_397 : BitVec 32 := 8#32
  let v990 : BitVec 32 := Scalar.muli c38_i32 c8_i32_397
  v990
def k0_mult40 : BitVec 32 :=
  let c39_i32 : BitVec 32 := 39#32
  let c8_i32_407 : BitVec 32 := 8#32
  let v1015 : BitVec 32 := Scalar.muli c39_i32 c8_i32_407
  v1015
def k0_mult41 : BitVec 32 :=
  let c40_i32 : BitVec 32 := 40#32
  let c8_i32_417 : BitVec 32 := 8#32
  let v1040 : BitVec 32 := Scalar.muli c40_i32 c8_i32_417
  v1040
def k0_mult42 : BitVec 32 :=
  let c41_i32 : BitVec 32 := 41#32
  let c8_i32_427 : BitVec 32 := 8#32
  let v1065 : BitVec 32 := Scalar.muli c41_i32 c8_i32_427
  v1065
def k0_mult43 : BitVec 32 :=
  let c42_i32 : BitVec 32 := 42#32
  let c8_i32_437 : BitVec 32 := 8#32
  let v1090 : BitVec 32 := Scalar.muli c42_i32 c8_i32_437
  v1090
def k0_mult44 : BitVec 32 :=
  let c43_i32 : BitVec 32 := 43#32
  let c8_i32_447 : BitVec 32 := 8#32
  let v1115 : BitVec 32 := Scalar.muli c43_i32 c8_i32_447
  v1115
def k0_mult45 : BitVec 32 :=
  let c44_i32 : BitVec 32 := 44#32
  let c8_i32_457 : BitVec 32 := 8#32
  let v1140 : BitVec 32 := Scalar.muli c44_i32 c8_i32_457
  v1140
def k0_mult46 : BitVec 32 :=
  let c45_i32 : BitVec 32 := 45#32
  let c8_i32_467 : BitVec 32 := 8#32
  let v1165 : BitVec 32 := Scalar.muli c45_i32 c8_i32_467
  v1165
def k0_mult47 : BitVec 32 :=
  let c46_i32 : BitVec 32 := 46#32
  let c8_i32_477 : BitVec 32 := 8#32
  let v1190 : BitVec 32 := Scalar.muli c46_i32 c8_i32_477
  v1190
def k0_mult48 : BitVec 32 :=
  let c47_i32 : BitVec 32 := 47#32
  let c8_i32_487 : BitVec 32 := 8#32
  let v1215 : BitVec 32 := Scalar.muli c47_i32 c8_i32_487
  v1215
def k0_mult49 : BitVec 32 :=
  let c48_i32 : BitVec 32 := 48#32
  let c8_i32_497 : BitVec 32 := 8#32
  let v1240 : BitVec 32 := Scalar.muli c48_i32 c8_i32_497
  v1240
def k0_mult50 : BitVec 32 :=
  let c49_i32 : BitVec 32 := 49#32
  let c8_i32_507 : BitVec 32 := 8#32
  let v1265 : BitVec 32 := Scalar.muli c49_i32 c8_i32_507
  v1265
def k0_mult51 : BitVec 32 :=
  let c50_i32 : BitVec 32 := 50#32
  let c8_i32_517 : BitVec 32 := 8#32
  let v1290 : BitVec 32 := Scalar.muli c50_i32 c8_i32_517
  v1290
def k0_mult52 : BitVec 32 :=
  let c51_i32 : BitVec 32 := 51#32
  let c8_i32_527 : BitVec 32 := 8#32
  let v1315 : BitVec 32 := Scalar.muli c51_i32 c8_i32_527
  v1315
def k0_mult53 : BitVec 32 :=
  let c52_i32 : BitVec 32 := 52#32
  let c8_i32_537 : BitVec 32 := 8#32
  let v1340 : BitVec 32 := Scalar.muli c52_i32 c8_i32_537
  v1340
def k0_mult54 : BitVec 32 :=
  let c53_i32 : BitVec 32 := 53#32
  let c8_i32_547 : BitVec 32 := 8#32
  let v1365 : BitVec 32 := Scalar.muli c53_i32 c8_i32_547
  v1365
def k0_mult55 : BitVec 32 :=
  let c54_i32 : BitVec 32 := 54#32
  let c8_i32_557 : BitVec 32 := 8#32
  let v1390 : BitVec 32 := Scalar.muli c54_i32 c8_i32_557
  v1390
def k0_mult56 : BitVec 32 :=
  let c55_i32 : BitVec 32 := 55#32
  let c8_i32_567 : BitVec 32 := 8#32
  let v1415 : BitVec 32 := Scalar.muli c55_i32 c8_i32_567
  v1415
def k0_mult57 : BitVec 32 :=
  let c56_i32 : BitVec 32 := 56#32
  let c8_i32_577 : BitVec 32 := 8#32
  let v1440 : BitVec 32 := Scalar.muli c56_i32 c8_i32_577
  v1440
def k0_mult58 : BitVec 32 :=
  let c57_i32 : BitVec 32 := 57#32
  let c8_i32_587 : BitVec 32 := 8#32
  let v1465 : BitVec 32 := Scalar.muli c57_i32 c8_i32_587
  v1465
def k0_mult59 : BitVec 32 :=
  let c58_i32 : BitVec 32 := 58#32
  let c8_i32_597 : BitVec 32 := 8#32
  let v1490 : BitVec 32 := Scalar.muli c58_i32 c8_i32_597
  v1490
def k0_mult60 : BitVec 32 :=
  let c59_i32 : BitVec 32 := 59#32
  let c8_i32_607 : BitVec 32 := 8#32
  let v1515 : BitVec 32 := Scalar.muli c59_i32 c8_i32_607
  v1515
def k0_mult61 : BitVec 32 :=
  let c60_i32 : BitVec 32 := 60#32
  let c8_i32_617 : BitVec 32 := 8#32
  let v1540 : BitVec 32 := Scalar.muli c60_i32 c8_i32_617
  v1540
def k0_mult62 : BitVec 32 :=
  let c61_i32 : BitVec 32 := 61#32
  let c8_i32_627 : BitVec 32 := 8#32
  let v1565 : BitVec 32 := Scalar.muli c61_i32 c8_i32_627
  v1565
def k0_mult63 : BitVec 32 :=
  let c62_i32 : BitVec 32 := 62#32
  let c8_i32_637 : BitVec 32 := 8#32
  let v1590 : BitVec 32 := Scalar.muli c62_i32 c8_i32_637
  v1590
def k0_mult64 : BitVec 32 :=
  let c63_i32 : BitVec 32 := 63#32
  let c8_i32_647 : BitVec 32 := 8#32
  let v1615 : BitVec 32 := Scalar.muli c63_i32 c8_i32_647
  v1615
def k0_mult65 : BitVec 32 :=
  let c64_i32 : BitVec 32 := 64#32
  let c8_i32_657 : BitVec 32 := 8#32
  let v1640 : BitVec 32 := Scalar.muli c64_i32 c8_i32_657
  v1640
def k0_mult66 : BitVec 32 :=
  let c65_i32 : BitVec 32 := 65#32
  let c8_i32_667 : BitVec 32 := 8#32
  let v1665 : BitVec 32 := Scalar.muli c65_i32 c8_i32_667
  v1665
def k0_mult67 : BitVec 32 :=
  let c66_i32 : BitVec 32 := 66#32
  let c8_i32_677 : BitVec 32 := 8#32
  let v1690 : BitVec 32 := Scalar.muli c66_i32 c8_i32_677
  v1690
def k0_mult68 : BitVec 32 :=
  let c67_i32 : BitVec 32 := 67#32
  let c8_i32_687 : BitVec 32 := 8#32
  let v1715 : BitVec 32 := Scalar.muli c67_i32 c8_i32_687
  v1715
def k0_mult69 : BitVec 32 :=
  let c68_i32 : BitVec 32 := 68#32
  let c8_i32_697 : BitVec 32 := 8#32
  let v1740 : BitVec 32 := Scalar.muli c68_i32 c8_i32_697
  v1740
def k0_mult70 : BitVec 32 :=
  let c69_i32 : BitVec 32 := 69#32
  let c8_i32_707 : BitVec 32 := 8#32
  let v1765 : BitVec 32 := Scalar.muli c69_i32 c8_i32_707
  v1765
def k0_mult71 : BitVec 32 :=
  let c70_i32 : BitVec 32 := 70#32
  let c8_i32_717 : BitVec 32 := 8#32
  let v1790 : BitVec 32 := Scalar.muli c70_i32 c8_i32_717
  v1790
def k0_mult72 : BitVec 32 :=
  let c71_i32 : BitVec 32 := 71#32
  let c8_i32_727 : BitVec 32 := 8#32
  let v1815 : BitVec 32 := Scalar.muli c71_i32 c8_i32_727
  v1815
def k0_mult73 : BitVec 32 :=
  let c72_i32 : BitVec 32 := 72#32
  let c8_i32_737 : BitVec 32 := 8#32
  let v1840 : BitVec 32 := Scalar.muli c72_i32 c8_i32_737
  v1840
def k0_mult74 : BitVec 32 :=
  let c73_i32 : BitVec 32 := 73#32
  let c8_i32_747 : BitVec 32 := 8#32
  let v1865 : BitVec 32 := Scalar.muli c73_i32 c8_i32_747
  v1865
def k0_mult75 : BitVec 32 :=
  let c74_i32 : BitVec 32 := 74#32
  let c8_i32_757 : BitVec 32 := 8#32
  let v1890 : BitVec 32 := Scalar.muli c74_i32 c8_i32_757
  v1890
def k0_mult76 : BitVec 32 :=
  let c75_i32 : BitVec 32 := 75#32
  let c8_i32_767 : BitVec 32 := 8#32
  let v1915 : BitVec 32 := Scalar.muli c75_i32 c8_i32_767
  v1915
def k0_mult77 : BitVec 32 :=
  let c76_i32 : BitVec 32 := 76#32
  let c8_i32_777 : BitVec 32 := 8#32
  let v1940 : BitVec 32 := Scalar.muli c76_i32 c8_i32_777
  v1940
def k0_mult78 : BitVec 32 :=
  let c77_i32 : BitVec 32 := 77#32
  let c8_i32_787 : BitVec 32 := 8#32
  let v1965 : BitVec 32 := Scalar.muli c77_i32 c8_i32_787
  v1965
def k0_mult79 : BitVec 32 :=
  let c78_i32 : BitVec 32 := 78#32
  let c8_i32_797 : BitVec 32 := 8#32
  let v1990 : BitVec 32 := Scalar.muli c78_i32 c8_i32_797
  v1990
def k0_mult80 : BitVec 32 :=
  let c79_i32 : BitVec 32 := 79#32
  let c8_i32_807 : BitVec 32 := 8#32
  let v2015 : BitVec 32 := Scalar.muli c79_i32 c8_i32_807
  v2015
def k0_mult81 : BitVec 32 :=
  let c80_i32 : BitVec 32 := 80#32
  let c8_i32_817 : BitVec 32 := 8#32
  let v2040 : BitVec 32 := Scalar.muli c80_i32 c8_i32_817
  v2040
def k0_mult82 : BitVec 32 :=
  let c81_i32 : BitVec 32 := 81#32
  let c8_i32_827 : BitVec 32 := 8#32
  let v2065 : BitVec 32 := Scalar.muli c81_i32 c8_i32_827
  v2065
def k0_mult83 : BitVec 32 :=
  let c82_i32 : BitVec 32 := 82#32
  let c8_i32_837 : BitVec 32 := 8#32
  let v2090 : BitVec 32 := Scalar.muli c82_i32 c8_i32_837
  v2090
def k0_mult84 : BitVec 32 :=
  let c83_i32 : BitVec 32 := 83#32
  let c8_i32_847 : BitVec 32 := 8#32
  let v2115 : BitVec 32 := Scalar.muli c83_i32 c8_i32_847
  v2115
def k0_mult85 : BitVec 32 :=
  let c84_i32 : BitVec 32 := 84#32
  let c8_i32_857 : BitVec 32 := 8#32
  let v2140 : BitVec 32 := Scalar.muli c84_i32 c8_i32_857
  v2140
def k0_mult86 : BitVec 32 :=
  let c85_i32 : BitVec 32 := 85#32
  let c8_i32_867 : BitVec 32 := 8#32
  let v2165 : BitVec 32 := Scalar.muli c85_i32 c8_i32_867
  v2165
def k0_mult87 : BitVec 32 :=
  let c86_i32 : BitVec 32 := 86#32
  let c8_i32_877 : BitVec 32 := 8#32
  let v2190 : BitVec 32 := Scalar.muli c86_i32 c8_i32_877
  v2190
def k0_mult88 : BitVec 32 :=
  let c87_i32 : BitVec 32 := 87#32
  let c8_i32_887 : BitVec 32 := 8#32
  let v2215 : BitVec 32 := Scalar.muli c87_i32 c8_i32_887
  v2215
def k0_mult89 : BitVec 32 :=
  let c88_i32 : BitVec 32 := 88#32
  let c8_i32_897 : BitVec 32 := 8#32
  let v2240 : BitVec 32 := Scalar.muli c88_i32 c8_i32_897
  v2240
def k0_mult90 : BitVec 32 :=
  let c89_i32 : BitVec 32 := 89#32
  let c8_i32_907 : BitVec 32 := 8#32
  let v2265 : BitVec 32 := Scalar.muli c89_i32 c8_i32_907
  v2265
def k0_mult91 : BitVec 32 :=
  let c90_i32 : BitVec 32 := 90#32
  let c8_i32_917 : BitVec 32 := 8#32
  let v2290 : BitVec 32 := Scalar.muli c90_i32 c8_i32_917
  v2290
def k0_mult92 : BitVec 32 :=
  let c91_i32 : BitVec 32 := 91#32
  let c8_i32_927 : BitVec 32 := 8#32
  let v2315 : BitVec 32 := Scalar.muli c91_i32 c8_i32_927
  v2315
def k0_mult93 : BitVec 32 :=
  let c92_i32 : BitVec 32 := 92#32
  let c8_i32_937 : BitVec 32 := 8#32
  let v2340 : BitVec 32 := Scalar.muli c92_i32 c8_i32_937
  v2340
def k0_mult94 : BitVec 32 :=
  let c93_i32 : BitVec 32 := 93#32
  let c8_i32_947 : BitVec 32 := 8#32
  let v2365 : BitVec 32 := Scalar.muli c93_i32 c8_i32_947
  v2365
def k0_mult95 : BitVec 32 :=
  let c94_i32 : BitVec 32 := 94#32
  let c8_i32_957 : BitVec 32 := 8#32
  let v2390 : BitVec 32 := Scalar.muli c94_i32 c8_i32_957
  v2390
def k0_mult96 : BitVec 32 :=
  let c95_i32 : BitVec 32 := 95#32
  let c8_i32_967 : BitVec 32 := 8#32
  let v2415 : BitVec 32 := Scalar.muli c95_i32 c8_i32_967
  v2415
def k0_mult97 : BitVec 32 :=
  let c96_i32 : BitVec 32 := 96#32
  let c8_i32_977 : BitVec 32 := 8#32
  let v2440 : BitVec 32 := Scalar.muli c96_i32 c8_i32_977
  v2440
def k0_mult98 : BitVec 32 :=
  let c97_i32 : BitVec 32 := 97#32
  let c8_i32_987 : BitVec 32 := 8#32
  let v2465 : BitVec 32 := Scalar.muli c97_i32 c8_i32_987
  v2465
def k0_mult99 : BitVec 32 :=
  let c98_i32 : BitVec 32 := 98#32
  let c8_i32_997 : BitVec 32 := 8#32
  let v2490 : BitVec 32 := Scalar.muli c98_i32 c8_i32_997
  v2490
def k0_mult100 : BitVec 32 :=
  let c99_i32 : BitVec 32 := 99#32
  let c8_i32_1007 : BitVec 32 := 8#32
  let v2515 : BitVec 32 := Scalar.muli c99_i32 c8_i32_1007
  v2515
def k0_mult101 : BitVec 32 :=
  let c100_i32 : BitVec 32 := 100#32
  let c8_i32_1017 : BitVec 32 := 8#32
  let v2540 : BitVec 32 := Scalar.muli c100_i32 c8_i32_1017
  v2540
def k0_mult102 : BitVec 32 :=
  let c101_i32 : BitVec 32 := 101#32
  let c8_i32_1027 : BitVec 32 := 8#32
  let v2565 : BitVec 32 := Scalar.muli c101_i32 c8_i32_1027
  v2565
def k0_mult103 : BitVec 32 :=
  let c102_i32 : BitVec 32 := 102#32
  let c8_i32_1037 : BitVec 32 := 8#32
  let v2590 : BitVec 32 := Scalar.muli c102_i32 c8_i32_1037
  v2590
def k0_mult104 : BitVec 32 :=
  let c103_i32 : BitVec 32 := 103#32
  let c8_i32_1047 : BitVec 32 := 8#32
  let v2615 : BitVec 32 := Scalar.muli c103_i32 c8_i32_1047
  v2615
def k0_mult105 : BitVec 32 :=
  let c104_i32 : BitVec 32 := 104#32
  let c8_i32_1057 : BitVec 32 := 8#32
  let v2640 : BitVec 32 := Scalar.muli c104_i32 c8_i32_1057
  v2640
def k0_mult106 : BitVec 32 :=
  let c105_i32 : BitVec 32 := 105#32
  let c8_i32_1067 : BitVec 32 := 8#32
  let v2665 : BitVec 32 := Scalar.muli c105_i32 c8_i32_1067
  v2665
def k0_mult107 : BitVec 32 :=
  let c106_i32 : BitVec 32 := 106#32
  let c8_i32_1077 : BitVec 32 := 8#32
  let v2690 : BitVec 32 := Scalar.muli c106_i32 c8_i32_1077
  v2690
def k0_mult108 : BitVec 32 :=
  let c107_i32 : BitVec 32 := 107#32
  let c8_i32_1087 : BitVec 32 := 8#32
  let v2715 : BitVec 32 := Scalar.muli c107_i32 c8_i32_1087
  v2715
def k0_mult109 : BitVec 32 :=
  let c108_i32 : BitVec 32 := 108#32
  let c8_i32_1097 : BitVec 32 := 8#32
  let v2740 : BitVec 32 := Scalar.muli c108_i32 c8_i32_1097
  v2740
def k0_mult110 : BitVec 32 :=
  let c109_i32 : BitVec 32 := 109#32
  let c8_i32_1107 : BitVec 32 := 8#32
  let v2765 : BitVec 32 := Scalar.muli c109_i32 c8_i32_1107
  v2765
def k0_mult111 : BitVec 32 :=
  let c110_i32 : BitVec 32 := 110#32
  let c8_i32_1117 : BitVec 32 := 8#32
  let v2790 : BitVec 32 := Scalar.muli c110_i32 c8_i32_1117
  v2790
def k0_mult112 : BitVec 32 :=
  let c111_i32 : BitVec 32 := 111#32
  let c8_i32_1127 : BitVec 32 := 8#32
  let v2815 : BitVec 32 := Scalar.muli c111_i32 c8_i32_1127
  v2815
def k0_mult113 : BitVec 32 :=
  let c112_i32 : BitVec 32 := 112#32
  let c8_i32_1137 : BitVec 32 := 8#32
  let v2840 : BitVec 32 := Scalar.muli c112_i32 c8_i32_1137
  v2840
def k0_mult114 : BitVec 32 :=
  let c113_i32 : BitVec 32 := 113#32
  let c8_i32_1147 : BitVec 32 := 8#32
  let v2865 : BitVec 32 := Scalar.muli c113_i32 c8_i32_1147
  v2865
def k0_mult115 : BitVec 32 :=
  let c114_i32 : BitVec 32 := 114#32
  let c8_i32_1157 : BitVec 32 := 8#32
  let v2890 : BitVec 32 := Scalar.muli c114_i32 c8_i32_1157
  v2890
def k0_mult116 : BitVec 32 :=
  let c115_i32 : BitVec 32 := 115#32
  let c8_i32_1167 : BitVec 32 := 8#32
  let v2915 : BitVec 32 := Scalar.muli c115_i32 c8_i32_1167
  v2915
def k0_mult117 : BitVec 32 :=
  let c116_i32 : BitVec 32 := 116#32
  let c8_i32_1177 : BitVec 32 := 8#32
  let v2940 : BitVec 32 := Scalar.muli c116_i32 c8_i32_1177
  v2940
def k0_mult118 : BitVec 32 :=
  let c117_i32 : BitVec 32 := 117#32
  let c8_i32_1187 : BitVec 32 := 8#32
  let v2965 : BitVec 32 := Scalar.muli c117_i32 c8_i32_1187
  v2965
def k0_mult119 : BitVec 32 :=
  let c118_i32 : BitVec 32 := 118#32
  let c8_i32_1197 : BitVec 32 := 8#32
  let v2990 : BitVec 32 := Scalar.muli c118_i32 c8_i32_1197
  v2990
def k0_mult120 : BitVec 32 :=
  let c119_i32 : BitVec 32 := 119#32
  let c8_i32_1207 : BitVec 32 := 8#32
  let v3015 : BitVec 32 := Scalar.muli c119_i32 c8_i32_1207
  v3015
def k0_mult121 : BitVec 32 :=
  let c120_i32 : BitVec 32 := 120#32
  let c8_i32_1217 : BitVec 32 := 8#32
  let v3040 : BitVec 32 := Scalar.muli c120_i32 c8_i32_1217
  v3040
def k0_mult122 : BitVec 32 :=
  let c121_i32 : BitVec 32 := 121#32
  let c8_i32_1227 : BitVec 32 := 8#32
  let v3065 : BitVec 32 := Scalar.muli c121_i32 c8_i32_1227
  v3065
def k0_mult123 : BitVec 32 :=
  let c122_i32 : BitVec 32 := 122#32
  let c8_i32_1237 : BitVec 32 := 8#32
  let v3090 : BitVec 32 := Scalar.muli c122_i32 c8_i32_1237
  v3090
def k0_mult124 : BitVec 32 :=
  let c123_i32 : BitVec 32 := 123#32
  let c8_i32_1247 : BitVec 32 := 8#32
  let v3115 : BitVec 32 := Scalar.muli c123_i32 c8_i32_1247
  v3115
def k0_mult125 : BitVec 32 :=
  let c124_i32 : BitVec 32 := 124#32
  let c8_i32_1257 : BitVec 32 := 8#32
  let v3140 : BitVec 32 := Scalar.muli c124_i32 c8_i32_1257
  v3140
def k0_mult126 : BitVec 32 :=
  let c125_i32 : BitVec 32 := 125#32
  let c8_i32_1267 : BitVec 32 := 8#32
  let v3165 : BitVec 32 := Scalar.muli c125_i32 c8_i32_1267
  v3165
def k0_mult127 : BitVec 32 :=
  let c126_i32 : BitVec 32 := 126#32
  let c8_i32_1277 : BitVec 32 := 8#32
  let v3190 : BitVec 32 := Scalar.muli c126_i32 c8_i32_1277
  v3190
def k0_mult128 : BitVec 32 :=
  let c127_i32 : BitVec 32 := 127#32
  let c8_i32_1287 : BitVec 32 := 8#32
  let v3215 : BitVec 32 := Scalar.muli c127_i32 c8_i32_1287
  v3215
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S128x32768 : Shape := ⟨2, ![128, 32768]⟩
abbrev S128 : Shape := ⟨1, ![128]⟩
abbrev S128x32768x1 : Shape := ⟨3, ![128, 32768, 1]⟩
abbrev S1x1x128 : Shape := ⟨3, ![1, 1, 128]⟩
abbrev S128x32768x128 : Shape := ⟨3, ![128, 32768, 128]⟩
abbrev S_ : Shape := ⟨0, ![]⟩
abbrev S32768x128x128 : Shape := ⟨3, ![32768, 128, 128]⟩
abbrev S32768x16x8x128 : Shape := ⟨4, ![32768, 16, 8, 128]⟩
abbrev S16x32768x8x128 : Shape := ⟨4, ![16, 32768, 8, 128]⟩
abbrev S16x262144x128 : Shape := ⟨3, ![16, 262144, 128]⟩

abbrev nBuf : Space → Nat
  | .hbm => 29
  | .vmem => 0
  | .smem => 0
  | _ => 0

abbrev bufTy : (tb : Table) → Fin (tcTables nBuf tb) → BufTy
  | .hbm, ⟨0, _⟩ => ⟨S128x32768, .i32⟩
  | .hbm, ⟨1, _⟩ => ⟨S128x32768, .i32⟩
  | .hbm, ⟨2, _⟩ => ⟨S128x32768, .f32⟩
  | .hbm, ⟨3, _⟩ => ⟨S128, .i32⟩
  | .hbm, ⟨4, _⟩ => ⟨S128x32768x1, .i32⟩
  | .hbm, ⟨5, _⟩ => ⟨S1x1x128, .i32⟩
  | .hbm, ⟨6, _⟩ => ⟨S128x32768x128, .i32⟩
  | .hbm, ⟨7, _⟩ => ⟨S128x32768x128, .i32⟩
  | .hbm, ⟨8, _⟩ => ⟨S128x32768x128, .i1⟩
  | .hbm, ⟨9, _⟩ => ⟨S128x32768x1, .f32⟩
  | .hbm, ⟨10, _⟩ => ⟨S_, .f32⟩
  | .hbm, ⟨11, _⟩ => ⟨S_, .f32⟩
  | .hbm, ⟨12, _⟩ => ⟨S128x32768x128, .f32⟩
  | .hbm, ⟨13, _⟩ => ⟨S128x32768x128, .f32⟩
  | .hbm, ⟨14, _⟩ => ⟨S128x32768x128, .f32⟩
  | .hbm, ⟨15, _⟩ => ⟨S128x32768x1, .i32⟩
  | .hbm, ⟨16, _⟩ => ⟨S1x1x128, .i32⟩
  | .hbm, ⟨17, _⟩ => ⟨S128x32768x128, .i32⟩
  | .hbm, ⟨18, _⟩ => ⟨S128x32768x128, .i32⟩
  | .hbm, ⟨19, _⟩ => ⟨S128x32768x128, .i1⟩
  | .hbm, ⟨20, _⟩ => ⟨S_, .f32⟩
  | .hbm, ⟨21, _⟩ => ⟨S_, .f32⟩
  | .hbm, ⟨22, _⟩ => ⟨S128x32768x128, .f32⟩
  | .hbm, ⟨23, _⟩ => ⟨S128x32768x128, .f32⟩
  | .hbm, ⟨24, _⟩ => ⟨S128x32768x128, .f32⟩
  | .hbm, ⟨25, _⟩ => ⟨S32768x128x128, .f32⟩
  | .hbm, ⟨26, _⟩ => ⟨S32768x16x8x128, .f32⟩
  | .hbm, ⟨27, _⟩ => ⟨S16x32768x8x128, .f32⟩
  | .hbm, ⟨28, _⟩ => ⟨S16x262144x128, .f32⟩
  | _, _ => ⟨S128x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Stick.lean ====
/- Stick-breaking attention over the reals: the two numbers a logit gives, the sums a query row carries after the keys
   from a position on have been taken, and what one block of 256 keys adds to them. Nothing here names a program. -/
module

public import Idealize.ShloMosaic.PureOps.Ideal.Laws
public import Idealize.ShloMosaic.Lib.ValueIdx

@[expose] public section

noncomputable section

namespace Cert.Proof.Stick

open Finset

/-- The base-2 logarithm of the probability of stopping at a key, from the base-2 logit `z`. -/
def lsR (z : ℝ) : ℝ := min z 0 - Real.log (1 + Real.rpow 2 (min z 0 - (z - min z 0))) * (Real.log 2)⁻¹

/-- The base-2 logarithm of the probability of going past a key, from the base-2 logit `z`. -/
def lnbR (z : ℝ) : ℝ := lsR z - z

/-- What query row `T` carries after its keys from `κ` on: the sum of the logarithms of going past them. -/
def runS (Z : ℕ → ℕ → ℝ) (κ T : ℕ) : ℝ := ∑ j ∈ Ico κ T, lnbR (Z T j)

/-- The weight of key `j` for query row `T`: stopping there after going past every later key before the row. -/
def wgt (Z : ℕ → ℕ → ℝ) (T j : ℕ) : ℝ := Real.rpow 2 (lsR (Z T j) + ∑ j' ∈ Ico (j + 1) T, lnbR (Z T j'))

/-- What query row `T` has gathered of column `c` after its keys from `κ` on: the weighted sum of their values. -/
def accS (Z V : ℕ → ℕ → ℝ) (κ T c : ℕ) : ℝ := ∑ j ∈ Ico κ T, wgt Z T j * V j c

/-- Where no key of the range lies before the row, the row carries nothing. -/
theorem runS_of_le (Z : ℕ → ℕ → ℝ) {κ T : ℕ} (h : T ≤ κ) : runS Z κ T = 0 := by
  rw [runS, Ico_eq_empty_of_le h, sum_empty]

/-- Where no key of the range lies before the row, the row has gathered nothing. -/
theorem accS_of_le (Z V : ℕ → ℕ → ℝ) {κ T : ℕ} (c : ℕ) (h : T ≤ κ) : accS Z V κ T c = 0 := by
  rw [accS, Ico_eq_empty_of_le h, sum_empty]

/-- A masked tail of a block of 256 keys and the keys behind the block together are the tail of the whole range. -/
theorem tail_add (f : ℕ → ℝ) (κ T a : ℕ) (ha : a ≤ 256) :
    (∑ s ∈ Ico a 256, if κ + s < T then f (κ + s) else 0) + ∑ j ∈ Ico (κ + 256) T, f j = ∑ j ∈ Ico (κ + a) T, f j := by
  have e : (∑ s ∈ Ico a 256, if κ + s < T then f (κ + s) else 0) = ∑ j ∈ Ico (κ + a) (κ + 256), if j < T then f j else 0 := by
    rw [add_comm κ a, add_comm κ 256, ← sum_Ico_add' (fun j => if j < T then f j else 0) a 256 κ]
    simp only [add_comm κ]
  rw [e, ← sum_filter]
  rcases le_total (κ + 256) T with h | h
  · rw [filter_true_of_mem (fun j hj => lt_of_lt_of_le (mem_Ico.mp hj).2 h), sum_Ico_consecutive _ (by omega) h]
  · rw [Ico_eq_empty_of_le h, sum_empty, add_zero]
    refine sum_congr (ext fun j => ?_) fun _ _ => rfl
    simp only [mem_filter, mem_Ico]; omega

/-- The sum over a block against the 0/1 mark of the later positions is the sum over those positions. -/
theorem later_eq (m : ℕ → ℝ) (s : ℕ) :
    (∑ j ∈ range 256, m j * (if s < j then 1 else 0)) = ∑ j ∈ Ico (s + 1) 256, m j := by
  simp only [mul_ite, mul_one, mul_zero]
  rw [← sum_filter]
  refine sum_congr (ext fun j => ?_) fun _ _ => rfl
  simp only [mem_filter, mem_range, mem_Ico]; omega

/-- What one block adds to the carried sum: the first key's later sum and its own term. -/
theorem run_step (Z : ℕ → ℕ → ℝ) (κ T : ℕ) (m : ℕ → ℝ) (hm : ∀ s < 256, m s = if κ + s < T then lnbR (Z T (κ + s)) else 0) :
    runS Z (κ + 256) T + ((∑ j ∈ range 256, m j * (if 0 < j then 1 else 0)) + m 0) = runS Z κ T := by
  rw [later_eq]
  have h0 := tail_add (fun j => lnbR (Z T j)) κ T 0 (by omega)
  rw [add_zero] at h0
  rw [runS, runS, ← h0, sum_eq_sum_Ico_succ_bot (by omega : 0 < 256)]
  have e : ∑ j ∈ Ico (0 + 1) 256, m j = ∑ s ∈ Ico (0 + 1) 256, if κ + s < T then lnbR (Z T (κ + s)) else 0 :=
    sum_congr rfl fun s hs => hm s (mem_Ico.mp hs).2
  rw [e, hm 0 (by omega)]
  ring

/-- What one block adds to the gathered value: each of its keys before the row, at its weight. -/
theorem acc_step (Z V : ℕ → ℕ → ℝ) (κ T c : ℕ) (m a : ℕ → ℝ)
    (hm : ∀ s < 256, m s = if κ + s < T then lnbR (Z T (κ + s)) else 0)
    (ha : ∀ s < 256, a s = if κ + s < T then
      Real.rpow 2 (lsR (Z T (κ + s)) + (∑ j ∈ range 256, m j * (if s < j then 1 else 0)) + runS Z (κ + 256) T) else 0) :
    accS Z V (κ + 256) T c + (∑ s ∈ range 256, a s * V (κ + s) c) = accS Z V κ T c := by
  have h0 := tail_add (fun j => wgt Z T j * V j c) κ T 0 (by omega)
  rw [add_zero] at h0
  rw [accS, accS, ← h0, add_comm, range_eq_Ico]
  congr 1
  refine sum_congr rfl fun s hs => ?_
  have hs' := (mem_Ico.mp hs).2
  rw [ha s hs']
  by_cases h : κ + s < T
  · rw [if_pos h, if_pos h, later_eq]
    have e : ∑ j ∈ Ico (s + 1) 256, m j = ∑ j ∈ Ico (s + 1) 256, if κ + j < T then lnbR (Z T (κ + j)) else 0 :=
      sum_congr rfl fun j hj => hm j (mem_Ico.mp hj).2
    have ht := tail_add (fun j => lnbR (Z T j)) κ T (s + 1) (by omega)
    rw [add_assoc (lsR _), e, runS, ht, wgt, add_assoc κ s 1]
  · rw [if_neg h, if_neg h, zero_mul]

end Cert.Proof.Stick

end

end
-- ==== Proof.Tile.lean ====
/- One tile of stick-breaking attention: `n` query rows against one block of 256 keys, as the vector operations the
   kernel makes of it (over any row count), and the real numbers those operations leave. -/
module

public import proofs.«01_k».proof.Proof.Stick
public import Idealize.ShloMosaic.Lib.MatmulPlain
public import Idealize.ShloMosaic.Lib.Pipeline.Value
public import Idealize.ShloMosaic.Lib.ValueIdx
public import Idealize.ShloMosaic.Lib.ValueIdxCoords

@[expose] public section

noncomputable section

namespace Cert.Proof.Tile

open Idealize.ShloMosaic Idealize.ShloMosaic.ValueIdx Idealize.SL.Sem Finset Cert.Proof.Stick

/-- A matrix shape. -/
abbrev S2 (n c : ℕ) : Shape := ⟨2, ![n, c]⟩
/-- A matrix of 128 columns, as one head of a stack of them. -/
abbrev S3 (n : ℕ) : Shape := ⟨3, ![1, n, 128]⟩

/-- The matrix holds these real numbers. -/
def Rep {n c : ℕ} {φ : FTy} (x : FVec Ideal (S2 n c) φ) (g : ℕ → ℕ → ℝ) : Prop :=
  ∀ (r : Fin n) (s : Fin c), x (ix2 r s) = ((g r s : ℝ) : EReal)

/-- The head holds these real numbers. -/
def Rep3 {n : ℕ} {φ : FTy} (x : FVec Ideal (S3 n) φ) (g : ℕ → ℕ → ℝ) : Prop :=
  ∀ (r : Fin n) (s : Fin 128), x (ix3 u0 r s) = ((g r s : ℝ) : EReal)

/-- The format bf16 is narrower than f32. -/
theorem narrow : FTy.bits .bf16 < FTy.bits .f32 := by decide

/-- A finite sum of reals, coerced. -/
theorem coe_sum {ι : Type} (t : Finset ι) (f : ι → ℝ) : ((∑ k ∈ t, f k : ℝ) : EReal) = ∑ k ∈ t, ((f k : ℝ) : EReal) := by
  classical
  induction t using Finset.induction_on with
  | empty => rfl
  | insert a t ha ih => rw [Finset.sum_insert ha, Finset.sum_insert ha, EReal.coe_add, ih]

/-- The lesser of two reals, coerced. -/
theorem coe_min (a b : ℝ) : ((min a b : ℝ) : EReal) = min (a : EReal) (b : EReal) :=
  EReal.coe_strictMono.monotone.map_min

/-- A coerced finite sum of products. -/
theorem coe_dot {N : ℕ} (f g : ℕ → ℝ) :
    (∑ k : Fin N, ((f k : ℝ) : EReal) * ((g k : ℝ) : EReal)) = ((∑ k ∈ range N, f k * g k : ℝ) : EReal) := by
  rw [Finset.sum_range (fun k => f k * g k), coe_sum]
  exact Finset.sum_congr rfl fun k _ => (EReal.coe_mul _ _).symm

/-- The bf16 word of zero. -/
theorem zero_bf16 : Ideal.ofBits .bf16 0x0000#16 = ((0 : ℝ) : EReal) := by simp [Ideal.ofBits, Ideal.ieee]
/-- The bf16 word of one. -/
theorem one_bf16 : Ideal.ofBits .bf16 0x3F80#16 = ((1 : ℝ) : EReal) := by
  simp [Ideal.ofBits, Ideal.ieee, -EReal.coe_mul]; norm_num
/-- The f32 word of zero. -/
theorem zero_f32 : Ideal.ofBits .f32 0x00000000#32 = ((0 : ℝ) : EReal) := by simp [Ideal.ofBits, Ideal.ieee]
/-- The f32 word of one. -/
theorem one_f32 : Ideal.ofBits .f32 0x3F800000#32 = ((1 : ℝ) : EReal) := by
  simp [Ideal.ofBits, Ideal.ieee, -EReal.coe_mul]; norm_num

section Operations
variable {n : ℕ}

/-- The logits: the head's queries against the keys, narrowed. -/
def zT (hc : (S3 n).ShapeCasts (S2 n 128)) (q : FVec Ideal (S3 n) .bf16) (k : FVec Ideal (S2 256 128) .bf16) : FVec Ideal (S2 n 256) .bf16 :=
  truncf .bf16 (matmul (DotDims.transposedRhs n 128 256) none (shapeCast (S2 n 128) q hc) k (constant (S2 n 256) .f32 0x00000000#32)) narrow

/-- The logarithms of stopping, from the logits; `w` is the logarithm's change of base. -/
def lsT (w : Ideal .bf16) (z : FVec Ideal (S2 n 256) .bf16) : FVec Ideal (S2 n 256) .bf16 :=
  subf (minimumf z (broadcast (S2 n 256) (Scalar.ofBits .bf16 0x0000#16)))
    (mulf (log (addf (broadcast (S2 n 256) (Scalar.ofBits .bf16 0x3F80#16))
      (exp2 (subf (minimumf z (broadcast (S2 n 256) (Scalar.ofBits .bf16 0x0000#16)))
        (subf z (minimumf z (broadcast (S2 n 256) (Scalar.ofBits .bf16 0x0000#16)))))))) (broadcast (S2 n 256) w))

/-- The logarithms of going past. -/
def lnbT (w : Ideal .bf16) (z : FVec Ideal (S2 n 256) .bf16) : FVec Ideal (S2 n 256) .bf16 := subf (lsT w z) z

/-- A matrix with zero where the mask does not hold. -/
def keep (mask : IVec (S2 n 256) 1) (x : FVec Ideal (S2 n 256) .f32) : FVec Ideal (S2 n 256) .f32 :=
  select mask x (broadcast (S2 n 256) (Scalar.ofBits .f32 0x00000000#32))

/-- The logarithms of going past, zero where the mask does not hold. -/
def lnbM (mask : IVec (S2 n 256) 1) (w : Ideal .bf16) (z : FVec Ideal (S2 n 256) .bf16) : FVec Ideal (S2 n 256) .bf16 :=
  truncf .bf16 (keep mask (extf .f32 (lnbT w z) narrow)) narrow

/-- Each key's sum of the logarithms at the block's later keys, through the 0/1 matrix `v6`. -/
def laterT (v6 : FVec Ideal (S2 256 256) .bf16) (lnb : FVec Ideal (S2 n 256) .bf16) : FVec Ideal (S2 n 256) .f32 :=
  matmul (DotDims.plain n 256 256) none lnb v6 (constant (S2 n 256) .f32 0x00000000#32)

/-- The carried sums with the block's total added on every lane. -/
def runT (hs : (S2 n 256).Slices ![0, 0] (S2 n 1)) (h1 : (S2 n 1).ShapeCasts (S2 n 1)) (hb : (S2 n 1).Broadcasts (S2 n 128))
    (v6 : FVec Ideal (S2 256 256) .bf16) (lnb : FVec Ideal (S2 n 256) .bf16) (run : FVec Ideal (S2 n 128) .f32) : FVec Ideal (S2 n 128) .f32 :=
  addf run (broadcastTo (S2 n 128) (shapeCast (S2 n 1) (addf (extractStridedSlice (S2 n 1) ![0, 0] (laterT v6 lnb) hs)
    (extf .f32 (extractStridedSlice (S2 n 1) ![0, 0] lnb hs) narrow)) h1) hb)

/-- The weights of the block's keys. -/
def aT (hcc : Shape.Concatenates [S2 n 128, S2 n 128] (S2 n 256) 1) (ls : FVec Ideal (S2 n 256) .bf16) (later : FVec Ideal (S2 n 256) .f32)
    (run : FVec Ideal (S2 n 128) .f32) : FVec Ideal (S2 n 256) .f32 :=
  exp2 (addf (addf (extf .f32 ls narrow) later) (concatenate (S2 n 256) 1 [⟨S2 n 128, run⟩, ⟨S2 n 128, run⟩] hcc))

/-- The gathered values with the block's weighted values added. -/
def accT (a : FVec Ideal (S2 n 256) .f32) (v : FVec Ideal (S2 256 128) .bf16) (o : FVec Ideal (S2 n 128) .f32) : FVec Ideal (S2 n 128) .f32 :=
  addf o (matmul (DotDims.plain n 256 128) none (truncf .bf16 a narrow) v (constant (S2 n 128) .f32 0x00000000#32))

end Operations

section Values
variable {n : ℕ}

/-- The logits are the products of the queries and the keys. -/
theorem zT_rep (hc : (S3 n).ShapeCasts (S2 n 128)) {q : FVec Ideal (S3 n) .bf16} {k : FVec Ideal (S2 256 128) .bf16} {Q K : ℕ → ℕ → ℝ}
    (hq : Rep3 q Q) (hk : Rep k K) : Rep (zT hc q k) (fun r s => ∑ d ∈ range 128, Q r d * K s d) := by
  intro r s
  refine (Ideal.matmul_transposedRhs_apply none _ k _ r s).trans ?_
  rw [constant_apply, zero_f32, EReal.coe_zero, zero_add, ← coe_dot]
  refine Finset.sum_congr rfl fun d _ => ?_
  rw [shapeCast_apply q hc (ix2 r d) (ix3 u0 r d) (by
    rw [Shape.rowMajor_val_three, Shape.rowMajor_val_two]; simp), hq, hk]

/-- The logarithms of stopping are the reals' own. -/
theorem lsT_rep {w : Ideal .bf16} (hw : w = (((Real.log 2)⁻¹ : ℝ) : EReal)) {z : FVec Ideal (S2 n 256) .bf16} {Z : ℕ → ℕ → ℝ} (hz : Rep z Z) :
    Rep (lsT w z) (fun r s => lsR (Z r s)) := by
  intro r s
  show z (ix2 r s) ⊓ Ideal.ofBits .bf16 0x0000#16 - Ideal.log (Ideal.ofBits .bf16 0x3F80#16 + Ideal.exp2 (z (ix2 r s) ⊓ Ideal.ofBits .bf16 0x0000#16 - (z (ix2 r s) - z (ix2 r s) ⊓ Ideal.ofBits .bf16 0x0000#16))) * w = _
  rw [hz, zero_bf16, one_bf16, hw, ← coe_min, ← EReal.coe_sub, ← EReal.coe_sub, Ideal.exp2_coe, ← EReal.coe_add, Ideal.log_coe,
    if_neg (not_le.mpr (add_pos one_pos (show (0 : ℝ) < Real.rpow 2 _ from Real.rpow_pos_of_pos two_pos _))), ← EReal.coe_mul, ← EReal.coe_sub]
  rfl

/-- The logarithms of going past are the reals' own. -/
theorem lnbT_rep {w : Ideal .bf16} (hw : w = (((Real.log 2)⁻¹ : ℝ) : EReal)) {z : FVec Ideal (S2 n 256) .bf16} {Z : ℕ → ℕ → ℝ} (hz : Rep z Z) :
    Rep (lnbT w z) (fun r s => lnbR (Z r s)) := by
  intro r s
  show lsT w z (ix2 r s) - z (ix2 r s) = _
  rw [lsT_rep hw hz, hz, ← EReal.coe_sub]; rfl

/-- Keeping a matrix where the mask holds keeps its numbers there and zero elsewhere. -/
theorem keep_rep {mask : IVec (S2 n 256) 1} {p : ℕ → ℕ → Prop} [∀ r s, Decidable (p r s)]
    (hm : ∀ (r : Fin n) (s : Fin 256), mask (ix2 r s) = BitVec.ofBool (decide (p r s))) {x : FVec Ideal (S2 n 256) .f32} {X : ℕ → ℕ → ℝ}
    (hx : Rep x X) : Rep (keep mask x) (fun r s => if p r s then X r s else 0) := by
  intro r s
  show Scalar.select (mask (ix2 r s)) (x (ix2 r s)) (Ideal.ofBits .f32 0x00000000#32) = _
  rw [hm, hx, zero_f32]
  by_cases h : p r s
  · rw [decide_eq_true h]; exact congrArg (fun y : ℝ => (y : EReal)) (if_pos h).symm
  · rw [decide_eq_false h]; exact congrArg (fun y : ℝ => (y : EReal)) (if_neg h).symm

/-- The later sums are sums over the block against the 0/1 mark. -/
theorem laterT_rep {v6 : FVec Ideal (S2 256 256) .bf16} (h6 : Rep v6 (fun j s => if s < j then 1 else 0)) {lnb : FVec Ideal (S2 n 256) .bf16}
    {L : ℕ → ℕ → ℝ} (hl : Rep lnb L) : Rep (laterT v6 lnb) (fun r s => ∑ j ∈ range 256, L r j * (if s < j then 1 else 0)) := by
  intro r s
  refine (Ideal.matmul_plain_apply none lnb v6 _ r s).trans ?_
  rw [constant_apply, zero_f32, EReal.coe_zero, zero_add, ← coe_dot (fun j => L r j) (fun j => if (s : ℕ) < j then 1 else 0)]
  exact Finset.sum_congr rfl fun d _ => by rw [hl, h6]

/-- The carried sums after the block. -/
theorem runT_rep (hs : (S2 n 256).Slices ![0, 0] (S2 n 1)) (h1 : (S2 n 1).ShapeCasts (S2 n 1)) (hb : (S2 n 1).Broadcasts (S2 n 128))
    {v6 : FVec Ideal (S2 256 256) .bf16} (h6 : Rep v6 (fun j s => if s < j then 1 else 0)) {lnb : FVec Ideal (S2 n 256) .bf16}
    {L : ℕ → ℕ → ℝ} (hl : Rep lnb L) {run : FVec Ideal (S2 n 128) .f32} {R : ℕ → ℕ → ℝ} (hr : Rep run R) :
    Rep (runT hs h1 hb v6 lnb run) (fun r c => R r c + ((∑ j ∈ range 256, L r j * (if 0 < j then 1 else 0)) + L r 0)) := by
  intro r c
  show run (ix2 r c) + broadcastTo (S2 n 128) _ hb (ix2 r c) = _
  rw [broadcastTo_apply _ hb (ix2 r c) (ix2 r u0) (fun a => by
      match a with
      | ⟨0, _⟩ =>
        show r.val = if n = 1 then 0 else r.val
        have := r.isLt
        split <;> omega
      | ⟨1, _⟩ => rfl),
    shapeCast_apply _ h1 (ix2 r u0) (ix2 r u0) rfl, addf_apply, extf_apply,
    extractStridedSlice_apply _ (laterT v6 lnb) hs (ix2 r u0) (ix2 r (0 : Fin 256)) (fun a => by
      match a with
      | ⟨0, _⟩ => exact (Nat.zero_add _).symm
      | ⟨1, _⟩ => rfl),
    extractStridedSlice_apply _ lnb hs (ix2 r u0) (ix2 r (0 : Fin 256)) (fun a => by
      match a with
      | ⟨0, _⟩ => exact (Nat.zero_add _).symm
      | ⟨1, _⟩ => rfl),
    hr, laterT_rep h6 hl, hl, ← EReal.coe_add, ← EReal.coe_add]
  rfl

/-- The weights, from the logarithms of stopping, the later sums and the carried sums (alike on every lane). -/
theorem aT_rep (hcc : Shape.Concatenates [S2 n 128, S2 n 128] (S2 n 256) 1) {ls : FVec Ideal (S2 n 256) .bf16} {later : FVec Ideal (S2 n 256) .f32}
    {run : FVec Ideal (S2 n 128) .f32} {S L : ℕ → ℕ → ℝ} {R : ℕ → ℝ} (hs : Rep ls S) (hl : Rep later L) (hr : Rep run (fun r _ => R r)) :
    Rep (aT hcc ls later run) (fun r s => Real.rpow 2 (S r s + L r s + R r)) := by
  intro r s
  have e : concatenate (S2 n 256) 1 [⟨S2 n 128, run⟩, ⟨S2 n 128, run⟩] hcc (ix2 r s) = ((R r : ℝ) : EReal) := by
    by_cases h : s.val < 128
    · rw [concatenate_pair_apply_left (1 : Fin 2) run run hcc (ix2 r s) rfl (ix2 r ⟨s.val, h⟩) (fun b => by
        match b with
        | ⟨0, _⟩ => rfl
        | ⟨1, _⟩ => rfl), hr]
    · have hlt := s.isLt
      rw [concatenate_pair_apply_right (1 : Fin 2) run run hcc (ix2 r s) rfl rfl (ix2 r ⟨s.val - 128, by omega⟩) (fun b hb => by
        match b with
        | ⟨0, _⟩ => rfl
        | ⟨1, _⟩ => exact absurd rfl hb) (by show s.val - 128 + 128 = s.val; omega), hr]
  show Ideal.exp2 (ls (ix2 r s) + later (ix2 r s) + concatenate (S2 n 256) 1 [⟨S2 n 128, run⟩, ⟨S2 n 128, run⟩] hcc (ix2 r s)) = _
  rw [e, hs, hl, ← EReal.coe_add, ← EReal.coe_add, Ideal.exp2_coe]

/-- The gathered values after the block. -/
theorem accT_rep {a : FVec Ideal (S2 n 256) .f32} {v : FVec Ideal (S2 256 128) .bf16} {o : FVec Ideal (S2 n 128) .f32} {A V O : ℕ → ℕ → ℝ}
    (ha : Rep a A) (hv : Rep v V) (ho : Rep o O) : Rep (accT a v o) (fun r c => O r c + ∑ s ∈ range 256, A r s * V s c) := by
  intro r c
  show o (ix2 r c) + matmul (DotDims.plain n 256 128) none (truncf .bf16 a narrow) v (constant (S2 n 128) .f32 0x00000000#32) (ix2 r c) = _
  rw [show matmul (DotDims.plain n 256 128) none (truncf .bf16 a narrow) v (constant (S2 n 128) .f32 0x00000000#32) (ix2 r c) = _ from
    Ideal.matmul_plain_apply none _ v _ r c]
  rw [constant_apply, zero_f32, EReal.coe_zero, zero_add, ho, EReal.coe_add, ← coe_dot (fun s => A r s) (fun s => V s c)]
  congr 1
  exact Finset.sum_congr rfl fun d _ => by rw [truncf_apply, ha, hv]

end Values

/-! ## A tile's step: the carried and the gathered numbers of the rows from `T₀` on, taken 256 keys further -/

section Step
variable {n : ℕ}

/-- What a tile leaves in the carried sums, from a matrix `lnb` of the logarithms of going past at its keys before the row. -/
theorem runT_step (hs : (S2 n 256).Slices ![0, 0] (S2 n 1)) (h1 : (S2 n 1).ShapeCasts (S2 n 1)) (hb : (S2 n 1).Broadcasts (S2 n 128))
    {v6 : FVec Ideal (S2 256 256) .bf16} (h6 : Rep v6 (fun j s => if s < j then 1 else 0)) (Z : ℕ → ℕ → ℝ) (T₀ κ : ℕ)
    {lnb : FVec Ideal (S2 n 256) .bf16} (hl : Rep lnb (fun r s => if κ + s < T₀ + r then lnbR (Z (T₀ + r) (κ + s)) else 0))
    {run : FVec Ideal (S2 n 128) .f32} (hr : Rep run (fun r _ => runS Z (κ + 256) (T₀ + r))) :
    Rep (runT hs h1 hb v6 lnb run) (fun r _ => runS Z κ (T₀ + r)) := by
  intro r c
  rw [runT_rep hs h1 hb h6 hl hr r c]
  exact congrArg _ (run_step Z κ (T₀ + r) (fun s => if κ + s < T₀ + r then lnbR (Z (T₀ + r) (κ + s)) else 0) fun s _ => rfl)

/-- What a tile leaves in the gathered values, from its weights (zero at the keys not before the row). -/
theorem accT_step (Z V : ℕ → ℕ → ℝ) (T₀ κ : ℕ) {a : FVec Ideal (S2 n 256) .f32}
    (ha : Rep a (fun r s => if κ + s < T₀ + r then Real.rpow 2 (lsR (Z (T₀ + r) (κ + s))
      + (∑ j ∈ range 256, (if κ + j < T₀ + r then lnbR (Z (T₀ + r) (κ + j)) else 0) * (if s < j then 1 else 0)) + runS Z (κ + 256) (T₀ + r)) else 0))
    {v : FVec Ideal (S2 256 128) .bf16} (hv : Rep v (fun s c => V (κ + s) c))
    {o : FVec Ideal (S2 n 128) .f32} (ho : Rep o (fun r c => accS Z V (κ + 256) (T₀ + r) c)) :
    Rep (accT a v o) (fun r c => accS Z V κ (T₀ + r) c) := by
  intro r c
  rw [accT_rep ha hv ho r c]
  exact congrArg _ (acc_step Z V κ (T₀ + r) c (fun s => if κ + s < T₀ + r then lnbR (Z (T₀ + r) (κ + s)) else 0) _ (fun s _ => rfl) fun s _ => rfl)

end Step

end Cert.Proof.Tile

end

end
-- ==== Proof.Steps.lean ====
/- A tile's step with its reads and writes: the four heads' carried sums and gathered values lie in stacks that are
   written piece by piece, and one tile takes one head's rows from a position on 256 keys further. -/
module

public import proofs.«01_k».proof.Proof.Tile
public import Idealize.ShloMosaic.Lib.Pipeline.FrameBody
public import Idealize.ShloMosaic.Lib.WordCmp
public import Idealize.ShloMosaic.Lib.Pipeline.ValueKit.Tiles

@[expose] public section

noncomputable section

namespace Cert.Proof.Tile

open Idealize.ShloMosaic Idealize.ShloMosaic.ValueIdx Idealize.SL.Sem Finset Cert.Proof.Stick

/-- The shape of a stack of four heads of 1024 rows. -/
abbrev S4 : Shape := ⟨3, ![4, 1024, 128]⟩

/-- What a stack reads after a last write of one head's rows from `r0` on: the write there, the earlier contents elsewhere. -/
theorem canon_rows {Val : EltTy → Type} [∀ e, Nonempty (Val e)] {e : EltTy} (L : List (View.Piece Val S4 e)) (h r0 n : ℕ)
    (inb : ∀ a, (![h, r0, 0] : Fin 3 → ℕ) a + (S3 n).size a ≤ S4.size a) (w : (S3 n).Idx → Val e) (h' : Fin 4) (r : Fin 1024) (c : Fin 128) :
    View.canon ((⟨Rect.unit (s := S4) ![h, r0, 0] (S3 n).size inb, w⟩ : View.Piece Val S4 e) :: L) (ix3 h' r c)
      = if hh : h'.val = h ∧ r0 ≤ r.val ∧ r.val < r0 + n then w (ix3 u0 ⟨r.val - r0, by omega⟩ c) else View.canon L (ix3 h' r c) := by
  by_cases hh : h'.val = h ∧ r0 ≤ r.val ∧ r.val < r0 + n
  · rw [dif_pos hh]
    have e1 : (ix3 h' r c : S4.Idx) = (Rect.unit (s := S4) ![h, r0, 0] (S3 n).size inb).emb (ix3 u0 ⟨r.val - r0, by omega⟩ c) := by
      funext a; apply Fin.ext
      refine Eq.trans ?_ (Rect.idx_unit_val (s := S4) ![h, r0, 0] (S3 n).size inb _ a).symm
      match a with
      | ⟨0, _⟩ => show h'.val = h + 0; omega
      | ⟨1, _⟩ => show r.val = r0 + (r.val - r0); omega
      | ⟨2, _⟩ => show c.val = 0 + c.val; omega
    rw [e1]
    exact View.canon_cons_emb (Rect.unit (s := S4) ![h, r0, 0] (S3 n).size inb) w L _
  · rw [dif_neg hh]
    refine View.canon_cons_of_not_mem _ L fun hm => hh ?_
    have h3 : (ix3 h' r c : S4.Idx) ∈ (Rect.unit (s := S4) ![h, r0, 0] (S3 n).size inb).set := hm
    rw [Rect.mem_set_unit] at h3
    have h0 := h3 0
    have h1 := h3 1
    change h ≤ h'.val ∧ h'.val < h + 1 at h0
    change r0 ≤ r.val ∧ r.val < r0 + n at h1
    exact ⟨by omega, h1.1, h1.2⟩

/-- The place in the stack of one head's row from `r0` on. -/
theorem idx_rows (h r0 n : ℕ) (inb : ∀ a, (![h, r0, 0] : Fin 3 → ℕ) a + (S3 n).size a ≤ S4.size a) (r : Fin n) (c : Fin 128) (hh : h < 4)
    (hr : r0 + r.val < 1024) :
    (Rect.unit (s := S4) ![h, r0, 0] (S3 n).size inb).toLoadRect.idx (ix3 u0 r c) = (ix3 ⟨h, hh⟩ ⟨r0 + r.val, hr⟩ c : S4.Idx) := by
  funext a; apply Fin.ext
  refine (Rect.idx_unit_val (s := S4) ![h, r0, 0] (S3 n).size inb _ a).trans ?_
  match a with
  | ⟨0, _⟩ => rfl
  | ⟨1, _⟩ => rfl
  | ⟨2, _⟩ => show 0 + c.val = c.val; omega

/-- A stack of f32 holds these real numbers. -/
def Rep4 (x : Vec Ideal S4 .f32) (g : ℕ → ℕ → ℕ → ℝ) : Prop :=
  ∀ (h : Fin 4) (r : Fin 1024) (c : Fin 128), x (ix3 h r c) = ((g h r c : ℝ) : EReal)

/-- A stack of bf16 holds these real numbers. -/
def Rep4b (x : Vec Ideal S4 .bf16) (g : ℕ → ℕ → ℕ → ℝ) : Prop :=
  ∀ (h : Fin 4) (r : Fin 1024) (c : Fin 128), x (ix3 h r c) = ((g h r c : ℝ) : EReal)

variable {sig : RefSig} {κ₀ : Kind} {sp : Space}

/-- Reading one head's rows from `r0` on out of a stack of f32 that was written piece by piece. -/
theorem readCov_rep (v : View sig κ₀ sp S4 .f32) {L : List (View.Piece (Elt Ideal) S4 .f32)} {g : ℕ → ℕ → ℕ → ℝ} (hL : Rep4 (View.canon L) g)
    (h r0 n : ℕ) (inb : ∀ a, (![h, r0, 0] : Fin 3 → ℕ) a + (S3 n).size a ≤ S4.size a) :
    Rep3 (n := n) (φ := .f32) (v.readCov L (Rect.unit (s := S4) ![h, r0, 0] (S3 n).size inb).toLoadRect) (fun r c => g h (r0 + r) c) := by
  intro r c
  have i0 : h + 1 ≤ 4 := inb 0
  have i1 : r0 + n ≤ 1024 := inb 1
  have := r.isLt
  rw [View.readCov_eq_canon']
  show View.canon L _ = _
  rw [idx_rows h r0 n inb r c (by omega) (by omega)]
  exact hL _ _ _

/-- Reading one head's rows from `r0` on out of a stack of bf16 that was written piece by piece. -/
theorem readCov_repb (v : View sig κ₀ sp S4 .bf16) {L : List (View.Piece (Elt Ideal) S4 .bf16)} {g : ℕ → ℕ → ℕ → ℝ} (hL : Rep4b (View.canon L) g)
    (h r0 n : ℕ) (inb : ∀ a, (![h, r0, 0] : Fin 3 → ℕ) a + (S3 n).size a ≤ S4.size a) :
    Rep3 (n := n) (φ := .bf16) (v.readCov L (Rect.unit (s := S4) ![h, r0, 0] (S3 n).size inb).toLoadRect) (fun r c => g h (r0 + r) c) := by
  intro r c
  have i0 : h + 1 ≤ 4 := inb 0
  have i1 : r0 + n ≤ 1024 := inb 1
  have := r.isLt
  rw [View.readCov_eq_canon']
  show View.canon L _ = _
  rw [idx_rows h r0 n inb r c (by omega) (by omega)]
  exact hL _ _ _

/-- What the layout operations of a tile of `n` rows need of its shapes. -/
structure Ev (n : ℕ) : Prop where
  /-- A head is a matrix. -/
  hc : (S3 n).ShapeCasts (S2 n 128)
  /-- A matrix is a head. -/
  hx : (S2 n 128).ShapeCasts (S3 n)
  /-- The first column lies in the matrix. -/
  hs : (S2 n 256).Slices ![0, 0] (S2 n 1)
  /-- A column is a column. -/
  h1 : (S2 n 1).ShapeCasts (S2 n 1)
  /-- A column spreads over 128 lanes. -/
  hb : (S2 n 1).Broadcasts (S2 n 128)
  /-- Two matrices of 128 columns side by side make one of 256. -/
  hcc : Shape.Concatenates [S2 n 128, S2 n 128] (S2 n 256) 1
  /-- Row numbers. -/
  i0 : (S2 n 256).Iotas .tc 32 [0]
  /-- Column numbers. -/
  i1 : (S2 n 256).Iotas .tc 32 [1]

section
variable {n : ℕ} (ev : Ev n)

/-- The mask of the keys before the row, both counted from the tile's first. -/
def maskT : IVec (S2 n 256) 1 := cmpi .slt (iota .tc (S2 n 256) 32 [1] ev.i1) (iota .tc (S2 n 256) 32 [0] ev.i0)

/-- The carried sums of a tile with no mask. -/
def runU (w : Ideal .bf16) (v6 : FVec Ideal (S2 256 256) .bf16) (run : FVec Ideal (S2 n 128) .f32) (k : FVec Ideal (S2 256 128) .bf16)
    (q : FVec Ideal (S3 n) .bf16) : FVec Ideal (S2 n 128) .f32 :=
  runT ev.hs ev.h1 ev.hb v6 (lnbT w (zT ev.hc q k)) run

/-- The gathered values of a tile with no mask. -/
def accU (w : Ideal .bf16) (v6 : FVec Ideal (S2 256 256) .bf16) (o run : FVec Ideal (S2 n 128) .f32) (k v : FVec Ideal (S2 256 128) .bf16)
    (q : FVec Ideal (S3 n) .bf16) : FVec Ideal (S2 n 128) .f32 :=
  accT (aT ev.hcc (lsT w (zT ev.hc q k)) (laterT v6 (lnbT w (zT ev.hc q k))) run) v o

/-- The carried sums of a masked tile, as a head. -/
def runM (mask : IVec (S2 n 256) 1) (w : Ideal .bf16) (v6 : FVec Ideal (S2 256 256) .bf16) (run : FVec Ideal (S3 n) .f32)
    (k : FVec Ideal (S2 256 128) .bf16) (q : FVec Ideal (S3 n) .bf16) : FVec Ideal (S3 n) .f32 :=
  shapeCast (S3 n) (runT ev.hs ev.h1 ev.hb v6 (lnbM mask w (zT ev.hc q k)) (shapeCast (S2 n 128) run ev.hc)) ev.hx

/-- The gathered values of a masked tile, as a head. -/
def accM (mask : IVec (S2 n 256) 1) (w : Ideal .bf16) (v6 : FVec Ideal (S2 256 256) .bf16) (o run : FVec Ideal (S3 n) .f32)
    (k v : FVec Ideal (S2 256 128) .bf16) (q : FVec Ideal (S3 n) .bf16) : FVec Ideal (S3 n) .f32 :=
  shapeCast (S3 n) (accT (keep mask (aT ev.hcc (lsT w (zT ev.hc q k)) (laterT v6 (lnbM mask w (zT ev.hc q k)))
    (shapeCast (S2 n 128) run ev.hc))) v (shapeCast (S2 n 128) o ev.hc)) ev.hx

/-- A head read as a matrix. -/
theorem cast_rep {φ : FTy} {x : FVec Ideal (S3 n) φ} {g : ℕ → ℕ → ℝ} (hx : Rep3 x g) : Rep (shapeCast (S2 n 128) x ev.hc) g := by
  intro r c
  rw [shapeCast_apply x ev.hc (ix2 r c) (ix3 u0 r c) (by rw [Shape.rowMajor_val_three, Shape.rowMajor_val_two]; simp), hx]

/-- A matrix read as a head. -/
theorem uncast_rep {φ : FTy} {x : FVec Ideal (S2 n 128) φ} {g : ℕ → ℕ → ℝ} (hx : Rep x g) : Rep3 (shapeCast (S3 n) x ev.hx) g := by
  intro r c
  rw [shapeCast_apply x ev.hx (ix3 u0 r c) (ix2 r c) (by rw [Shape.rowMajor_val_three, Shape.rowMajor_val_two]; simp), hx]

/-- The mask says which keys lie before the row. -/
theorem maskT_apply (hn : n ≤ 1024) (r : Fin n) (s : Fin 256) : maskT ev (ix2 r s) = BitVec.ofBool (decide (s.val < r.val)) := by
  have hr := r.isLt
  have hs := s.isLt
  show IntOp.cmpi .slt (BitVec.ofNat 32 (0 * 256 + s.val)) (BitVec.ofNat 32 (0 * n + r.val)) = _
  rw [Nat.zero_mul, Nat.zero_mul, Nat.zero_add, Nat.zero_add]
  exact WordCmp.cmpi_slt_ofNat (by omega) (by omega)

/-- The base-2 logits of given queries and keys. -/
def Zof (Q K : ℕ → ℕ → ℝ) : ℕ → ℕ → ℝ := fun T j => ∑ d ∈ range 128, Q T d * K j d

variable {w : Ideal .bf16} (hw : w = (((Real.log 2)⁻¹ : ℝ) : EReal)) {v6 : FVec Ideal (S2 256 256) .bf16}
  (h6 : Rep v6 (fun j s => if s < j then 1 else 0)) (Q K V : ℕ → ℕ → ℝ) (T₀ κ : ℕ)
  {k v : FVec Ideal (S2 256 128) .bf16} {q : FVec Ideal (S3 n) .bf16}
  (hk : Rep k (fun s d => K (κ + s) d)) (hq : Rep3 q (fun r d => Q (T₀ + r) d))

include hw hk hq

/-- With every key of the block before every row, a tile with no mask takes the carried sums 256 keys further. -/
theorem runU_step (h6 : Rep v6 (fun j s => if s < j then 1 else 0)) (hT : κ + 256 ≤ T₀) {run : FVec Ideal (S2 n 128) .f32}
    (hr : Rep run (fun r _ => runS (Zof Q K) (κ + 256) (T₀ + r))) :
    Rep (runU ev w v6 run k q) (fun r _ => runS (Zof Q K) κ (T₀ + r)) := by
  refine runT_step ev.hs ev.h1 ev.hb h6 (Zof Q K) T₀ κ (fun r s => ?_) hr
  rw [lnbT_rep hw (zT_rep ev.hc hq hk) r s]
  have := s.isLt
  exact congrArg (fun y : ℝ => (y : EReal)) (if_pos (by omega)).symm

/-- And the gathered values. -/
theorem accU_step (h6 : Rep v6 (fun j s => if s < j then 1 else 0)) (hv : Rep v (fun s c => V (κ + s) c)) (hT : κ + 256 ≤ T₀)
    {run o : FVec Ideal (S2 n 128) .f32}
    (hr : Rep run (fun r _ => runS (Zof Q K) (κ + 256) (T₀ + r))) (ho : Rep o (fun r c => accS (Zof Q K) V (κ + 256) (T₀ + r) c)) :
    Rep (accU ev w v6 o run k v q) (fun r c => accS (Zof Q K) V κ (T₀ + r) c) := by
  refine accT_step (Zof Q K) V T₀ κ (fun r s => ?_) hv ho
  rw [aT_rep (R := fun r => runS (Zof Q K) (κ + 256) (T₀ + r)) ev.hcc (lsT_rep hw (zT_rep ev.hc hq hk))
    (laterT_rep h6 (lnbT_rep hw (zT_rep ev.hc hq hk))) hr r s]
  have := s.isLt
  refine congrArg (fun y : ℝ => (y : EReal)) ((if_pos (show κ + s.val < T₀ + r.val by omega)).trans ?_).symm
  refine congrArg (fun y => Real.rpow 2 (lsR (Zof Q K (T₀ + r) (κ + s)) + y + runS (Zof Q K) (κ + 256) (T₀ + r))) ?_
  refine Finset.sum_congr rfl fun j hj => ?_
  have := mem_range.mp hj
  rw [if_pos (show κ + j < T₀ + r.val by omega)]; rfl

/-- The masked logarithms of going past, where rows and keys start at the same position. -/
theorem lnbM_rep (hκ : κ = T₀) (hn : n ≤ 1024) :
    Rep (lnbM (maskT ev) w (zT ev.hc q k)) (fun r s => if κ + s < T₀ + r then lnbR (Zof Q K (T₀ + r) (κ + s)) else 0) := by
  intro r s
  refine (keep_rep (p := fun r s => s < r) (maskT_apply ev hn) (x := extf .f32 (lnbT w (zT ev.hc q k)) narrow)
    (X := fun r s => lnbR (Zof Q K (T₀ + r) (κ + s))) (fun r s => lnbT_rep hw (zT_rep ev.hc hq hk) r s) r s).trans ?_
  refine congrArg (fun y : ℝ => (y : EReal)) (if_congr (by omega) rfl rfl)

/-- A masked tile takes its rows' carried sums over the 256 keys that start where its rows start. -/
theorem runM_step (h6 : Rep v6 (fun j s => if s < j then 1 else 0)) (hκ : κ = T₀) (hn : n ≤ 1024) {run : FVec Ideal (S3 n) .f32}
    (hr : Rep3 run (fun r _ => runS (Zof Q K) (κ + 256) (T₀ + r))) :
    Rep3 (runM ev (maskT ev) w v6 run k q) (fun r _ => runS (Zof Q K) κ (T₀ + r)) :=
  uncast_rep ev (runT_step ev.hs ev.h1 ev.hb h6 (Zof Q K) T₀ κ (lnbM_rep ev hw Q K T₀ κ hk hq hκ hn) (cast_rep ev hr))

/-- And the gathered values. -/
theorem accM_step (h6 : Rep v6 (fun j s => if s < j then 1 else 0)) (hv : Rep v (fun s c => V (κ + s) c)) (hκ : κ = T₀) (hn : n ≤ 1024)
    {run o : FVec Ideal (S3 n) .f32}
    (hr : Rep3 run (fun r _ => runS (Zof Q K) (κ + 256) (T₀ + r))) (ho : Rep3 o (fun r c => accS (Zof Q K) V (κ + 256) (T₀ + r) c)) :
    Rep3 (accM ev (maskT ev) w v6 o run k v q) (fun r c => accS (Zof Q K) V κ (T₀ + r) c) := by
  refine uncast_rep ev (accT_step (Zof Q K) V T₀ κ (fun r s => ?_) hv (cast_rep ev ho))
  refine (keep_rep (p := fun r s => s < r) (maskT_apply ev hn) (aT_rep (R := fun r => runS (Zof Q K) (κ + 256) (T₀ + r)) ev.hcc
    (lsT_rep hw (zT_rep ev.hc hq hk)) (laterT_rep h6 (lnbM_rep ev hw Q K T₀ κ hk hq hκ hn)) (cast_rep ev hr)) r s).trans ?_
  refine congrArg (fun y : ℝ => (y : EReal)) (if_congr (by omega) rfl rfl)

end

/-! ## The stacks: each head's keys taken down to a position of its own -/

section
variable (Q K V : ℕ → ℕ → ℕ → ℝ) (T₀ : ℕ)

/-- The stack holds the carried sums of the 1024 rows from `T₀` on, head `h` after its keys from `κ h` on. -/
def RunRep (L : List (View.Piece (Elt Ideal) S4 .f32)) (κ : ℕ → ℕ) : Prop :=
  Rep4 (View.canon L) (fun h r _ => runS (Zof (Q h) (K h)) (κ h) (T₀ + r))

/-- The stack holds the gathered values of those rows. -/
def AccRep (L : List (View.Piece (Elt Ideal) S4 .f32)) (κ : ℕ → ℕ) : Prop :=
  Rep4 (View.canon L) (fun h r c => accS (Zof (Q h) (K h)) (V h) (κ h) (T₀ + r) c)

/-- Before any key every carried sum is zero. -/
theorem RunRep.zero {L : List (View.Piece (Elt Ideal) S4 .f32)} (hL : View.canon L = fun _ => ((0 : ℝ) : EReal)) :
    RunRep Q K T₀ L (fun _ => T₀ + 1024) := by
  intro h r c
  rw [hL]
  exact congrArg (fun y : ℝ => (y : EReal)) (runS_of_le _ (show T₀ + r ≤ T₀ + 1024 by have := r.isLt; omega)).symm

/-- Before any key every gathered value is zero. -/
theorem AccRep.zero {L : List (View.Piece (Elt Ideal) S4 .f32)} (hL : View.canon L = fun _ => ((0 : ℝ) : EReal)) :
    AccRep Q K V T₀ L (fun _ => T₀ + 1024) := by
  intro h r c
  rw [hL]
  exact congrArg (fun y : ℝ => (y : EReal)) (accS_of_le _ _ _ (show T₀ + r ≤ T₀ + 1024 by have := r.isLt; omega)).symm

variable {n : ℕ} (ev : Ev n) (h r0 : ℕ) (hn : r0 + n = 1024)
  (inb : ∀ a, (![h, r0, 0] : Fin 3 → ℕ) a + (S3 n).size a ≤ S4.size a)
  {w : Ideal .bf16} (hw : w = (((Real.log 2)⁻¹ : ℝ) : EReal)) {v6 : FVec Ideal (S2 256 256) .bf16}
  (h6 : Rep v6 (fun j s => if s < j then 1 else 0))
  {k v : FVec Ideal (S2 256 128) .bf16} (hk : Rep k (fun s d => K h (T₀ + r0 + s) d)) (hv : Rep v (fun s c => V h (T₀ + r0 + s) c))
  {LQ : List (View.Piece (Elt Ideal) S4 .bf16)} (hQ : Rep4b (View.canon LQ) (fun h r d => Q h (T₀ + r) d))
  (vq : View sig κ₀ sp S4 .bf16) (vr vo : View sig κ₀ sp S4 .f32)
  {LR LA : List (View.Piece (Elt Ideal) S4 .f32)} {κ : ℕ → ℕ} (hR : RunRep Q K T₀ LR κ) (hA : AccRep Q K V T₀ LA κ)
  (hκ : κ h = T₀ + r0 + 256)

include hn hw h6 hk hQ hR hκ in
/-- One masked tile: one head's carried sums, for the rows from `r0` on, taken down over the 256 keys that start there. -/
theorem RunRep.step :
    RunRep Q K T₀ ((⟨Rect.unit (s := S4) ![h, r0, 0] (S3 n).size inb,
      runM ev (maskT ev) w v6 (vr.readCov LR (Rect.unit (s := S4) ![h, r0, 0] (S3 n).size inb).toLoadRect) k
        (vq.readCov LQ (Rect.unit (s := S4) ![h, r0, 0] (S3 n).size inb).toLoadRect)⟩ : View.Piece (Elt Ideal) S4 .f32) :: LR)
      (Function.update κ h (T₀ + r0)) := by
  have hr := readCov_rep vr hR h r0 n inb
  simp only [hκ, ← Nat.add_assoc] at hr
  have hq := readCov_repb vq hQ h r0 n inb
  simp only [← Nat.add_assoc] at hq
  have st := runM_step ev hw (Q h) (K h) (T₀ + r0) (T₀ + r0) hk hq h6 rfl (by omega) hr
  intro h' r c
  show _ = ((runS (Zof (Q h') (K h')) (Function.update κ h (T₀ + r0) h') (T₀ + r) : ℝ) : EReal)
  have old : View.canon LR (ix3 h' r c) = ((runS (Zof (Q h') (K h')) (κ h') (T₀ + r) : ℝ) : EReal) := hR h' r c
  rw [canon_rows LR h r0 n inb _ h' r c]
  have hr' := r.isLt
  by_cases e : h'.val = h
  · by_cases e2 : r0 ≤ r.val
    · subst e
      rw [dif_pos ⟨rfl, e2, by omega⟩, st, Function.update_self]
      refine congrArg (fun y : ℝ => (y : EReal)) (congrArg (runS _ _) (by show T₀ + r0 + (r.val - r0) = _; omega))
    · rw [dif_neg (by omega), old, e, Function.update_self, runS_of_le _ (by omega), runS_of_le _ (by omega)]
  · rw [dif_neg (by omega), old, Function.update_of_ne e]

include hn hw h6 hk hv hQ hR hA hκ in
/-- One masked tile: that head's gathered values likewise. -/
theorem AccRep.step :
    AccRep Q K V T₀ ((⟨Rect.unit (s := S4) ![h, r0, 0] (S3 n).size inb,
      accM ev (maskT ev) w v6 (vo.readCov LA (Rect.unit (s := S4) ![h, r0, 0] (S3 n).size inb).toLoadRect)
        (vr.readCov LR (Rect.unit (s := S4) ![h, r0, 0] (S3 n).size inb).toLoadRect) k v
        (vq.readCov LQ (Rect.unit (s := S4) ![h, r0, 0] (S3 n).size inb).toLoadRect)⟩ : View.Piece (Elt Ideal) S4 .f32) :: LA)
      (Function.update κ h (T₀ + r0)) := by
  have hr := readCov_rep vr hR h r0 n inb
  simp only [hκ, ← Nat.add_assoc] at hr
  have ho := readCov_rep vo hA h r0 n inb
  simp only [hκ, ← Nat.add_assoc] at ho
  have hq := readCov_repb vq hQ h r0 n inb
  simp only [← Nat.add_assoc] at hq
  have st := accM_step ev hw (Q h) (K h) (V h) (T₀ + r0) (T₀ + r0) hk hq h6 hv rfl (by omega) hr ho
  intro h' r c
  show _ = ((accS (Zof (Q h') (K h')) (V h') (Function.update κ h (T₀ + r0) h') (T₀ + r) c : ℝ) : EReal)
  have old : View.canon LA (ix3 h' r c) = ((accS (Zof (Q h') (K h')) (V h') (κ h') (T₀ + r) c : ℝ) : EReal) := hA h' r c
  rw [canon_rows LA h r0 n inb _ h' r c]
  have hr' := r.isLt
  by_cases e : h'.val = h
  · by_cases e2 : r0 ≤ r.val
    · subst e
      rw [dif_pos ⟨rfl, e2, by omega⟩, st, Function.update_self]
      refine congrArg (fun y : ℝ => (y : EReal)) (congrArg (fun T => accS _ _ _ T _) (by show T₀ + r0 + (r.val - r0) = _; omega))
    · rw [dif_neg (by omega), old, e, Function.update_self, accS_of_le _ _ _ (by omega), accS_of_le _ _ _ (by omega)]
  · rw [dif_neg (by omega), old, Function.update_of_ne e]

/-- Both stacks at once. -/
structure State (LR LA : List (View.Piece (Elt Ideal) S4 .f32)) (κ : ℕ → ℕ) : Prop where
  /-- The carried sums. -/
  run : RunRep Q K T₀ LR κ
  /-- The gathered values. -/
  acc : AccRep Q K V T₀ LA κ

include hn hw h6 hk hv hQ hκ in
/-- One masked tile takes one head 256 keys further in both stacks. -/
theorem State.step (st : State Q K V T₀ LR LA κ) :
    State Q K V T₀ ((⟨Rect.unit (s := S4) ![h, r0, 0] (S3 n).size inb,
      runM ev (maskT ev) w v6 (vr.readCov LR (Rect.unit (s := S4) ![h, r0, 0] (S3 n).size inb).toLoadRect) k
        (vq.readCov LQ (Rect.unit (s := S4) ![h, r0, 0] (S3 n).size inb).toLoadRect)⟩ : View.Piece (Elt Ideal) S4 .f32) :: LR)
      ((⟨Rect.unit (s := S4) ![h, r0, 0] (S3 n).size inb,
      accM ev (maskT ev) w v6 (vo.readCov LA (Rect.unit (s := S4) ![h, r0, 0] (S3 n).size inb).toLoadRect)
        (vr.readCov LR (Rect.unit (s := S4) ![h, r0, 0] (S3 n).size inb).toLoadRect) k v
        (vq.readCov LQ (Rect.unit (s := S4) ![h, r0, 0] (S3 n).size inb).toLoadRect)⟩ : View.Piece (Elt Ideal) S4 .f32) :: LA)
      (Function.update κ h (T₀ + r0)) :=
  ⟨RunRep.step Q K T₀ ev h r0 hn inb hw h6 hk hQ vq vr st.run hκ, AccRep.step Q K V T₀ ev h r0 hn inb hw h6 hk hv hQ vq vr vo st.run st.acc hκ⟩

/-- Only the four heads' positions matter. -/
theorem State.congr {κ' : ℕ → ℕ} (st : State Q K V T₀ LR LA κ) (hh : ∀ h < 4, κ h = κ' h) : State Q K V T₀ LR LA κ' :=
  ⟨fun h r c => by rw [st.run h r c]; show ((runS _ (κ h) _ : ℝ) : EReal) = _; rw [hh h h.isLt],
    fun h r c => by rw [st.acc h r c]; show ((accS _ _ (κ h) _ _ : ℝ) : EReal) = _; rw [hh h h.isLt]⟩

end

end Cert.Proof.Tile

end

end
-- ==== Proof.Diag.lean ====
/- The query block's own keys: the sixteen masked tiles of a block and the state they leave. -/
module

public import proofs.«01_k».proof.Proof.Steps
public import proofs.«01_k».proof.Proof.Gen.KernelIdeal.Value

@[expose] public section

set_option maxRecDepth 16384

noncomputable section

namespace Cert.Proof.Diag

open Idealize.ShloMosaic Idealize.ShloMosaic.ValueIdx Idealize.SL.Sem Cert.Proof.Stick Cert.Proof.Tile
open Cert.KernelIdeal Cert.KernelIdeal.Gen

/-- A tile of 256 rows is well shaped. -/
theorem ev256 : Ev 256 := ⟨shapeCasts_S1x256x128_S256x128, shapeCasts_S256x128_S1x256x128, slices_S256x256_o0_0_S256x1, shapeCasts_S256x1_S256x1,
  broadcasts_S256x1_S256x128, concatenates_S256x128_S256x128_S256x256_d1, iota_S256x256_d0_w32, iota_S256x256_d1_w32⟩
/-- A tile of 512 rows is well shaped. -/
theorem ev512 : Ev 512 := ⟨shapeCasts_S1x512x128_S512x128, shapeCasts_S512x128_S1x512x128, slices_S512x256_o0_0_S512x1, shapeCasts_S512x1_S512x1,
  broadcasts_S512x1_S512x128, concatenates_S512x128_S512x128_S512x256_d1, iota_S512x256_d0_w32, iota_S512x256_d1_w32⟩
/-- A tile of 768 rows is well shaped. -/
theorem ev768 : Ev 768 := ⟨shapeCasts_S1x768x128_S768x128, shapeCasts_S768x128_S1x768x128, slices_S768x256_o0_0_S768x1, shapeCasts_S768x1_S768x1,
  broadcasts_S768x1_S768x128, concatenates_S768x128_S768x128_S768x256_d1, iota_S768x256_d0_w32, iota_S768x256_d1_w32⟩
/-- A tile of 1024 rows is well shaped. -/
theorem ev1024 : Ev 1024 := ⟨shapeCasts_S1x1024x128_S1024x128, shapeCasts_S1024x128_S1x1024x128, slices_S1024x256_o0_0_S1024x1, shapeCasts_S1024x1_S1024x1,
  broadcasts_S1024x1_S1024x128, concatenates_S1024x128_S1024x128_S1024x256_d1, iota_S1024x256_d0_w32, iota_S1024x256_d1_w32⟩

/-- The logarithm's change of base, as the kernel names it. -/
abbrev w0 : Ideal .bf16 := Named.named κ "log2e" 0x3FB9#16

/-- It is the reciprocal of the natural logarithm of 2. -/
theorem w0_eq : w0 = (((Real.log 2)⁻¹ : ℝ) : EReal) := by
  exact IdealRules.named_const.ideal_named_scalar _ _ _ _ rfl

/-- The 0/1 matrix of the later keys. -/
theorem later_rep : Rep (n := 256) (c := 256) (φ := .bf16) (k0_pay211 (F := Ideal)) (fun j s => if s < j then 1 else 0) := by
  intro j s
  have hj := j.isLt
  have hs := s.isLt
  show Scalar.select (IntOp.cmpi .sgt (BitVec.ofNat 32 (0 * 256 + j.val)) (BitVec.ofNat 32 (0 * 256 + s.val))) (Ideal.ofBits .f32 0x3F800000#32)
    (Ideal.ofBits .f32 0x00000000#32) = _
  rw [Nat.zero_mul, Nat.zero_add, Nat.zero_add, WordCmp.cmpi_sgt_ofNat (by omega) (by omega), zero_f32, one_f32]
  by_cases h : s.val < j.val
  · rw [decide_eq_true h]; exact congrArg (fun y : ℝ => (y : EReal)) (if_pos h).symm
  · rw [decide_eq_false h]; exact congrArg (fun y : ℝ => (y : EReal)) (if_neg h).symm

/-- The factor on the queries. -/
def qs : ℝ := (Real.sqrt 128)⁻¹ * (Real.log 2)⁻¹

/-- A block's scaled queries: head, position (the block's first is `T₀`), feature. -/
def Qf (X : ℕ → ℕ → ℝ) (T₀ : ℕ) : ℕ → ℕ → ℕ → ℝ := fun h T d => X (T - T₀) (128 * h + d) * qs

/-- The keys or the values: head, position, feature. -/
def Kf (X : ℕ → ℕ → ℝ) : ℕ → ℕ → ℕ → ℝ := fun h j d => X j (128 * h + d)

section Reads
variable {sig : RefSig} {κ₀ : Kind} {sp : Space}

/-- Reading 256 rows of one head out of a window of keys or values. -/
theorem keys_rep {m : Memref sig κ₀ sp S4096x512 .bf16} (hm : m.IsWhole) {x : Vec Ideal S4096x512 .bf16} {X : ℕ → ℕ → ℝ}
    (hx : Rep (n := 4096) (c := 512) (φ := .bf16) x X) (h b : ℕ) {off : Fin 2 → ℕ} (hoff : off = ![b, 128 * h])
    (inb : ∀ a, off a + S256x128.size a ≤ S4096x512.size a) :
    Rep (n := 256) (c := 128) (φ := .bf16)
      (View.readAt (Elt Ideal) m.view (Rect.unit (s := S4096x512) off S256x128.size inb).toLoadRect (hm.unread x)) (fun s d => Kf X h (b + s) d) := by
  subst hoff
  intro s d
  have i0 : b + 256 ≤ 4096 := inb 0
  have i1 : 128 * h + 128 ≤ 512 := inb 1
  have hs := s.isLt
  have hd := d.isLt
  refine Eq.trans ?_ (hx ⟨b + s.val, by omega⟩ ⟨128 * h + d.val, by omega⟩)
  rw [View.readAt_eq_ld, hm.read_unread]
  refine View.ld_unit_apply_of x _ _ _ _ _ fun a => ?_
  match a with
  | ⟨0, _⟩ => rfl
  | ⟨1, _⟩ => rfl

/-- One head's queries, scaled. -/
theorem queries_rep {m : Memref sig κ₀ sp S1024x512 .bf16} (hm : m.IsWhole) {x : Vec Ideal S1024x512 .bf16} {X : ℕ → ℕ → ℝ}
    (hx : Rep (n := 1024) (c := 512) (φ := .bf16) x X) (h : ℕ) {col : ℕ} (hcol : col = 128 * h)
    (inb : ∀ a, (![0, col] : Fin 2 → ℕ) a + S1024x128.size a ≤ S1024x512.size a) :
    Rep3 (n := 1024) (φ := .bf16)
      (k0_pay212 (View.readAt (Elt Ideal) m.view (Rect.unit (s := S1024x512) ![0, col] S1024x128.size inb).toLoadRect (hm.unread x)))
      (fun r d => X r (128 * h + d) * qs) := by
  subst hcol
  refine uncast_rep ev1024 fun r d => ?_
  have i1 : 128 * h + 128 ≤ 512 := inb 1
  have hd := d.isLt
  have e : x (ix2 r ⟨128 * h + d.val, by omega⟩) = ((X r (128 * h + d) : ℝ) : EReal) := hx r ⟨128 * h + d.val, by omega⟩
  show View.readAt (Elt Ideal) m.view (Rect.unit (s := S1024x512) ![0, 128 * h] S1024x128.size inb).toLoadRect (hm.unread x) (ix2 r d) * (Named.named κ "qscale" 0x3E0293EE#32 : Ideal .f32) = _
  rw [EReal.coe_mul (X r (128 * h + d)) qs, ← e, show (Named.named κ "qscale" 0x3E0293EE#32 : Ideal .f32) = ((qs : ℝ) : EReal) from
    IdealRules.named_const.ideal_named_scalar _ _ _ _ rfl]
  refine congrArg (· * _) ?_
  rw [View.readAt_eq_ld, hm.read_unread]
  refine View.ld_unit_apply_of x _ _ _ _ _ fun a => ?_
  match a with
  | ⟨0, _⟩ => show r.val = 0 + r.val; omega
  | ⟨1, _⟩ => rfl

end Reads

section Links

variable (c : Dev nD) (i : grid0.Coords) (arg3 : Memref sig .tc .vmem S1024x512 .bf16) (harg3 : arg3.IsWhole)
  (arg4 : Memref sig .tc .vmem S4096x512 .bf16) (harg4 : arg4.IsWhole) (arg5 : Memref sig .tc .vmem S4096x512 .bf16) (harg5 : arg5.IsWhole)
  (arg7 : Memref sig .tc .vmem S4x1024x128 .bf16) (arg8 : Memref sig .tc .vmem S4x1024x128 .f32) (arg9 : Memref sig .tc .vmem S4x1024x128 .f32)
  {x0 : Vec Ideal S1024x512 .bf16} {x1 x2 : Vec Ideal S4096x512 .bf16} {X0 X1 X2 : ℕ → ℕ → ℝ}
  (h0 : Rep (n := 1024) (c := 512) (φ := .bf16) x0 X0) (h1 : Rep (n := 4096) (c := 512) (φ := .bf16) x1 X1)
  (h2 : Rep (n := 4096) (c := 512) (φ := .bf16) x2 X2)

/-- The state of the two stacks for this block's heads. -/
abbrev St (LR LA : List (View.Piece (Elt Ideal) S4 .f32)) (κ : ℕ → ℕ) : Prop :=
  State (Qf X0 (1024 * (i 2).val)) (Kf X1) (Kf X2) (1024 * (i 2).val) LR LA κ

include h0 in
/-- The stack of the scaled queries. -/
theorem q_rep : Rep4b (View.canon (kernelRun0_A.sl.HS0_4 c arg3 harg3 x0)) (fun h r d => Qf X0 (1024 * (i 2).val) h (1024 * (i 2).val + r) d) := by
  intro h r d
  have q := fun h col hcol inb => queries_rep harg3 h0 h (col := col) hcol inb
  have hr := r.isLt
  have hd : ∀ g : ℕ, (((X0 r (128 * g + d) * qs : ℝ) : EReal)) = ((Qf X0 (1024 * (i 2).val) g (1024 * (i 2).val + r) d : ℝ) : EReal) := fun g => by
    rw [Qf, Nat.add_sub_cancel_left]
  refine Eq.trans ?_ (hd h)
  refine (canon_rows _ 3 0 1024 inb_S4x1024x128_S1x1024x128_3_0_0 _ h r d).trans ?_
  split_ifs with g3
  · rw [g3.1]; exact q 3 384 rfl _ r d
  refine (canon_rows _ 2 0 1024 inb_S4x1024x128_S1x1024x128_2_0_0 _ h r d).trans ?_
  split_ifs with g2
  · rw [g2.1]; exact q 2 256 rfl _ r d
  refine (canon_rows _ 1 0 1024 inb_S4x1024x128_S1x1024x128_1_0_0 _ h r d).trans ?_
  split_ifs with g1
  · rw [g1.1]; exact q 1 128 rfl _ r d
  refine (canon_rows _ 0 0 1024 inb_S4x1024x128_S1x1024x128_0_0_0 _ h r d).trans ?_
  split_ifs with g0
  · rw [g0.1]; exact q 0 0 rfl _ r d
  · exact absurd (show h.val = 0 ∧ 0 ≤ r.val ∧ r.val < 0 + 1024 by have := h.isLt; omega) g0

/-- Before any tile. -/
theorem st_zero : St i (X0 := X0) (X1 := X1) (X2 := X2) kernelRun0_A.sl.HS2_1 kernelRun0_A.sl.HS1_1 (fun _ => 1024 * (i 2).val + 1024) := by
  have z : (fun _ => Ideal.ofBits .f32 0x00000000#32 : Vec Ideal S4x1024x128 .f32) = fun _ => ((0 : ℝ) : EReal) := funext fun _ => zero_f32
  refine ⟨RunRep.zero _ _ _ ?_, AccRep.zero _ _ _ _ ?_⟩
  · refine Eq.trans (b := k0_pay217 (F := Ideal)) ?_ z
    exact View.canon_cons_unit_lit (Val := Elt Ideal) (e := .f32) (S := S4x1024x128) (off := ![0, 0, 0]) inb_S4x1024x128_S4x1024x128_0_0_0 (k0_pay217 (F := Ideal)) [] (by decide)
  · refine Eq.trans (b := k0_pay216 (F := Ideal)) ?_ z
    exact View.canon_cons_unit_lit (Val := Elt Ideal) (e := .f32) (S := S4x1024x128) (off := ![0, 0, 0]) inb_S4x1024x128_S4x1024x128_0_0_0 (k0_pay216 (F := Ideal)) [] (by decide)

include h0 h1 h2 in
/-- The four heads' tiles of the last 256 rows. -/
theorem st_768 : St i (X0 := X0) (X1 := X1) (X2 := X2) (kernelRun0_A.sl.HS2_5 c i arg3 harg3 arg4 harg4 arg7 arg9 x0 x1)
    (kernelRun0_A.sl.HS1_5 c i arg3 harg3 arg4 harg4 arg5 harg5 arg7 arg8 arg9 x0 x1 x2) (fun _ => 1024 * (i 2).val + 768) := by
  have q := q_rep c i arg3 harg3 h0
  have k := fun h off hoff inb => keys_rep harg4 h1 h (1024 * (i 2).val + 768) (off := off) hoff inb
  have v := fun h off hoff inb => keys_rep harg5 h2 h (1024 * (i 2).val + 768) (off := off) hoff inb
  have s0 := st_zero i (X0 := X0) (X1 := X1) (X2 := X2)
  have s1 := s0.step _ _ _ _ ev256 0 768 rfl inb_S4x1024x128_S1x256x128_0_768_0 w0_eq later_rep
    (k 0 _ (k0_off1_eq i 3) (k0_off1_inb i 3)) (v 0 _ (k0_off1_eq i 3) (k0_off1_inb i 3)) q arg7.view arg9.view arg8.view rfl
  have s2 := s1.step _ _ _ _ ev256 1 768 rfl inb_S4x1024x128_S1x256x128_1_768_0 w0_eq later_rep
    (k 1 _ (k0_off2_eq i 3) (k0_off2_inb i 3)) (v 1 _ (k0_off2_eq i 3) (k0_off2_inb i 3)) q arg7.view arg9.view arg8.view rfl
  have s3 := s2.step _ _ _ _ ev256 2 768 rfl inb_S4x1024x128_S1x256x128_2_768_0 w0_eq later_rep
    (k 2 _ (k0_off3_eq i 3) (k0_off3_inb i 3)) (v 2 _ (k0_off3_eq i 3) (k0_off3_inb i 3)) q arg7.view arg9.view arg8.view rfl
  have s4 := s3.step _ _ _ _ ev256 3 768 rfl inb_S4x1024x128_S1x256x128_3_768_0 w0_eq later_rep
    (k 3 _ (k0_off4_eq i 3) (k0_off4_inb i 3)) (v 3 _ (k0_off4_eq i 3) (k0_off4_inb i 3)) q arg7.view arg9.view arg8.view rfl
  refine s4.congr _ _ _ _ fun h hh => ?_
  interval_cases h <;> rfl

include h0 h1 h2 in
/-- Then those of the last 512 rows. -/
theorem st_512 : St i (X0 := X0) (X1 := X1) (X2 := X2) (kernelRun0_A.sl.HS2_9 c i arg3 harg3 arg4 harg4 arg7 arg9 x0 x1)
    (kernelRun0_A.sl.HS1_9 c i arg3 harg3 arg4 harg4 arg5 harg5 arg7 arg8 arg9 x0 x1 x2) (fun _ => 1024 * (i 2).val + 512) := by
  have q := q_rep c i arg3 harg3 h0
  have k := fun h off hoff inb => keys_rep harg4 h1 h (1024 * (i 2).val + 512) (off := off) hoff inb
  have v := fun h off hoff inb => keys_rep harg5 h2 h (1024 * (i 2).val + 512) (off := off) hoff inb
  have s0 := st_768 c i arg3 harg3 arg4 harg4 arg5 harg5 arg7 arg8 arg9 h0 h1 h2
  have s1 := s0.step _ _ _ _ ev512 0 512 rfl inb_S4x1024x128_S1x512x128_0_512_0 w0_eq later_rep
    (k 0 _ (k0_off1_eq i 2) (k0_off1_inb i 2)) (v 0 _ (k0_off1_eq i 2) (k0_off1_inb i 2)) q arg7.view arg9.view arg8.view rfl
  have s2 := s1.step _ _ _ _ ev512 1 512 rfl inb_S4x1024x128_S1x512x128_1_512_0 w0_eq later_rep
    (k 1 _ (k0_off2_eq i 2) (k0_off2_inb i 2)) (v 1 _ (k0_off2_eq i 2) (k0_off2_inb i 2)) q arg7.view arg9.view arg8.view rfl
  have s3 := s2.step _ _ _ _ ev512 2 512 rfl inb_S4x1024x128_S1x512x128_2_512_0 w0_eq later_rep
    (k 2 _ (k0_off3_eq i 2) (k0_off3_inb i 2)) (v 2 _ (k0_off3_eq i 2) (k0_off3_inb i 2)) q arg7.view arg9.view arg8.view rfl
  have s4 := s3.step _ _ _ _ ev512 3 512 rfl inb_S4x1024x128_S1x512x128_3_512_0 w0_eq later_rep
    (k 3 _ (k0_off4_eq i 2) (k0_off4_inb i 2)) (v 3 _ (k0_off4_eq i 2) (k0_off4_inb i 2)) q arg7.view arg9.view arg8.view rfl
  refine s4.congr _ _ _ _ fun h hh => ?_
  interval_cases h <;> rfl

include h0 h1 h2 in
/-- Then those of the last 768 rows. -/
theorem st_256 : St i (X0 := X0) (X1 := X1) (X2 := X2) (kernelRun0_A.sl.HS2_13 c i arg3 harg3 arg4 harg4 arg7 arg9 x0 x1)
    (kernelRun0_A.sl.HS1_13 c i arg3 harg3 arg4 harg4 arg5 harg5 arg7 arg8 arg9 x0 x1 x2) (fun _ => 1024 * (i 2).val + 256) := by
  have q := q_rep c i arg3 harg3 h0
  have k := fun h off hoff inb => keys_rep harg4 h1 h (1024 * (i 2).val + 256) (off := off) hoff inb
  have v := fun h off hoff inb => keys_rep harg5 h2 h (1024 * (i 2).val + 256) (off := off) hoff inb
  have s0 := st_512 c i arg3 harg3 arg4 harg4 arg5 harg5 arg7 arg8 arg9 h0 h1 h2
  have s1 := s0.step _ _ _ _ ev768 0 256 rfl inb_S4x1024x128_S1x768x128_0_256_0 w0_eq later_rep
    (k 0 _ (k0_off1_eq i 1) (k0_off1_inb i 1)) (v 0 _ (k0_off1_eq i 1) (k0_off1_inb i 1)) q arg7.view arg9.view arg8.view rfl
  have s2 := s1.step _ _ _ _ ev768 1 256 rfl inb_S4x1024x128_S1x768x128_1_256_0 w0_eq later_rep
    (k 1 _ (k0_off2_eq i 1) (k0_off2_inb i 1)) (v 1 _ (k0_off2_eq i 1) (k0_off2_inb i 1)) q arg7.view arg9.view arg8.view rfl
  have s3 := s2.step _ _ _ _ ev768 2 256 rfl inb_S4x1024x128_S1x768x128_2_256_0 w0_eq later_rep
    (k 2 _ (k0_off3_eq i 1) (k0_off3_inb i 1)) (v 2 _ (k0_off3_eq i 1) (k0_off3_inb i 1)) q arg7.view arg9.view arg8.view rfl
  have s4 := s3.step _ _ _ _ ev768 3 256 rfl inb_S4x1024x128_S1x768x128_3_256_0 w0_eq later_rep
    (k 3 _ (k0_off4_eq i 1) (k0_off4_inb i 1)) (v 3 _ (k0_off4_eq i 1) (k0_off4_inb i 1)) q arg7.view arg9.view arg8.view rfl
  refine s4.congr _ _ _ _ fun h hh => ?_
  interval_cases h <;> rfl

include h0 h1 h2 in
/-- Then those of all rows. -/
theorem st_0 : St i (X0 := X0) (X1 := X1) (X2 := X2) (kernelRun0_A.sl.HS2_17 c i arg3 harg3 arg4 harg4 arg7 arg9 x0 x1)
    (kernelRun0_A.sl.HS1_17 c i arg3 harg3 arg4 harg4 arg5 harg5 arg7 arg8 arg9 x0 x1 x2) (fun _ => 1024 * (i 2).val + 0) := by
  have q := q_rep c i arg3 harg3 h0
  have k := fun h off hoff inb => keys_rep harg4 h1 h (1024 * (i 2).val + 0) (off := off) hoff inb
  have v := fun h off hoff inb => keys_rep harg5 h2 h (1024 * (i 2).val + 0) (off := off) hoff inb
  have s0 := st_256 c i arg3 harg3 arg4 harg4 arg5 harg5 arg7 arg8 arg9 h0 h1 h2
  have s1 := s0.step _ _ _ _ ev1024 0 0 rfl inb_S4x1024x128_S1x1024x128_0_0_0 w0_eq later_rep
    (k 0 _ (k0_off1_eq i 0) (k0_off1_inb i 0)) (v 0 _ (k0_off1_eq i 0) (k0_off1_inb i 0)) q arg7.view arg9.view arg8.view rfl
  have s2 := s1.step _ _ _ _ ev1024 1 0 rfl inb_S4x1024x128_S1x1024x128_1_0_0 w0_eq later_rep
    (k 1 _ (k0_off2_eq i 0) (k0_off2_inb i 0)) (v 1 _ (k0_off2_eq i 0) (k0_off2_inb i 0)) q arg7.view arg9.view arg8.view rfl
  have s3 := s2.step _ _ _ _ ev1024 2 0 rfl inb_S4x1024x128_S1x1024x128_2_0_0 w0_eq later_rep
    (k 2 _ (k0_off3_eq i 0) (k0_off3_inb i 0)) (v 2 _ (k0_off3_eq i 0) (k0_off3_inb i 0)) q arg7.view arg9.view arg8.view rfl
  have s4 := s3.step _ _ _ _ ev1024 3 0 rfl inb_S4x1024x128_S1x1024x128_3_0_0 w0_eq later_rep
    (k 3 _ (k0_off4_eq i 0) (k0_off4_inb i 0)) (v 3 _ (k0_off4_eq i 0) (k0_off4_inb i 0)) q arg7.view arg9.view arg8.view rfl
  refine s4.congr _ _ _ _ fun h hh => ?_
  interval_cases h <;> rfl

end Links

end Cert.Proof.Diag

end

end
-- ==== Proof.Loop.lean ====
/- The earlier keys: the loop over the blocks before the query block, its trips of four tiles for each of four heads. -/
module

public import proofs.«01_k».proof.Proof.Diag

@[expose] public section

set_option maxRecDepth 16384

noncomputable section

namespace Cert.Proof.Diag

open Idealize.ShloMosaic Idealize.ShloMosaic.ValueIdx Idealize.SL.Sem Cert.Proof.Stick Cert.Proof.Tile
open Cert.KernelIdeal Cert.KernelIdeal.Gen

/-- The loop runs once for each earlier block. -/
theorem trips_eq : ∀ i : grid0.Coords, (k0_t1_loop i).trips = (i 2).val := by decide +kernel

/-- Where the first head's keys and values of a trip's tile lie. -/
theorem off5_eq : ∀ (i : grid0.Coords) (k : Fin (k0_t1_loop i).trips) (r : Fin 4),
    k0_off5 i k (BitVec.ofNat 32 r.val) = ![1024 * ((i 2).val - k.val) - 256 * (r.val + 1), 128 * 0] := by decide +kernel
/-- And the second head's. -/
theorem off6_eq : ∀ (i : grid0.Coords) (k : Fin (k0_t1_loop i).trips) (r : Fin 4),
    k0_off6 i k (BitVec.ofNat 32 r.val) = ![1024 * ((i 2).val - k.val) - 256 * (r.val + 1), 128 * 1] := by decide +kernel
/-- And the third head's. -/
theorem off7_eq : ∀ (i : grid0.Coords) (k : Fin (k0_t1_loop i).trips) (r : Fin 4),
    k0_off7 i k (BitVec.ofNat 32 r.val) = ![1024 * ((i 2).val - k.val) - 256 * (r.val + 1), 128 * 2] := by decide +kernel
/-- And the fourth head's. -/
theorem off8_eq : ∀ (i : grid0.Coords) (k : Fin (k0_t1_loop i).trips) (r : Fin 4),
    k0_off8 i k (BitVec.ofNat 32 r.val) = ![1024 * ((i 2).val - k.val) - 256 * (r.val + 1), 128 * 3] := by decide +kernel

section
variable (Q K V : ℕ → ℕ → ℕ → ℝ) (T₀ : ℕ)

/-- A head's carried sums and gathered values after its keys from `κ` on. -/
structure Pair (h κ : ℕ) (run o : FVec Ideal (S2 1024 128) .f32) : Prop where
  /-- The carried sums. -/
  run : Rep run (fun r _ => runS (Zof (Q h) (K h)) κ (T₀ + r))
  /-- The gathered values. -/
  acc : Rep o (fun r c => accS (Zof (Q h) (K h)) (V h) κ (T₀ + r) c)

/-- One tile of 256 earlier keys. -/
theorem Pair.step {h κ κ' : ℕ} {run o : FVec Ideal (S2 1024 128) .f32} (p : Pair Q K V T₀ h κ run o) (hκ : κ = κ' + 256) (hT : κ ≤ T₀)
    {k v : FVec Ideal (S2 256 128) .bf16} {q : FVec Ideal (S3 1024) .bf16} (hk : Rep k (fun s d => K h (κ' + s) d))
    (hv : Rep v (fun s d => V h (κ' + s) d)) (hq : Rep3 q (fun r d => Q h (T₀ + r) d)) :
    Pair Q K V T₀ h κ' (runU ev1024 w0 k0_pay211 run k q) (accU ev1024 w0 k0_pay211 o run k v q) := by
  subst hκ
  exact ⟨runU_step ev1024 w0_eq (Q h) (K h) T₀ κ' hk hq later_rep hT p.run, accU_step ev1024 w0_eq (Q h) (K h) (V h) T₀ κ' hk hq later_rep hv hT p.run p.acc⟩

/-- What the loop carries: four heads' gathered values and carried sums. -/
abbrev Carried : Type := FVec Ideal S1024x128 .f32 × FVec Ideal S1024x128 .f32 × FVec Ideal S1024x128 .f32 × FVec Ideal S1024x128 .f32
  × FVec Ideal S1024x128 .f32 × FVec Ideal S1024x128 .f32 × FVec Ideal S1024x128 .f32 × FVec Ideal S1024x128 .f32

/-- Every head after its keys from `κ` on. -/
structure Heads (κ : ℕ) (a : Carried) : Prop where
  /-- The first head. -/
  h0 : Pair Q K V T₀ 0 κ a.2.1 a.1
  /-- The second head. -/
  h1 : Pair Q K V T₀ 1 κ a.2.2.2.1 a.2.2.1
  /-- The third head. -/
  h2 : Pair Q K V T₀ 2 κ a.2.2.2.2.2.1 a.2.2.2.2.1
  /-- The fourth head. -/
  h3 : Pair Q K V T₀ 3 κ a.2.2.2.2.2.2.2 a.2.2.2.2.2.2.1

end

section Trips

variable (c : Dev nD) (i : grid0.Coords) (arg3 : Memref sig .tc .vmem S1024x512 .bf16) (harg3 : arg3.IsWhole)
  (arg4 : Memref sig .tc .vmem S4096x512 .bf16) (harg4 : arg4.IsWhole) (arg5 : Memref sig .tc .vmem S4096x512 .bf16) (harg5 : arg5.IsWhole)
  (arg6 : Memref sig .tc .vmem S1024x512 .bf16) (harg6 : arg6.IsWhole)
  (arg7 : Memref sig .tc .vmem S4x1024x128 .bf16) (harg7 : arg7.IsWhole) (arg8 : Memref sig .tc .vmem S4x1024x128 .f32) (harg8 : arg8.IsWhole)
  (arg9 : Memref sig .tc .vmem S4x1024x128 .f32) (harg9 : arg9.IsWhole)
  {x0 : Vec Ideal S1024x512 .bf16} {x1 x2 : Vec Ideal S4096x512 .bf16} {X0 X1 X2 : ℕ → ℕ → ℝ}
  (h0 : Rep (n := 1024) (c := 512) (φ := .bf16) x0 X0) (h1 : Rep (n := 4096) (c := 512) (φ := .bf16) x1 X1)
  (h2 : Rep (n := 4096) (c := 512) (φ := .bf16) x2 X2)

/-- The block's heads after their keys from `κ` on. -/
abbrev Hd (κ : ℕ) (a : Carried) : Prop := Heads (Qf X0 (1024 * (i 2).val)) (Kf X1) (Kf X2) (1024 * (i 2).val) κ a

include h0 h1 h2 in
/-- One trip takes every head 1024 keys further. -/
theorem trip_step (a2 : BitVec 32) (v893 : FVec Ideal S1024x128 .f32) (k : Fin (k0_t1_loop i).trips) (a : Carried)
    (ha : Hd i (X0 := X0) (X1 := X1) (X2 := X2) (1024 * ((i 2).val - k.val)) a) :
    Hd i (X0 := X0) (X1 := X1) (X2 := X2) (1024 * ((i 2).val - (k.val + 1)))
      (tripR_k0_t1 (F := Ideal) Variants.none c none i arg3 harg3 arg4 harg4 arg5 harg5 arg6 harg6 arg7 harg7 arg8 harg8 arg9 harg9 a2 k0_pay211 v893
        (harg4.unread x1) (harg5.unread x2) (arg7.view.writes (Elt Ideal) arg7.view.junk (kernelRun0_A.sl.HS0_4 c arg3 harg3 x0)) k a) := by
  have hk : k.val < (i 2).val := (trips_eq i) ▸ k.isLt
  have q := fun h inb => readCov_repb arg7.view (q_rep c i arg3 harg3 h0) h 0 1024 inb
  simp only [Nat.zero_add] at q
  have tile := fun (h : ℕ) (r : Fin 4) run o (off : Fin 2 → ℕ) (hoff : off = ![1024 * ((i 2).val - k.val) - 256 * (r.val + 1), 128 * h]) inb inbq
      (p : Pair (Qf X0 (1024 * (i 2).val)) (Kf X1) (Kf X2) (1024 * (i 2).val) h (1024 * ((i 2).val - k.val) - 256 * r.val) run o) =>
    p.step _ _ _ _ (κ' := 1024 * ((i 2).val - k.val) - 256 * (r.val + 1)) (by have := r.isLt; omega) (by omega)
      (keys_rep harg4 h1 h _ hoff inb) (keys_rep harg5 h2 h _ hoff inb) (q h inbq)
  have head := fun (h : ℕ) run o (off : BitVec 32 → Fin 2 → ℕ)
      (hoff : ∀ r : Fin 4, off (BitVec.ofNat 32 r.val) = ![1024 * ((i 2).val - k.val) - 256 * (r.val + 1), 128 * h])
      (inb : ∀ (r : Fin 4) a, off (BitVec.ofNat 32 r.val) a + S256x128.size a ≤ S4096x512.size a) inbq
      (p : Pair (Qf X0 (1024 * (i 2).val)) (Kf X1) (Kf X2) (1024 * (i 2).val) h (1024 * ((i 2).val - k.val)) run o) =>
    tile h 3 _ _ _ (hoff 3) (inb 3) inbq (tile h 2 _ _ _ (hoff 2) (inb 2) inbq (tile h 1 _ _ _ (hoff 1) (inb 1) inbq
      (tile h 0 _ _ _ (hoff 0) (inb 0) inbq p)))
  have e : 1024 * ((i 2).val - (k.val + 1)) = 1024 * ((i 2).val - k.val) - 256 * ((3 : Fin 4).val + 1) := by
    show _ = 1024 * ((i 2).val - k.val) - 1024; omega
  rw [e]
  unfold tripR_k0_t1
  unfold trip_k0_t1
  exact ⟨head 0 _ _ (k0_off5 i k) (off5_eq i k) (k0_off5_inb i k) inb_S4x1024x128_S1x1024x128_0_0_0 ha.h0,
    head 1 _ _ (k0_off6 i k) (off6_eq i k) (k0_off6_inb i k) inb_S4x1024x128_S1x1024x128_1_0_0 ha.h1,
    head 2 _ _ (k0_off7 i k) (off7_eq i k) (k0_off7_inb i k) inb_S4x1024x128_S1x1024x128_2_0_0 ha.h2,
    head 3 _ _ (k0_off8 i k) (off8_eq i k) (k0_off8_inb i k) inb_S4x1024x128_S1x1024x128_3_0_0 ha.h3⟩

include h0 h1 h2 in
/-- After the trips, every head has all its keys. -/
theorem trips_all (a2 : BitVec 32) (v893 : FVec Ideal S1024x128 .f32) (a : Carried)
    (ha : Hd i (X0 := X0) (X1 := X1) (X2 := X2) (1024 * (i 2).val) a) (m : ℕ) (hm : m ≤ (i 2).val) :
    Hd i (X0 := X0) (X1 := X1) (X2 := X2) (1024 * ((i 2).val - m))
      (st_k0_t1 (F := Ideal) Variants.none c none i arg3 harg3 arg4 harg4 arg5 harg5 arg6 harg6 arg7 harg7 arg8 harg8 arg9 harg9 a2 k0_pay211 v893
        (harg4.unread x1) (harg5.unread x2) (arg7.view.writes (Elt Ideal) arg7.view.junk (kernelRun0_A.sl.HS0_4 c arg3 harg3 x0)) a m) := by
  induction m with
  | zero => exact ha
  | succ m ih =>
    have hlt : m < (k0_t1_loop i).trips := by rw [trips_eq]; omega
    rw [st_k0_t1_succ (F := Ideal) _ _ _ _ _ _ _ _ _ _ _ _ _ _ _ _ _ _ _ _ _ _ _ _ _ ⟨m, hlt⟩]
    exact trip_step c i arg3 harg3 arg4 harg4 arg5 harg5 arg6 harg6 arg7 harg7 arg8 harg8 arg9 harg9 h0 h1 h2 a2 v893 ⟨m, hlt⟩ _ (ih (by omega))

end Trips

end Cert.Proof.Diag

end

end
-- ==== Proof.Block.lean ====
/- What one grid point leaves in its block of the result. -/
module

public import proofs.«01_k».proof.Proof.Loop

@[expose] public section

set_option maxRecDepth 16384

noncomputable section

namespace Cert.Proof.Diag

open Idealize.ShloMosaic Idealize.ShloMosaic.ValueIdx Idealize.SL.Sem Cert.Proof.Stick Cert.Proof.Tile
open Cert.KernelIdeal Cert.KernelIdeal.Gen

/-- The four heads' gathered values side by side. -/
theorem concat_rep {Q K V : ℕ → ℕ → ℕ → ℝ} {T₀ κ : ℕ} {a : Carried} (ha : Heads Q K V T₀ κ a) :
    Rep (n := 1024) (c := 512) (φ := .bf16) (k0_pay369 a.1 a.2.2.1 a.2.2.2.2.1 a.2.2.2.2.2.2.1)
      (fun r s => accS (Zof (Q (s / 128)) (K (s / 128))) (V (s / 128)) κ (T₀ + r) (s % 128)) := by
  intro r s
  have hs := s.isLt
  have hm : s.val % 128 < 128 := by omega
  have piece := fun (k : ℕ) (hk : k < 4) (x : FVec Ideal S1024x128 .f32) hx hpre (h : s.val / 128 = k) =>
    concatenate_apply_piece (t := S1024x512) 1
      [⟨S1024x128, a.1⟩, ⟨S1024x128, a.2.2.1⟩, ⟨S1024x128, a.2.2.2.2.1⟩, ⟨S1024x128, a.2.2.2.2.2.2.1⟩]
      concatenates_S1024x128_S1024x128_S1024x128_S1024x128_S1024x512_d1 (ix2 r s) k hk S1024x128 x hx rfl (128 * k) hpre
      (ix2 r ⟨s.val % 128, hm⟩) (fun b hb => match b, hb with | ⟨0, _⟩, _ => rfl | ⟨1, _⟩, hb => absurd rfl hb)
      (show 128 * k + s.val % 128 = s.val by omega)
  have hq : s.val / 128 < 4 := by omega
  show concatenate S1024x512 1 [⟨S1024x128, a.1⟩, ⟨S1024x128, a.2.2.1⟩, ⟨S1024x128, a.2.2.2.2.1⟩, ⟨S1024x128, a.2.2.2.2.2.2.1⟩]
    concatenates_S1024x128_S1024x128_S1024x128_S1024x128_S1024x512_d1 (ix2 r s)
    = ((accS (Zof (Q (s.val / 128)) (K (s.val / 128))) (V (s.val / 128)) κ (T₀ + r) (s.val % 128) : ℝ) : EReal)
  generalize hh : s.val / 128 = h at hq ⊢
  interval_cases h
  · exact (piece 0 (by omega) a.1 rfl rfl hh).trans (ha.h0.acc r ⟨_, hm⟩)
  · exact (piece 1 (by omega) a.2.2.1 rfl rfl hh).trans (ha.h1.acc r ⟨_, hm⟩)
  · exact (piece 2 (by omega) a.2.2.2.2.1 rfl rfl hh).trans (ha.h2.acc r ⟨_, hm⟩)
  · exact (piece 3 (by omega) a.2.2.2.2.2.2.1 rfl rfl hh).trans (ha.h3.acc r ⟨_, hm⟩)

section Whole

variable (c : Dev nD) (i : grid0.Coords) (arg3 : Memref sig .tc .vmem S1024x512 .bf16) (harg3 : arg3.IsWhole)
  (arg4 : Memref sig .tc .vmem S4096x512 .bf16) (harg4 : arg4.IsWhole) (arg5 : Memref sig .tc .vmem S4096x512 .bf16) (harg5 : arg5.IsWhole)
  (arg6 : Memref sig .tc .vmem S1024x512 .bf16) (harg6 : arg6.IsWhole)
  (arg7 : Memref sig .tc .vmem S4x1024x128 .bf16) (harg7 : arg7.IsWhole) (arg8 : Memref sig .tc .vmem S4x1024x128 .f32) (harg8 : arg8.IsWhole)
  (arg9 : Memref sig .tc .vmem S4x1024x128 .f32) (harg9 : arg9.IsWhole)
  {x0 : Vec Ideal S1024x512 .bf16} {x1 x2 : Vec Ideal S4096x512 .bf16} {X0 X1 X2 : ℕ → ℕ → ℝ}
  (h0 : Rep (n := 1024) (c := 512) (φ := .bf16) x0 X0) (h1 : Rep (n := 4096) (c := 512) (φ := .bf16) x1 X1)
  (h2 : Rep (n := 4096) (c := 512) (φ := .bf16) x2 X2)

/-- The clean-up loop after the whole blocks has no trip. -/
theorem no_trips : ∀ i : grid0.Coords, Scf.trips (k0_t2_loop i).lb (k0_t2_loop i).ub (k0_t2_loop i).st = 0 :=
  fun i => Nat.le_zero.mp (k0_t2_abs i).2.1

include h0 h1 h2 in
/-- One head's stacks, read as what the loop starts from. -/
theorem start_rep (h : ℕ) (inb : ∀ a, (![h, 0, 0] : Fin 3 → ℕ) a + (S3 1024).size a ≤ S4.size a) :
    Pair (Qf X0 (1024 * (i 2).val)) (Kf X1) (Kf X2) (1024 * (i 2).val) h (1024 * (i 2).val)
      (shapeCast (S2 1024 128) (arg9.view.readCov (kernelRun0_A.sl.HS2_17 c i arg3 harg3 arg4 harg4 arg7 arg9 x0 x1)
        (Rect.unit (s := S4) ![h, 0, 0] (S3 1024).size inb).toLoadRect) ev1024.hc)
      (shapeCast (S2 1024 128) (arg8.view.readCov (kernelRun0_A.sl.HS1_17 c i arg3 harg3 arg4 harg4 arg5 harg5 arg7 arg8 arg9 x0 x1 x2)
        (Rect.unit (s := S4) ![h, 0, 0] (S3 1024).size inb).toLoadRect) ev1024.hc) := by
  have s := st_0 c i arg3 harg3 arg4 harg4 arg5 harg5 arg7 arg8 arg9 h0 h1 h2
  have hr := readCov_rep arg9.view s.run h 0 1024 inb
  have ho := readCov_rep arg8.view s.acc h 0 1024 inb
  simp only [Nat.zero_add, Nat.add_zero] at hr ho
  exact ⟨cast_rep ev1024 hr, cast_rep ev1024 ho⟩

include h0 h1 h2 in
/-- What the point computes for its block: each row's gathered values of all its keys. -/
theorem result_rep :
    Rep (n := 1024) (c := 512) (φ := .bf16)
      (kernelRun0_A.sl.r_63 c i arg3 harg3 arg4 harg4 arg5 harg5 arg6 harg6 arg7 harg7 arg8 harg8 arg9 harg9 x0 x1 x2)
      (fun r s => accS (Zof (Qf X0 (1024 * (i 2).val) (s / 128)) (Kf X1 (s / 128))) (Kf X2 (s / 128)) 0 (1024 * (i 2).val + r) (s % 128)) := by
  have st := fun h inb => start_rep c i arg3 harg3 arg4 harg4 arg5 harg5 arg7 arg8 arg9 h0 h1 h2 h inb
  have fin := fun a2 v893 a ha => trips_all c i arg3 harg3 arg4 harg4 arg5 harg5 arg6 harg6 arg7 harg7 arg8 harg8 arg9 harg9 h0 h1 h2 a2 v893 a ha
    (k0_t1_loop i).trips (trips_eq i).le
  simp only [trips_eq, Nat.sub_self, Nat.mul_zero] at fin
  unfold kernelRun0_A.sl.r_63
  rw [no_trips i]
  refine concat_rep (κ := 0) ?_
  have tr : Scf.trips (k0_t1_loop i).lb (k0_t1_loop i).ub (k0_t1_loop i).st = (i 2).val := trips_eq i
  rw [tr]
  exact fin _ _ _ ⟨st 0 inb_S4x1024x128_S1x1024x128_0_0_0, st 1 inb_S4x1024x128_S1x1024x128_1_0_0, st 2 inb_S4x1024x128_S1x1024x128_2_0_0,
    st 3 inb_S4x1024x128_S1x1024x128_3_0_0⟩

include h0 h1 h2 in
/-- And it is what the point leaves in its block. -/
theorem out_rep :
    Rep (n := 1024) (c := 512) (φ := .bf16)
      (out0_A_3 c i arg3 harg3 arg4 harg4 arg5 harg5 arg6 harg6 arg7 harg7 arg8 harg8 arg9 harg9 x0 x1 x2)
      (fun r s => accS (Zof (Qf X0 (1024 * (i 2).val) (s / 128)) (Kf X1 (s / 128))) (Kf X2 (s / 128)) 0 (1024 * (i 2).val + r) (s % 128)) := by
  have e : out0_A_3 c i arg3 harg3 arg4 harg4 arg5 harg5 arg6 harg6 arg7 harg7 arg8 harg8 arg9 harg9 x0 x1 x2
      = kernelRun0_A.sl.r_63 c i arg3 harg3 arg4 harg4 arg5 harg5 arg6 harg6 arg7 harg7 arg8 harg8 arg9 harg9 x0 x1 x2 := by
    unfold out0_A_3
    rw [View.read_writes_junk_eq_canon]
    unfold kernelRun0_A
    dsimp only
    exact View.canon_cons_unit_lit _ _ _ (by decide)
  rw [e]
  exact result_rep c i arg3 harg3 arg4 harg4 arg5 harg5 arg6 harg6 arg7 harg7 arg8 harg8 arg9 harg9 h0 h1 h2

end Whole

end Cert.Proof.Diag

end

end
-- ==== Proof.Array.lean ====
/- The whole array the grid leaves: every row, every head. -/
module

public import proofs.«01_k».proof.Proof.Block
public import proofs.«01_k».proof.Proof.Gen.KernelIdeal.Value
public import Idealize.ShloMosaic.Lib.Pipeline.ValueKit.Geometry

@[expose] public section

set_option maxRecDepth 16384

noncomputable section

namespace Cert.Proof.Array

open Idealize.ShloMosaic Idealize.ShloMosaic.TcCoe Idealize.ShloMosaic.ValueIdx Idealize.SL.Sem Finset
open Cert.Proof.Stick Cert.Proof.Tile Cert.Proof.Diag
open Cert.KernelIdeal Cert.KernelIdeal.Gen

/-- The base-2 logits of batch `b`, head `H`: query position, key position. -/
def Zb (U : ℕ → ℕ → ℝ) (b H : ℕ) : ℕ → ℕ → ℝ :=
  Zof (fun T d => U (4096 * b + T) (128 * H + d) * qs) (fun j d => U (4096 * b + j) (2048 + (128 * H + d)))

/-- The values of batch `b`, head `H`: position, feature. -/
def Vb (U : ℕ → ℕ → ℝ) (b H : ℕ) : ℕ → ℕ → ℝ := fun j d => U (4096 * b + j) (4096 + (128 * H + d))

/-- Stick-breaking attention of the rows `U`: token row, output column. -/
def attn (U : ℕ → ℕ → ℝ) (R C : ℕ) : ℝ :=
  accS (Zb U (R / 4096) (C / 128)) (Vb U (R / 4096) (C / 128)) 0 (R % 4096) (C % 128)

/-- A row gathers the same where its logits and its values are the same. -/
theorem accS_congr {Z Z' V V' : ℕ → ℕ → ℝ} {κ T c : ℕ} (hZ : ∀ j, Z T j = Z' T j) (hV : ∀ j, V j c = V' j c) :
    accS Z V κ T c = accS Z' V' κ T c := by
  unfold accS wgt
  simp only [hZ, hV]

/-- Where the grid's points lie, and which blocks they read and write. -/
theorem index_all : ∀ t : Fin grid0.N,
    (win0_0.index t 0 = (grid0.coords t 0).val * 4 + (grid0.coords t 2).val ∧ win0_0.index t 1 = (grid0.coords t 1).val)
    ∧ (win0_1.index t 0 = (grid0.coords t 0).val ∧ win0_1.index t 1 = 4 + (grid0.coords t 1).val)
    ∧ (win0_2.index t 0 = (grid0.coords t 0).val ∧ win0_2.index t 1 = 8 + (grid0.coords t 1).val)
    ∧ (win0_3.index t 0 = (grid0.coords t 0).val * 4 + (grid0.coords t 2).val ∧ win0_3.index t 1 = (grid0.coords t 1).val)
    ∧ (grid0.coords t 0).val < 8 ∧ (grid0.coords t 1).val < 4 ∧ (grid0.coords t 2).val < 4 := by
  decide +kernel

variable (m : (ℓ : Loc nD τ sig) → Buf (Elt Ideal) ℓ)

/-- The rows of core `c` hold these real numbers. -/
abbrev Rows (c : Dev nD) (U : ℕ → ℕ → ℝ) : Prop :=
  Rep (n := 32768) (c := 6144) (φ := .bf16) (m ((c : Thread nD τ).loc main_arg0)) U

variable {m} {c : Dev nD} {U : ℕ → ℕ → ℝ} (hU : Rows m c U)
include hU

/-- The rows at an index given by its two coordinates. -/
theorem rows_at (x : S32768x6144.Idx) : m ((c : Thread nD τ).loc main_arg0) x = ((U (x 0).val (x 1).val : ℝ) : EReal) := by
  have := hU (x 0) (x 1)
  rwa [show (ix2 (x 0) (x 1) : S32768x6144.Idx) = x from (ValueIdx.eq_ix2 x).symm] at this

/-- A point's block of queries. -/
theorem blk_q (t : Fin cfg0.N) : Rep (n := 1024) (c := 512) (φ := .bf16) (iblk (F := Ideal) m c 0 t)
    (fun r s => U (((grid0.coords t 0).val * 4 + (grid0.coords t 2).val) * 1024 + r) ((grid0.coords t 1).val * 512 + s)) := by
  intro r s
  obtain ⟨⟨e0, e1⟩, -⟩ := index_all t
  unfold iblk
  rw [View.read_apply]
  refine (rows_at hU _).trans ?_
  show ((U (win0_0.index t 0 * 1024 + 1 * r.val) (win0_0.index t 1 * 512 + 1 * s.val) : ℝ) : EReal) = _
  rw [e0, e1, one_mul, one_mul]

/-- A point's block of keys. -/
theorem blk_k (t : Fin cfg0.N) : Rep (n := 4096) (c := 512) (φ := .bf16) (iblk (F := Ideal) m c 1 t)
    (fun r s => U ((grid0.coords t 0).val * 4096 + r) ((4 + (grid0.coords t 1).val) * 512 + s)) := by
  intro r s
  obtain ⟨-, ⟨e0, e1⟩, -⟩ := index_all t
  unfold iblk
  rw [View.read_apply]
  refine (rows_at hU _).trans ?_
  show ((U (win0_1.index t 0 * 4096 + 1 * r.val) (win0_1.index t 1 * 512 + 1 * s.val) : ℝ) : EReal) = _
  rw [e0, e1, one_mul, one_mul]

/-- A point's block of values. -/
theorem blk_v (t : Fin cfg0.N) : Rep (n := 4096) (c := 512) (φ := .bf16) (iblk (F := Ideal) m c 2 t)
    (fun r s => U ((grid0.coords t 0).val * 4096 + r) ((8 + (grid0.coords t 1).val) * 512 + s)) := by
  intro r s
  obtain ⟨-, -, ⟨e0, e1⟩, -⟩ := index_all t
  unfold iblk
  rw [View.read_apply]
  refine (rows_at hU _).trans ?_
  show ((U (win0_2.index t 0 * 4096 + 1 * r.val) (win0_2.index t 1 * 512 + 1 * s.val) : ℝ) : EReal) = _
  rw [e0, e1, one_mul, one_mul]

/-- What a point leaves is the attention of its rows and heads. -/
theorem block_eq (t : Fin cfg0.N) (r : Fin 1024) (s : Fin 512) :
    outsAt0 (F := Ideal) m c t (ix2 r s)
      = ((attn U (((grid0.coords t 0).val * 4 + (grid0.coords t 2).val) * 1024 + r.val) ((grid0.coords t 1).val * 512 + s.val) : ℝ) : EReal) := by
  obtain ⟨-, -, -, -, hb, hg, hi⟩ := index_all t
  unfold outsAt0
  refine (out_rep c (grid0.coords t) _ _ _ _ _ _ _ _ _ _ _ _ _ _ (blk_q hU t) (blk_k hU t) (blk_v hU t) r s).trans ?_
  generalize hB : (grid0.coords t 0).val = B at *
  generalize hG : (grid0.coords t 1).val = G at *
  generalize hI : (grid0.coords t 2).val = I at *
  have hr := r.isLt
  have hs := s.isLt
  show ((accS _ _ _ _ _ : ℝ) : EReal) = _
  congr 1
  unfold attn
  have e1 : ((B * 4 + I) * 1024 + r.val) / 4096 = B := by omega
  have e2 : ((B * 4 + I) * 1024 + r.val) % 4096 = 1024 * I + r.val := by omega
  have e3 : (G * 512 + s.val) / 128 = 4 * G + s.val / 128 := by omega
  have e4 : (G * 512 + s.val) % 128 = s.val % 128 := by omega
  rw [e1, e2, e3, e4]
  have hs' : s.val / 128 < 4 := by omega
  refine accS_congr (fun j => ?_) (fun j => ?_)
  · unfold Zb Zof Qf Kf
    refine sum_congr rfl fun d hd => ?_
    have a1 : (B * 4 + I) * 1024 + (1024 * I + r.val - 1024 * I) = 4096 * B + (1024 * I + r.val) := by omega
    have a2 : G * 512 + (128 * (s.val / 128) + d) = 128 * (4 * G + s.val / 128) + d := by omega
    have a3 : B * 4096 + j = 4096 * B + j := by omega
    have a4 : (4 + G) * 512 + (128 * (s.val / 128) + d) = 2048 + (128 * (4 * G + s.val / 128) + d) := by omega
    simp only [a1, a2, a3, a4]
  · unfold Vb Kf
    have a3 : B * 4096 + j = 4096 * B + j := by omega
    have a4 : (8 + G) * 512 + (128 * (s.val / 128) + s.val % 128) = 4096 + (128 * (4 * G + s.val / 128) + s.val % 128) := by omega
    simp only [a3, a4]

/-- The array after the grid: the attention of the rows. -/
theorem final_eq : (dats (F := Ideal) m 0 c).arrAt 3 cfg0.N = fun x : S32768x2048.Idx => ((attn U (x 0).val (x 1).val : ℝ) : EReal) := by
  refine (dats (F := Ideal) m 0 c).arrAt_eq_of_covers 3 _ (by decide +kernel) fun t hf y => ?_
  obtain ⟨-, -, -, ⟨e0, e1⟩, -⟩ := index_all t
  have hb := block_eq hU t
  rw [after0_3]
  generalize outsAt0 (F := Ideal) m c t = o at hb ⊢
  have hy := hb (y 0) (y 1)
  refine (Eq.trans ?_ hy).trans ?_
  · show o y = o (ix2 (y 0) (y 1))
    exact congrArg o (ValueIdx.eq_ix2 (n0 := 1024) (n1 := 512) y)
  · show _ = ((attn U (win0_3.index t 0 * 1024 + 1 * (y 0).val) (win0_3.index t 1 * 512 + 1 * (y 1).val) : ℝ) : EReal)
    rw [e0, e1, one_mul, one_mul]

end Cert.Proof.Array

end

end
-- ==== Proof.Soft.lean ====
/- Base-2 logits against natural ones: the weights a row gives its keys are the same numbers. -/
module

public import proofs.«01_k».proof.Proof.Array

@[expose] public section

noncomputable section

namespace Cert.Proof.Soft

open Finset Cert.Proof.Stick Cert.Proof.Tile Cert.Proof.Diag Cert.Proof.Array

/-- The logarithm of one plus the exponential, as the host computes it. -/
def sp (x : ℝ) : ℝ := max x 0 + Real.log (1 + Real.exp (-|x|))

/-- A power of two is an exponential. -/
theorem rpow_two (t : ℝ) : Real.rpow 2 t = Real.exp (Real.log 2 * t) :=
  Real.rpow_def_of_pos (by norm_num) t

/-- The logarithm of two is positive. -/
theorem log2_pos : 0 < Real.log 2 := Real.log_pos (by norm_num)

/-- The lesser of a base-2 logit and zero. -/
theorem min_scaled (z : ℝ) : min (z * (Real.log 2)⁻¹) 0 = min z 0 * (Real.log 2)⁻¹ := by
  have h := (inv_pos.mpr log2_pos).le
  rw [min_mul_of_nonneg _ _ h, zero_mul]

/-- The lesser of a number and zero, against the number's size. -/
theorem min_abs (z : ℝ) : min z 0 - (z - min z 0) = -|z| := by
  rcases le_total z 0 with h | h
  · rw [min_eq_left h, abs_of_nonpos h]; ring
  · rw [min_eq_right h, abs_of_nonneg h]; ring

/-- The base-2 logarithm of stopping, from the natural logit. -/
theorem ls_scaled (z : ℝ) : lsR (z * (Real.log 2)⁻¹) = -sp (-z) * (Real.log 2)⁻¹ := by
  unfold lsR sp
  rw [min_scaled, rpow_two]
  have e : Real.log 2 * (min z 0 * (Real.log 2)⁻¹ - (z * (Real.log 2)⁻¹ - min z 0 * (Real.log 2)⁻¹)) = -|z| := by
    have h : Real.log 2 * (Real.log 2)⁻¹ = 1 := mul_inv_cancel₀ log2_pos.ne'
    rw [← min_abs]
    linear_combination (min z 0 - (z - min z 0)) * h
  rw [e, abs_neg]
  have hm : max (-z) 0 = -min z 0 := by
    rw [← neg_zero, max_neg_neg, neg_zero]
  rw [hm]
  ring

/-- The base-2 logarithm of going past, from the natural logit. -/
theorem lnb_scaled (z : ℝ) : lnbR (z * (Real.log 2)⁻¹) = -sp z * (Real.log 2)⁻¹ := by
  unfold lnbR
  rw [ls_scaled]
  unfold sp
  rw [abs_neg]
  have hm : max (-z) 0 = max z 0 - z := by
    rcases le_total z 0 with h | h
    · rw [max_eq_left (by linarith), max_eq_right h]; ring
    · rw [max_eq_right (by linarith), max_eq_left h]; ring
  rw [hm]
  ring

/-- The natural logits of batch `b`, head `H`: query position, key position. -/
def Zn (U : ℕ → ℕ → ℝ) (b H T j : ℕ) : ℝ :=
  (∑ d ∈ range 128, U (4096 * b + T) (128 * H + d) * U (4096 * b + j) (2048 + (128 * H + d))) * (Real.sqrt 128)⁻¹

/-- The base-2 logits are the natural ones over the logarithm of two. -/
theorem zb_eq (U : ℕ → ℕ → ℝ) (b H T j : ℕ) : Zb U b H T j = Zn U b H T j * (Real.log 2)⁻¹ := by
  unfold Zb Zof Zn qs
  rw [mul_assoc, sum_mul]
  refine sum_congr rfl fun d _ => ?_
  ring

/-- The weight of a key, from the natural logits. -/
theorem wgt_eq (U : ℕ → ℕ → ℝ) (b H T j : ℕ) :
    wgt (Zb U b H) T j = Real.exp (-sp (-Zn U b H T j) + ∑ j' ∈ Ico (j + 1) T, -sp (Zn U b H T j')) := by
  unfold wgt
  simp only [zb_eq, ls_scaled, lnb_scaled]
  rw [rpow_two, ← sum_mul, ← add_mul, mul_comm, mul_assoc, inv_mul_cancel₀ log2_pos.ne', mul_one]

/-- What the host takes the running sum over: the logarithm of going past each earlier key, zero at the others. -/
def past (U : ℕ → ℕ → ℝ) (b H T j : ℕ) : ℝ := if j < T then -sp (Zn U b H T j) else 0

/-- The weight matrix of the host: the keys before the row, and zero at the others. -/
def wts (U : ℕ → ℕ → ℝ) (b H T j : ℕ) : ℝ :=
  if j < T then Real.exp (-sp (-Zn U b H T j) + ((∑ j' ∈ Ico j 4096, past U b H T j') - past U b H T j)) else 0

/-- Where a key lies before the row, the host's weight is the kernel's. -/
theorem wts_eq (U : ℕ → ℕ → ℝ) (b H : ℕ) {T j : ℕ} (hT : T < 4096) (h : j < T) : wts U b H T j = wgt (Zb U b H) T j := by
  unfold wts
  rw [if_pos h, wgt_eq]
  congr 2
  rw [sum_eq_sum_Ico_succ_bot (by omega), add_sub_cancel_left, ← sum_Ico_consecutive _ (by omega : j + 1 ≤ T) hT.le]
  have e : ∑ j' ∈ Ico T 4096, past U b H T j' = 0 :=
    sum_eq_zero fun k hk => if_neg (by have := (mem_Ico.mp hk).1; omega)
  rw [e, add_zero]
  exact sum_congr rfl fun k hk => if_pos (mem_Ico.mp hk).2

/-- The host's weighted sum over every key is the kernel's over the keys before the row. -/
theorem gather_eq (U : ℕ → ℕ → ℝ) (b H c : ℕ) {T : ℕ} (hT : T < 4096) :
    ∑ j ∈ range 4096, Vb U b H j c * wts U b H T j = accS (Zb U b H) (Vb U b H) 0 T c := by
  unfold accS
  rw [range_eq_Ico, ← sum_Ico_consecutive _ (Nat.zero_le T) hT.le]
  have e : ∑ j ∈ Ico T 4096, Vb U b H j c * wts U b H T j = 0 :=
    sum_eq_zero fun k hk => by
      rw [wts, if_neg (by have := (mem_Ico.mp hk).1; omega), mul_zero]
  rw [e, add_zero]
  exact sum_congr rfl fun k hk => by rw [wts_eq U b H hT (mem_Ico.mp hk).2, mul_comm]

end Cert.Proof.Soft

end

end
-- ==== Proof.Ref.lean ====
/- The host reference, read at an index over the real numbers. -/
module

public import proofs.«01_k».proof.Proof.Soft
public import proofs.«01_k».proof.Proof.Gen.ReferenceIdeal.Read
public import Idealize.ShloMosaic.Lib.WordCmp

@[expose] public section

set_option maxRecDepth 16384

noncomputable section

namespace Cert.Proof.Ref

open Idealize.ShloMosaic Idealize.ShloMosaic.ValueIdx Idealize.SL.Sem Finset
open Cert.Proof.Stick Cert.Proof.Tile Cert.Proof.Array Cert.Proof.Soft
open Cert.ReferenceIdeal Cert.ReferenceIdeal.Read

/-- The word 128 in f32. -/
theorem w128 : FloatOps.ofBits (F := Ideal) .f32 0x43000000#32 = ((128 : ℝ) : EReal) := by
  show Ideal.ofBits .f32 0x43000000#32 = _
  simp [Ideal.ofBits, Ideal.ieee, -EReal.coe_mul]
  norm_num

/-- The word one in f32. -/
theorem w1 : FloatOps.ofBits (F := Ideal) .f32 0x3F800000#32 = ((1 : ℝ) : EReal) := by
  show Ideal.ofBits .f32 0x3F800000#32 = _
  simp [Ideal.ofBits, Ideal.ieee, -EReal.coe_mul]
  norm_num

/-- The word zero in f32. -/
theorem w0 : FloatOps.ofBits (F := Ideal) .f32 0x00000000#32 = ((0 : ℝ) : EReal) := by
  show Ideal.ofBits .f32 0x00000000#32 = _
  simp [Ideal.ofBits, Ideal.ieee, -EReal.coe_mul]

/-- The greater of two reals, coerced. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The host's softplus at a real number. -/
theorem softplus_real (x : ℝ) :
    Scalar.select (FloatOps.cmpf (F := Ideal) (φ := .f32) .une (FloatOps.subf (F := Ideal) (φ := .f32) (x : EReal) ((0 : ℝ) : EReal)) (FloatOps.subf (F := Ideal) (φ := .f32) (x : EReal) ((0 : ℝ) : EReal)))
      (FloatOps.addf (F := Ideal) (φ := .f32) (x : EReal) ((0 : ℝ) : EReal))
      (FloatOps.addf (F := Ideal) (φ := .f32) (FloatOps.maximumf (F := Ideal) (φ := .f32) (x : EReal) ((0 : ℝ) : EReal))
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) (x : EReal) ((0 : ℝ) : EReal)))))))
      = ((sp x : ℝ) : EReal) := by
  have hc : FloatOps.cmpf (F := Ideal) (φ := .f32) .une (FloatOps.subf (F := Ideal) (φ := .f32) (x : EReal) ((0 : ℝ) : EReal)) (FloatOps.subf (F := Ideal) (φ := .f32) (x : EReal) ((0 : ℝ) : EReal)) = 0#1 := by
    rw [Ideal.cmpf_def]
    simp [Ideal.cmp]
  rw [hc, ValueIdx.select_zero]
  show max (x : EReal) ((0 : ℝ) : EReal) + Ideal.log (1 + Ideal.exp (-(max ((x : EReal) - ((0 : ℝ) : EReal)) (-((x : EReal) - ((0 : ℝ) : EReal)))))) = _
  rw [← EReal.coe_sub, sub_zero, ← EReal.coe_neg, ← coe_max, ← coe_max, ← EReal.coe_neg, Ideal.exp_coe, ← EReal.coe_one,
    ← EReal.coe_add, Ideal.log_coe, if_neg (by have := Real.exp_pos (-(max x (-x))); linarith), ← EReal.coe_add]
  rfl

variable {x : FVec Ideal S32768x6144 .bf16} {U : ℕ → ℕ → ℝ} (hU : Rep (n := 32768) (c := 6144) (φ := .bf16) x U)
include hU

/-- The argument at an index. -/
theorem arg_at (i : S32768x6144.Idx) : x i = ((U (i 0).val (i 1).val : ℝ) : EReal) := by
  have := hU (i 0) (i 1)
  rwa [show (ix2 (i 0) (i 1) : S32768x6144.Idx) = i from (ValueIdx.eq_ix2 i).symm] at this

/-- The queries. -/
theorem v5_at (i : S8x4096x16x128.Idx) : val_main_v5 (F := Ideal) x i
    = ((U (4096 * (i 0).val + (i 1).val) (128 * (i 2).val + (i 3).val) : ℝ) : EReal) := by
  have h0 : (i 0).val < 8 := (i 0).isLt
  have h1 : (i 1).val < 4096 := (i 1).isLt
  have h2 : (i 2).val < 16 := (i 2).isLt
  have h3 : (i 3).val < 128 := (i 3).isLt
  rw [val_main_v5_apply, val_main_v2_apply, val_main_v1_apply, val_main_v0_apply]
  refine (arg_at hU _).trans ?_
  congr 2 <;> dsimp only <;> omega

/-- The keys. -/
theorem v6_at (i : S8x4096x16x128.Idx) : val_main_v6 (F := Ideal) x i
    = ((U (4096 * (i 0).val + (i 1).val) (2048 + (128 * (i 2).val + (i 3).val)) : ℝ) : EReal) := by
  have h0 : (i 0).val < 8 := (i 0).isLt
  have h1 : (i 1).val < 4096 := (i 1).isLt
  have h2 : (i 2).val < 16 := (i 2).isLt
  have h3 : (i 3).val < 128 := (i 3).isLt
  rw [val_main_v6_apply, val_main_v3_apply, val_main_v1_apply, val_main_v0_apply]
  refine (arg_at hU _).trans ?_
  congr 2 <;> dsimp only <;> omega

/-- The values. -/
theorem v7_at (i : S8x4096x16x128.Idx) : val_main_v7 (F := Ideal) x i
    = ((U (4096 * (i 0).val + (i 1).val) (4096 + (128 * (i 2).val + (i 3).val)) : ℝ) : EReal) := by
  have h0 : (i 0).val < 8 := (i 0).isLt
  have h1 : (i 1).val < 4096 := (i 1).isLt
  have h2 : (i 2).val < 16 := (i 2).isLt
  have h3 : (i 3).val < 128 := (i 3).isLt
  rw [val_main_v7_apply, val_main_v4_apply, val_main_v1_apply, val_main_v0_apply]
  refine (arg_at hU _).trans ?_
  congr 2 <;> dsimp only <;> omega

omit hU in
/-- The scale: one over the square root of the head's width. -/
theorem v9_at (i : S_.Idx) : val_main_v9 (F := Ideal) i = (((Real.sqrt 128)⁻¹ : ℝ) : EReal) := by
  rw [val_main_v9_apply, val_main_cst_0_apply]
  unfold val_main_v8
  show Ideal.div (FloatOps.ofBits (F := Ideal) .f32 0x3F800000#32) (Ideal.sqrt (FloatOps.ofBits (F := Ideal) .f32 0x43000000#32)) = _
  have h : Real.sqrt 128 ≠ 0 := (Real.sqrt_pos.mpr (by norm_num)).ne'
  rw [w1, w128, Ideal.sqrt_coe, if_neg (by norm_num), Ideal.div_coe h, ← EReal.coe_mul, one_mul, one_div]

/-- The natural logits. -/
theorem v13_at (i : S8x16x4096x4096.Idx) : val_main_v13 (F := Ideal) x i
    = ((Zn U (i 0).val (i 1).val (i 2).val (i 3).val : ℝ) : EReal) := by
  rw [val_main_v13_apply, val_main_v12_apply, v9_at, val_main_v11_apply]
  show (∑ k : Fin 128, _ * _) * (((Real.sqrt 128)⁻¹ : ℝ) : EReal) = _
  have e : (∑ k : Fin 128, (val_main_v5 (F := Ideal) x) (lidx_main_v11 i k) * (val_main_v6 (F := Ideal) x) (ridx_main_v11 i k))
      = ((∑ d ∈ range 128, U (4096 * (i 0).val + (i 2).val) (128 * (i 1).val + d) * U (4096 * (i 0).val + (i 3).val) (2048 + (128 * (i 1).val + d)) : ℝ) : EReal) := by
    rw [Finset.sum_range, coe_sum]
    refine sum_congr rfl fun k _ => ?_
    rw [v5_at hU, v6_at hU, ← EReal.coe_mul]
  rw [e, ← EReal.coe_mul]
  rfl

/-- The logarithm of going past a key. -/
theorem v20_at (i : S8x16x4096x4096.Idx) : val_main_v20 (F := Ideal) x i
    = ((-sp (Zn U (i 0).val (i 1).val (i 2).val (i 3).val) : ℝ) : EReal) := by
  have hz : val_main_call0_v0 (F := Ideal) x i = ((Zn U (i 0).val (i 1).val (i 2).val (i 3).val : ℝ) : EReal) := by
    rw [val_main_call0_v0_apply, val_main_v19_apply, v13_at hU]
    exact neg_neg _
  rw [val_main_v20_apply, val_main_call0_v1_apply, val_main_call0_call0_v4_apply, val_main_call0_call0_v6_apply,
    val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v0_apply,
    val_main_call0_call0_v2_apply, val_main_call0_call0_v5_apply, hz, val_main_call0_call0_cst_apply, w0]
  refine (congrArg _ (softplus_real _)).trans ?_
  exact (EReal.coe_neg _).symm

/-- The logarithm of stopping at a key. -/
theorem v24_at (i : S8x16x4096x4096.Idx) : val_main_v24 (F := Ideal) x i
    = ((-sp (-Zn U (i 0).val (i 1).val (i 2).val (i 3).val) : ℝ) : EReal) := by
  have hz : val_main_call3_v0 (F := Ideal) x i = ((-Zn U (i 0).val (i 1).val (i 2).val (i 3).val : ℝ) : EReal) := by
    rw [val_main_call3_v0_apply, v13_at hU]
    exact (EReal.coe_neg _).symm
  rw [val_main_v24_apply, val_main_call3_v1_apply, val_main_call3_call0_v4_apply, val_main_call3_call0_v6_apply,
    val_main_call3_call0_v11_apply, val_main_call3_call0_v1_apply, val_main_call3_call0_v10_apply, val_main_call3_call0_v9_apply,
    val_main_call3_call0_v8_apply, val_main_call3_call0_v7_apply, val_main_call3_call0_v3_apply, val_main_call3_call0_v0_apply,
    val_main_call3_call0_v2_apply, val_main_call3_call0_v5_apply, hz, val_main_call3_call0_cst_apply, w0]
  refine (congrArg _ (softplus_real _)).trans ?_
  exact (EReal.coe_neg _).symm

omit hU in
/-- The mask: the key lies before the query. -/
theorem v18_at (i : S4096x4096.Idx) : val_main_v18 (F := Ideal) i = BitVec.ofBool (decide ((i 1).val < (i 0).val)) := by
  have h0 : (i 0).val < 4096 := (i 0).isLt
  have h1 : (i 1).val < 4096 := (i 1).isLt
  rw [val_main_v18_apply, val_main_v16_apply, val_main_v17_apply, val_main_v14_apply, val_main_v15_apply, val_main_v10_apply,
    val_main_v10_apply]
  exact WordCmp.cmpi_slt_ofNat (by show (i 1).val < 2 ^ 31; omega) (by show (i 0).val < 2 ^ 31; omega)

omit hU in
/-- A choice between two reals by a decided bit. -/
theorem select_real (p : Prop) [Decidable p] (a b : ℝ) :
    Scalar.select (BitVec.ofBool (decide p)) ((a : ℝ) : EReal) ((b : ℝ) : EReal) = (((if p then a else b) : ℝ) : EReal) := by
  by_cases h : p
  · rw [if_pos h, decide_eq_true h]; rfl
  · rw [if_neg h, decide_eq_false h]; rfl

/-- The masked logarithms. -/
theorem v21_at (i : S8x16x4096x4096.Idx) : val_main_v21 (F := Ideal) x i
    = ((past U (i 0).val (i 1).val (i 2).val (i 3).val : ℝ) : EReal) := by
  rw [val_main_v21_apply, val_main_call1_v1_apply, v18_at, v20_at hU, val_main_call1_v2_apply, val_main_call1_v0_apply,
    val_main_cst_1_apply, w0]
  exact select_real _ _ _

omit hU in
/-- A fold of additions over a list of reals is their sum. -/
theorem fold_real {α : Type} (f : α → EReal) (g : α → ℝ) (hf : ∀ n, f n = ((g n : ℝ) : EReal)) (l : List α) (a : ℝ) :
    l.foldl (fun r n => r + f n) ((a : ℝ) : EReal) = ((a + (l.map g).sum : ℝ) : EReal) := by
  induction l generalizing a with
  | nil => simp
  | cons n l ih =>
    rw [List.foldl_cons, hf, ← EReal.coe_add, ih, List.map_cons, List.sum_cons, add_assoc]

/-- The window of the running sum: one row of keys. -/
abbrev Win : Shape := ⟨4, ![1, 1, 1, 4096]⟩

omit hU in
/-- A position in the window is its number. -/
theorem win_three (n : Fin Win.numel) : (Win.rowMajor.symm n 0).val = 0 ∧ (Win.rowMajor.symm n 1).val = 0
    ∧ (Win.rowMajor.symm n 2).val = 0 ∧ (Win.rowMajor.symm n 3).val = n.val := by
  generalize hw : Win.rowMajor.symm n = w
  have e : Win.rowMajor w = n := by rw [← hw, Equiv.apply_symm_apply]
  have h0 : (w 0).val < 1 := (w 0).isLt
  have h1 : (w 1).val < 1 := (w 1).isLt
  have h2 : (w 2).val < 1 := (w 2).isLt
  have ev := congrArg Fin.val e
  rw [Shape.rowMajor_val_four] at ev
  change (((w 0).val * 1 + (w 1).val) * 1 + (w 2).val) * 4096 + (w 3).val = n.val at ev
  omega

omit hU in
/-- The reverse running sum along the keys, at an index: the sum over this key and the later ones. -/
theorem window_sum (y : FVec Ideal S8x16x4096x4096 .f32) (v : FVec Ideal S_ .f32) (hv : ∀ i, v i = ((0 : ℝ) : EReal)) (g : ℕ → ℝ)
    (h : S8x16x4096x4096.ReduceWindows ![1, 1, 1, 4096] ![1, 1, 1, 1] ![0, 0, 0, 0] ![0, 0, 0, 4095] S8x16x4096x4096) (hu : 0 < S_.numel)
    (i : S8x16x4096x4096.Idx) (hy : ∀ k : S8x16x4096x4096.Idx, (k 0).val = (i 0).val → (k 1).val = (i 1).val → (k 2).val = (i 2).val →
      y k = ((g (k 3).val : ℝ) : EReal)) :
    Host.reduceWindowAdd ![1, 1, 1, 4096] ![1, 1, 1, 1] ![0, 0, 0, 0] ![0, 0, 0, 4095] y v h hu i
      = ((∑ j ∈ Ico (i 3).val 4096, g j : ℝ) : EReal) := by
  have hi0 : (i 0).val < 8 := (i 0).isLt
  have hi1 : (i 1).val < 16 := (i 1).isLt
  have hi2 : (i 2).val < 4096 := (i 2).isLt
  have hi3 : (i 3).val < 4096 := (i 3).isLt
  unfold Host.reduceWindowAdd
  rw [Ideal.hostReduceWindowAdd_def]
  unfold Ideal.hostReduceWindowAdd Host.reduceWindow
  dsimp only
  rw [hv]
  refine (fold_real _ (fun n : Fin Win.numel => if (i 3).val + n.val < 4096 then g ((i 3).val + n.val) else 0) (fun n => ?_) _ 0).trans ?_
  · obtain ⟨e0, e1, e2, e3⟩ := win_three n
    split
    · next hin =>
      have q3 : 0 ≤ (i 3).val * 1 + (Win.rowMajor.symm n 3).val ∧ (i 3).val * 1 + (Win.rowMajor.symm n 3).val - 0 < 4096 := hin 3
      rw [e3] at q3
      rw [if_pos (by omega)]
      refine (hy _ ?_ ?_ ?_).trans ?_
      · show (i 0).val * 1 + (Win.rowMajor.symm n 0).val - 0 = _
        rw [e0]; omega
      · show (i 1).val * 1 + (Win.rowMajor.symm n 1).val - 0 = _
        rw [e1]; omega
      · show (i 2).val * 1 + (Win.rowMajor.symm n 2).val - 0 = _
        rw [e2]; omega
      · show ((g ((i 3).val * 1 + (Win.rowMajor.symm n 3).val - 0) : ℝ) : EReal) = _
        rw [e3, Nat.mul_one, Nat.sub_zero]
    · next hin =>
      rw [if_neg fun hlt => hin fun a => by
        match a with
        | ⟨0, _⟩ =>
          show 0 ≤ (i 0).val * 1 + (Win.rowMajor.symm n 0).val ∧ (i 0).val * 1 + (Win.rowMajor.symm n 0).val - 0 < 8
          rw [e0]; omega
        | ⟨1, _⟩ =>
          show 0 ≤ (i 1).val * 1 + (Win.rowMajor.symm n 1).val ∧ (i 1).val * 1 + (Win.rowMajor.symm n 1).val - 0 < 16
          rw [e1]; omega
        | ⟨2, _⟩ =>
          show 0 ≤ (i 2).val * 1 + (Win.rowMajor.symm n 2).val ∧ (i 2).val * 1 + (Win.rowMajor.symm n 2).val - 0 < 4096
          rw [e2]; omega
        | ⟨3, _⟩ =>
          show 0 ≤ (i 3).val * 1 + (Win.rowMajor.symm n 3).val ∧ (i 3).val * 1 + (Win.rowMajor.symm n 3).val - 0 < 4096
          rw [e3]; omega]
  · congr 1
    rw [zero_add]
    have hN : Win.numel = 4096 := by decide
    refine (Fin.sum_univ_def _).symm.trans ?_
    rw [← Finset.sum_range (fun n => if (i 3).val + n < 4096 then g ((i 3).val + n) else 0), hN, sum_Ico_eq_sum_range]
    refine ((sum_subset (range_subset_range.mpr (Nat.sub_le 4096 (i 3).val)) fun n _ hn => ?_).symm).trans ?_
    · rw [mem_range] at hn
      rw [if_neg (by omega)]
    · refine sum_congr rfl fun n hn => ?_
      rw [mem_range] at hn
      rw [if_pos (by omega)]

/-- The running sum over the later keys, this one with them. -/
theorem v22_at (i : S8x16x4096x4096.Idx) : val_main_v22 (F := Ideal) x i
    = ((∑ j ∈ Ico (i 3).val 4096, past U (i 0).val (i 1).val (i 2).val j : ℝ) : EReal) := by
  unfold val_main_v22
  refine window_sum _ _ (fun j => ?_) _ _ _ i fun k h0 h1 h2 => ?_
  · rw [val_main_call2_v0_apply, val_main_call2_cst_apply, w0]
  · rw [v21_at hU, h0, h1, h2]

omit hU in
/-- The exponential of a sum and a difference of reals. -/
theorem exp_real (a b c : ℝ) :
    FloatOps.hostUnary (F := Ideal) (φ := .f32) .exp (FloatOps.addf (F := Ideal) (φ := .f32) (a : EReal)
      (FloatOps.subf (F := Ideal) (φ := .f32) (b : EReal) (c : EReal))) = ((Real.exp (a + (b - c)) : ℝ) : EReal) := by
  show Ideal.exp ((a : EReal) + ((b : EReal) - (c : EReal))) = _
  rw [← EReal.coe_sub, ← EReal.coe_add, Ideal.exp_coe]

/-- The weights. -/
theorem v27_at (i : S8x16x4096x4096.Idx) : val_main_v27 (F := Ideal) x i
    = ((wts U (i 0).val (i 1).val (i 2).val (i 3).val : ℝ) : EReal) := by
  rw [val_main_v27_apply, val_main_call4_v1_apply, v18_at, val_main_v26_apply, val_main_v25_apply, val_main_v23_apply, v22_at hU,
    v21_at hU, v24_at hU, val_main_call4_v2_apply, val_main_call4_v0_apply, val_main_cst_2_apply, w0]
  rw [exp_real]
  exact select_real _ _ _

/-- The gathered values. -/
theorem v28_at (i : S8x16x128x4096.Idx) : val_main_v28 (F := Ideal) x i
    = ((accS (Zb U (i 0).val (i 1).val) (Vb U (i 0).val (i 1).val) 0 (i 3).val (i 2).val : ℝ) : EReal) := by
  rw [val_main_v28_apply, ← gather_eq U _ _ _ (i 3).isLt, Finset.sum_range, coe_sum]
  refine sum_congr rfl fun k _ => ?_
  rw [v7_at hU, v27_at hU, ← EReal.coe_mul]
  rfl

/-- The result at an index: the attention of the rows. -/
theorem v31_at (i : S32768x2048.Idx) : val_main_v31 (F := Ideal) x i = ((attn U (i 0).val (i 1).val : ℝ) : EReal) := by
  have h0 : (i 0).val < 32768 := (i 0).isLt
  have h1 : (i 1).val < 2048 := (i 1).isLt
  rw [val_main_v31_apply, val_main_v30_apply, val_main_v29_apply]
  refine (v28_at hU _).trans ?_
  have e0 : ((i 0).val * 2048 + (i 1).val) / 8388608 = (i 0).val / 4096 := by omega
  have e1 : ((i 0).val * 2048 + (i 1).val) / 2048 % 4096 = (i 0).val % 4096 := by omega
  have e2 : ((i 0).val * 2048 + (i 1).val) / 128 % 16 = (i 1).val / 128 := by omega
  have e3 : ((i 0).val * 2048 + (i 1).val) % 128 = (i 1).val % 128 := by omega
  unfold attn
  rw [← e0, ← e1, ← e2, ← e3]

end Cert.Proof.Ref

end

end
-- ==== Proof.Claims.lean ====
/- The claims: what the finite precondition gives, and each conjunct of the certificate. -/
module

public import proofs.«01_k».proof.Defs
public import proofs.«01_k».proof.Proof.Ref
public import proofs.«01_k».proof.Proof.Gen.Kernel.Frame
public import Idealize.ShloMosaic.Lib.Quiescent
public import Idealize.ShloMosaic.PureOps.IdealRules

@[expose] public section

noncomputable section

namespace Cert.Proof

open Idealize.ShloMosaic Idealize.ShloMosaic.ValueIdx Idealize.SL.Sem Cert.Proof.Tile Cert.Proof.Array

/-- The facts the precondition states. -/
instance pre_facts : Cert.Pre_finite.Facts := ⟨by decide, by decide⟩

/-- The word of infinity in f32. -/
theorem w_top : FloatOps.ofBits (F := Ideal) .f32 0x7F800000#32 = (⊤ : EReal) := by
  show Ideal.ofBits .f32 0x7F800000#32 = _
  simp [Ideal.ofBits, Ideal.ieee]

/-- A number whose size lies below infinity is a real number. -/
theorem real_of_lt (a : EReal) (h : max a (-a) < ⊤) : a = ((a.toReal : ℝ) : EReal) := by
  refine (EReal.coe_toReal ?_ ?_).symm
  · rintro rfl
    exact absurd h (by simp)
  · rintro rfl
    exact absurd h (by simp)

/-- Rows that are finite hold real numbers. -/
theorem rows_real (x : FVec Ideal (S2 32768 6144) .bf16) (h : Cert.Pre_finite.fn (F := Ideal) x = fun _ => 1#1) :
    ∃ U : ℕ → ℕ → ℝ, Rep (n := 32768) (c := 6144) (φ := .bf16) x U := by
  refine ⟨fun r s => if h : r < 32768 ∧ s < 6144 then EReal.toReal (x (ix2 ⟨r, h.1⟩ ⟨s, h.2⟩)) else 0, fun r s => ?_⟩
  dsimp only
  rw [dif_pos ⟨r.isLt, s.isLt⟩]
  refine real_of_lt _ ?_
  have hx : Ideal.cmp .olt (max (x (ix2 r s)) (-(x (ix2 r s)))) (FloatOps.ofBits (F := Ideal) .f32 0x7F800000#32) = 1#1 :=
    congrFun h (ix2 r s)
  rw [w_top] at hx
  by_contra hn
  simp [Ideal.cmp, hn] at hx

/-- The kernel runs, keeps its argument, and ends with its counters at zero. -/
theorem frame_kernel : Cert.quiescent_Kernel := fun m ρ _ => Cert.Kernel.Gen.frame m ρ
/-- So does the idealized kernel, -/
theorem frame_ideal : Cert.quiescent_KernelIdeal := fun m ρ _ => Cert.KernelIdeal.Gen.frame m ρ
/-- whatever is asked of the argument. -/
theorem frame_ideal_pre : Cert.quiescent_KernelIdeal_pre_finite := fun m ρ _ => Cert.KernelIdeal.Gen.frame m ρ
/-- So does the reference, -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- whatever is asked of the argument. -/
theorem frame_ref_pre : Cert.quiescent_ReferenceIdeal_pre_finite := fun m ρ _ => frame_ref m ρ trivial

/-- The idealized kernel is the kernel but for its two named constants. -/
theorem preserves : Cert.preserves_Kernel_KernelIdeal :=
  ⟨IdealRules.named_const.statement Cert.KernelIdeal.κ "qscale" .f32 0x3E0293EE#32 (((Real.sqrt 128)⁻¹ * (Real.log 2)⁻¹ : ℝ) : EReal) rfl,
    IdealRules.named_const.statement Cert.KernelIdeal.κ "log2e" .bf16 0x3FB9#16 (((Real.log 2)⁻¹ : ℝ) : EReal) rfl⟩

/-- Kernel and reference leave the same array: the attention of the rows. -/
theorem algebraic : Cert.algebraic_KernelIdeal_ReferenceIdeal_pre_finite := by
  intro m ρ m' ρ' hpre hag
  refine ⟨_, Cert.KernelIdeal.Value.run_blocks (F := Ideal) m ρ,
    (θ_run Cert.ReferenceIdeal.defs _ _).mono (fun _ h c => ⟨(h c).1.trans ?_, (h c).2⟩) (Cert.ReferenceIdeal.Value.run (F := Ideal) m' ρ')⟩
  obtain ⟨U, hU⟩ := rows_real _ (hpre c)
  rw [Cert.ReferenceIdeal.Read.val_main_v31_eq, hag c]
  refine Eq.trans ?_ (final_eq hU).symm
  exact funext fun i => Ref.v31_at hU i

end Cert.Proof

end

end
-- ==== Proof.Mm.lean ====
/- A matrix product by blocks: what one block's product is of the whole one, over the extended reals. -/
module

public import proofs.«01_k».proof.Proof.Tile

@[expose] public section

noncomputable section

namespace Cert.Proof.Mm

open Idealize.ShloMosaic Idealize.ShloMosaic.ValueIdx Cert.Proof.Tile

variable {M K N m n : ℕ}

/-- The product of two matrices, entry by entry. -/
def prod (A : (S2 M K).Idx → EReal) (B : (S2 K N).Idx → EReal) (x : (S2 M N).Idx) : EReal :=
  ∑ k : Fin K, A (ix2 (x 0) k) * B (ix2 k (x 1))

/-- A block's product onto zero is the product. -/
theorem matmul_eq {φ ψ : FTy} (x : FVec Ideal (S2 M K) φ) (w : FVec Ideal (S2 K N) ψ) (h : (S2 K N).ShapeCasts (S2 K N)) :
    matmul (F := Ideal) (DotDims.plain M K N) none x (shapeCast (S2 K N) w h) (constant (S2 M N) .f32 0x00000000#32) = prod x w := by
  funext y
  rw [ValueIdx.eq_ix2 (n0 := M) (n1 := N) y, shapeCast_self]
  refine (Ideal.matmul_plain_apply none x w _ (y 0) (y 1)).trans ?_
  rw [constant_apply, zero_f32, EReal.coe_zero, zero_add]
  rfl

/-- Where a block of rows, a block of columns and the block they make sit at the same rows and columns, the blocks'
    product is the whole product there. -/
theorem prod_block {A : (S2 M K).Idx → EReal} {B : (S2 K N).Idx → EReal} {A' : (S2 m K).Idx → EReal} {B' : (S2 K n).Idx → EReal}
    (ea : (S2 m K).Idx → (S2 M K).Idx) (eb : (S2 K n).Idx → (S2 K N).Idx) (y : (S2 m n).Idx) (z : (S2 M N).Idx)
    (hA : ∀ v, A' v = A (ea v)) (hB : ∀ v, B' v = B (eb v))
    (ha0 : ∀ v, (v 0).val = (y 0).val → (ea v 0).val = (z 0).val) (ha1 : ∀ v, (ea v 1).val = (v 1).val)
    (hb0 : ∀ v, (eb v 0).val = (v 0).val) (hb1 : ∀ v, (v 1).val = (y 1).val → (eb v 1).val = (z 1).val) :
    prod A' B' y = prod A B z := by
  refine Finset.sum_congr rfl fun k _ => ?_
  rw [hA, hB]
  refine congrArg₂ (fun a b => A a * B b) (funext fun a => Fin.ext ?_) (funext fun a => Fin.ext ?_)
  · match a with
    | ⟨0, _⟩ => exact ha0 _ rfl
    | ⟨1, _⟩ => exact ha1 _
  · match a with
    | ⟨0, _⟩ => exact hb0 _
    | ⟨1, _⟩ => exact hb1 _ rfl

/-- The same where each block's place is its block index times its size. -/
theorem prod_tile {A : (S2 M K).Idx → EReal} {B : (S2 K N).Idx → EReal} {A' : (S2 m K).Idx → EReal} {B' : (S2 K n).Idx → EReal}
    {ea : (S2 m K).Idx → (S2 M K).Idx} {eb : (S2 K n).Idx → (S2 K N).Idx} {ez : (S2 m n).Idx → (S2 M N).Idx} {ia ib iz : Fin 2 → ℕ}
    (h : (ia 0 = iz 0 ∧ ia 1 = 0) ∧ (ib 0 = 0 ∧ ib 1 = iz 1)) (y : (S2 m n).Idx)
    (hA : ∀ v, A' v = A (ea v)) (hB : ∀ v, B' v = B (eb v))
    (ha0 : ∀ v, (ea v 0).val = ia 0 * m + 1 * (v 0).val) (ha1 : ∀ v, (ea v 1).val = ia 1 * K + 1 * (v 1).val)
    (hb0 : ∀ v, (eb v 0).val = ib 0 * K + 1 * (v 0).val) (hb1 : ∀ v, (eb v 1).val = ib 1 * n + 1 * (v 1).val)
    (hz0 : ∀ v, (ez v 0).val = iz 0 * m + 1 * (v 0).val) (hz1 : ∀ v, (ez v 1).val = iz 1 * n + 1 * (v 1).val) :
    prod A' B' y = prod A B (ez y) := by
  obtain ⟨⟨a0, a1⟩, b0, b1⟩ := h
  refine prod_block ea eb y (ez y) hA hB (fun v hv => ?_) (fun v => ?_) (fun v => ?_) fun v hv => ?_
  · rw [ha0, hz0, hv, a0]
  · rw [ha1, a1]; omega
  · rw [hb0, b0]; omega
  · rw [hb1, hz1, hv, b1]

end Cert.Proof.Mm

end
-- ==== Proof.InRun.lean ====
/- The input projection's six products: what each call's array holds, and what the whole run leaves. -/
module

public import proofs.«01_k».proof.Defs
public import proofs.«01_k».proof.Proof.Mm
public import proofs.«01_k».proof.Proof.Gen.Kernel2Ideal.Frame
public import Idealize.ShloMosaic.Lib.Quiescent
public import Idealize.ShloMosaic.Lib.Pipeline.ValueKit.Geometry

@[expose] public section

set_option maxRecDepth 16384

noncomputable section

namespace Cert.Proof.InProj

open Idealize.ShloMosaic Idealize.ShloMosaic.TcCoe Idealize.ShloMosaic.ValueIdx Cert.Proof.Tile Cert.Proof.Mm
open Idealize.SL Idealize.SL.RA Idealize.SL.BI Idealize.SL.BI.Laws Idealize.SL.ProofMode Idealize.SL.Sem
open Idealize.SL.BI.BIBase
open scoped Idealize.SL.BI
open Idealize.ShloMosaic.Rounds
open Cert.Kernel2Ideal Cert.Kernel2Ideal.Gen

section Run
variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole run: every array ends as the six calls, one after another, leave it. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Run

/-- A block is the product of its rows and columns. -/
theorem out_eq (x : Vec Ideal S1024x2048 .bf16) (w : Vec Ideal S2048x1024 .bf16) :
    out0_2 (F := Ideal) x w = prod (M := 1024) (K := 2048) (N := 1024) x w := by
  unfold out0_2
  rw [View.canon_unit_zero (by funext a; fin_cases a <;> rfl), View.ld_unit_zero (S := S1024x2048) (by funext a; fin_cases a <;> rfl),
    View.ld_unit_zero (S := S2048x1024) (by funext a; fin_cases a <;> rfl)]
  exact matmul_eq (φ := .bf16) (ψ := .bf16) x w _

/-- So is a narrow block. -/
theorem out_eq_narrow (x : Vec Ideal S1024x2048 .bf16) (w : Vec Ideal S2048x128 .bf16) :
    out4_2 (F := Ideal) x w = prod (M := 1024) (K := 2048) (N := 128) x w := by
  unfold out4_2
  rw [View.canon_unit_zero (by funext a; fin_cases a <;> rfl), View.ld_unit_zero (S := S1024x2048) (by funext a; fin_cases a <;> rfl),
    View.ld_unit_zero (S := S2048x128) (by funext a; fin_cases a <;> rfl)]
  exact matmul_eq (φ := .bf16) (ψ := .bf16) x w _

variable (V : (c : Dev nD) → (b : Ref sig .tc) → Buf (Elt Ideal) ((c : Thread nD τ).loc b)) (c : Dev nD)

/-- The first call's array is the product of the two it is given. -/
theorem final0 : (dat0 (F := Ideal) V c).arrAt 2 cfg0.N = prod (M := 32768) (K := 2048) (N := 6144) (V c main_arg0) (V c main_v1) := by
  refine (dat0 (F := Ideal) V c).arrAt_eq_of_covers 2 _ (by decide +kernel) fun t _ y => ?_
  have h := (by decide +kernel : ∀ t : Fin grid0.N, (win0_0.index t 0 = win0_2.index t 0 ∧ win0_0.index t 1 = 0) ∧ (win0_1.index t 0 = 0 ∧ win0_1.index t 1 = win0_2.index t 1)) t
  rw [after0_2, out_eq]
  refine prod_tile (m := 1024) (n := 1024) (ea := (win0_0.rect t).emb) (eb := (win0_1.rect t).emb) (ez := (win0_2.rect t).emb) h y ?_ ?_ ?_ ?_ ?_ ?_ ?_ ?_ <;>
    exact fun _ => rfl

/-- So is the second's. -/
theorem final1 : (dat1 (F := Ideal) V c).arrAt 2 cfg1.N = prod (M := 32768) (K := 2048) (N := 6144) (V c main_arg0) (V c main_v3) := by
  refine (dat1 (F := Ideal) V c).arrAt_eq_of_covers 2 _ (by decide +kernel) fun t _ y => ?_
  have h := (by decide +kernel : ∀ t : Fin grid1.N, (win1_0.index t 0 = win1_2.index t 0 ∧ win1_0.index t 1 = 0) ∧ (win1_1.index t 0 = 0 ∧ win1_1.index t 1 = win1_2.index t 1)) t
  rw [after1_2, show (out1_2 : _ → _ → Vec Ideal S1024x1024 .bf16) = out0_2 from rfl, out_eq]
  refine prod_tile (m := 1024) (n := 1024) (ea := (win1_0.rect t).emb) (eb := (win1_1.rect t).emb) (ez := (win1_2.rect t).emb) h y ?_ ?_ ?_ ?_ ?_ ?_ ?_ ?_ <;>
    exact fun _ => rfl

/-- So is the third's. -/
theorem final2 : (dat2 (F := Ideal) V c).arrAt 2 cfg2.N = prod (M := 32768) (K := 2048) (N := 4096) (V c main_arg0) (V c main_v5) := by
  refine (dat2 (F := Ideal) V c).arrAt_eq_of_covers 2 _ (by decide +kernel) fun t _ y => ?_
  have h := (by decide +kernel : ∀ t : Fin grid2.N, (win2_0.index t 0 = win2_2.index t 0 ∧ win2_0.index t 1 = 0) ∧ (win2_1.index t 0 = 0 ∧ win2_1.index t 1 = win2_2.index t 1)) t
  rw [after2_2, show (out2_2 : _ → _ → Vec Ideal S1024x1024 .bf16) = out0_2 from rfl, out_eq]
  refine prod_tile (m := 1024) (n := 1024) (ea := (win2_0.rect t).emb) (eb := (win2_1.rect t).emb) (ez := (win2_2.rect t).emb) h y ?_ ?_ ?_ ?_ ?_ ?_ ?_ ?_ <;>
    exact fun _ => rfl

/-- So is the fourth's. -/
theorem final3 : (dat3 (F := Ideal) V c).arrAt 2 cfg3.N = prod (M := 32768) (K := 2048) (N := 6144) (V c main_arg0) (V c main_v18) := by
  refine (dat3 (F := Ideal) V c).arrAt_eq_of_covers 2 _ (by decide +kernel) fun t _ y => ?_
  have h := (by decide +kernel : ∀ t : Fin grid3.N, (win3_0.index t 0 = win3_2.index t 0 ∧ win3_0.index t 1 = 0) ∧ (win3_1.index t 0 = 0 ∧ win3_1.index t 1 = win3_2.index t 1)) t
  rw [after3_2, show (out3_2 : _ → _ → Vec Ideal S1024x1024 .bf16) = out0_2 from rfl, out_eq]
  refine prod_tile (m := 1024) (n := 1024) (ea := (win3_0.rect t).emb) (eb := (win3_1.rect t).emb) (ez := (win3_2.rect t).emb) h y ?_ ?_ ?_ ?_ ?_ ?_ ?_ ?_ <;>
    exact fun _ => rfl

/-- So is the fifth's. -/
theorem final4 : (dat4 (F := Ideal) V c).arrAt 2 cfg4.N = prod (M := 32768) (K := 2048) (N := 128) (V c main_arg0) (V c main_v19) := by
  refine (dat4 (F := Ideal) V c).arrAt_eq_of_covers 2 _ (by decide +kernel) fun t _ y => ?_
  have h := (by decide +kernel : ∀ t : Fin grid4.N, (win4_0.index t 0 = win4_2.index t 0 ∧ win4_0.index t 1 = 0) ∧ (win4_1.index t 0 = 0 ∧ win4_1.index t 1 = win4_2.index t 1)) t
  rw [after4_2, out_eq_narrow]
  refine prod_tile (m := 1024) (n := 128) (ea := (win4_0.rect t).emb) (eb := (win4_1.rect t).emb) (ez := (win4_2.rect t).emb) h y ?_ ?_ ?_ ?_ ?_ ?_ ?_ ?_ <;>
    exact fun _ => rfl

/-- So is the sixth's. -/
theorem final5 : (dat5 (F := Ideal) V c).arrAt 2 cfg5.N = prod (M := 32768) (K := 2048) (N := 6144) (V c main_arg0) (V c main_v11) := by
  refine (dat5 (F := Ideal) V c).arrAt_eq_of_covers 2 _ (by decide +kernel) fun t _ y => ?_
  have h := (by decide +kernel : ∀ t : Fin grid5.N, (win5_0.index t 0 = win5_2.index t 0 ∧ win5_0.index t 1 = 0) ∧ (win5_1.index t 0 = 0 ∧ win5_1.index t 1 = win5_2.index t 1)) t
  rw [after5_2, show (out5_2 : _ → _ → Vec Ideal S1024x1024 .bf16) = out0_2 from rfl, out_eq]
  refine prod_tile (m := 1024) (n := 1024) (ea := (win5_0.rect t).emb) (eb := (win5_1.rect t).emb) (ez := (win5_2.rect t).emb) h y ?_ ?_ ?_ ?_ ?_ ?_ ?_ ?_ <;>
    exact fun _ => rfl

end Cert.Proof.InProj

end
-- ==== Proof.InVal.lean ====
/- The input projection's weights as the six calls find them, and the arrays the run ends with. -/
module

public import proofs.«01_k».proof.Proof.InRun

@[expose] public section

set_option maxRecDepth 16384

noncomputable section

namespace Cert.Proof.InProj

open Idealize.ShloMosaic Idealize.ShloMosaic.TcCoe Idealize.ShloMosaic.ValueIdx Cert.Proof.Tile Cert.Proof.Mm
open Cert.Kernel2Ideal Cert.Kernel2Ideal.Gen

variable (m : (ℓ : Loc nD τ sig) → Buf (Elt Ideal) ℓ) (ρ : Dev nD → PrngReg) (c : Dev nD)

/-- The tokens. -/
abbrev X : S32768x2048.Idx → EReal := m ((c : Thread nD τ).loc main_arg0)
/-- The weights. -/
abbrev Wt : S2048x28736.Idx → EReal := m ((c : Thread nD τ).loc main_arg1)

/-- What no call writes is, before each call, what it is before the first. -/
theorem keep (r : Ref sig .tc) (h : r ∉ [main_v20, main_v21, main_v22, main_v23, main_v24, main_v25]) :
    W3 m ρ c (Proc.devRef .tc r) = W2 m ρ c (Proc.devRef .tc r) ∧ W4 m ρ c (Proc.devRef .tc r) = W2 m ρ c (Proc.devRef .tc r)
      ∧ W5 m ρ c (Proc.devRef .tc r) = W2 m ρ c (Proc.devRef .tc r) ∧ W6 m ρ c (Proc.devRef .tc r) = W2 m ρ c (Proc.devRef .tc r)
      ∧ W7 m ρ c (Proc.devRef .tc r) = W2 m ρ c (Proc.devRef .tc r) := by
  have h3 := W3_of m ρ c r fun w e => by subst e; revert h; fin_cases w <;> decide
  have h4 := (W4_of m ρ c r fun w e => by subst e; revert h; fin_cases w <;> decide).trans h3
  have h5 := (W5_of m ρ c r fun w e => by subst e; revert h; fin_cases w <;> decide).trans h4
  have h6 := (W6_of m ρ c r fun w e => by subst e; revert h; fin_cases w <;> decide).trans h5
  exact ⟨h3, h4, h5, h6, (W7_of m ρ c r fun w e => by subst e; revert h; fin_cases w <;> decide).trans h6⟩

/-- The first call's array at the end. -/
theorem end_a : W8 m ρ c (Proc.devRef .tc main_v20) = prod (M := 32768) (K := 2048) (N := 6144) (X m c) (W2 m ρ c (Proc.devRef .tc main_v1)) := by
  rw [W8_of m ρ c main_v20 (by decide), W7_of m ρ c main_v20 (by decide), W6_of m ρ c main_v20 (by decide), W5_of m ρ c main_v20 (by decide),
    W4_of m ρ c main_v20 (by decide), (W3_arr m ρ c 2 :), final0, show V2 m ρ c main_arg0 = _ from W2_args m ρ c main_arg0 (by decide)]

/-- The second's. -/
theorem end_b : W8 m ρ c (Proc.devRef .tc main_v21) = prod (M := 32768) (K := 2048) (N := 6144) (X m c) (W2 m ρ c (Proc.devRef .tc main_v3)) := by
  rw [W8_of m ρ c main_v21 (by decide), W7_of m ρ c main_v21 (by decide), W6_of m ρ c main_v21 (by decide), W5_of m ρ c main_v21 (by decide),
    (W4_arr m ρ c 2 :), final1, show V3 m ρ c main_arg0 = _ from W3_args m ρ c main_arg0 (by decide),
    show V3 m ρ c main_v3 = _ from (keep m ρ c main_v3 (by decide)).1]

/-- The third's. -/
theorem end_z : W8 m ρ c (Proc.devRef .tc main_v22) = prod (M := 32768) (K := 2048) (N := 4096) (X m c) (W2 m ρ c (Proc.devRef .tc main_v5)) := by
  rw [W8_of m ρ c main_v22 (by decide), W7_of m ρ c main_v22 (by decide), W6_of m ρ c main_v22 (by decide),
    (W5_arr m ρ c 2 :), final2, show V4 m ρ c main_arg0 = _ from W4_args m ρ c main_arg0 (by decide),
    show V4 m ρ c main_v5 = _ from (keep m ρ c main_v5 (by decide)).2.1]

/-- The fourth's. -/
theorem end_x : W8 m ρ c (Proc.devRef .tc main_v23) = prod (M := 32768) (K := 2048) (N := 6144) (X m c) (W2 m ρ c (Proc.devRef .tc main_v18)) := by
  rw [W8_of m ρ c main_v23 (by decide), W7_of m ρ c main_v23 (by decide),
    (W6_arr m ρ c 2 :), final3, show V5 m ρ c main_arg0 = _ from W5_args m ρ c main_arg0 (by decide),
    show V5 m ρ c main_v18 = _ from (keep m ρ c main_v18 (by decide)).2.2.1]

/-- The fifth's. -/
theorem end_t : W8 m ρ c (Proc.devRef .tc main_v24) = prod (M := 32768) (K := 2048) (N := 128) (X m c) (W2 m ρ c (Proc.devRef .tc main_v19)) := by
  rw [W8_of m ρ c main_v24 (by decide),
    (W7_arr m ρ c 2 :), final4, show V6 m ρ c main_arg0 = _ from W6_args m ρ c main_arg0 (by decide),
    show V6 m ρ c main_v19 = _ from (keep m ρ c main_v19 (by decide)).2.2.2.1]

/-- The sixth's. -/
theorem end_g : W8 m ρ c (Proc.devRef .tc main_v25) = prod (M := 32768) (K := 2048) (N := 6144) (X m c) (W2 m ρ c (Proc.devRef .tc main_v11)) := by
  rw [(W8_arr m ρ c 2 :), final5, show V7 m ρ c main_arg0 = _ from W7_args m ρ c main_arg0 (by decide),
    show V7 m ρ c main_v11 = _ from (keep m ρ c main_v11 (by decide)).2.2.2.2]

/-- The first call's weights. -/
theorem w_a : W2 m ρ c (Proc.devRef .tc main_v1) = extractStridedSlice S2048x6144 ![0, 0] (Wt m c) slices_S2048x28736_S2048x6144_0_0 := by
  rw [W2_of m ρ c main_v1 (by decide)]
  show StableHlo.after _ _ _ = _
  after_results
  rfl

/-- The second's. -/
theorem w_b : W2 m ρ c (Proc.devRef .tc main_v3) = extractStridedSlice S2048x6144 ![0, 6144] (Wt m c) slices_S2048x28736_S2048x6144_0_6144 := by
  rw [W2_of m ρ c main_v3 (by decide)]
  show StableHlo.after _ _ _ = _
  after_results
  rfl

/-- The third's. -/
theorem w_z : W2 m ρ c (Proc.devRef .tc main_v5) = extractStridedSlice S2048x4096 ![0, 12288] (Wt m c) slices_S2048x28736_S2048x4096_0_12288 := by
  rw [W2_of m ρ c main_v5 (by decide)]
  show StableHlo.after _ _ _ = _
  after_results
  rfl

/-- The sixth's. -/
theorem w_g : W2 m ρ c (Proc.devRef .tc main_v11) = extractStridedSlice S2048x6144 ![0, 22592] (Wt m c) slices_S2048x28736_S2048x6144_0_22592 := by
  rw [W2_of m ρ c main_v11 (by decide)]
  show StableHlo.after _ _ _ = _
  after_results
  rfl

/-- The columns' order, as the table gives it. -/
def order : IVec S6144 32 := fun i => lit0 (S6144.rowMajor i)

/-- The fourth's: the columns in the table's order. -/
theorem w_x : W2 m ρ c (Proc.devRef .tc main_v18) = Host.gather gather_S2048x6144_S6144x1_S2048x6144_0_1_n_n_1_1_20481
    (extractStridedSlice S2048x6144 ![0, 16384] (Wt m c) slices_S2048x28736_S2048x6144_0_16384)
    (broadcastInDim S6144x1 ![0] bcast_S6144_S6144x1_0 (select (cmpi .slt order (broadcastInDim S6144 ![] bcast_S_S6144 (constantI S_ 32 0#32)))
      (addi order (broadcastInDim S6144 ![] bcast_S_S6144 (constantI S_ 32 6144#32))) order)) := by
  rw [W2_of m ρ c main_v18 (by decide)]
  show StableHlo.after _ _ _ = _
  after_results
  rfl

/-- The fifth's: the columns followed by zeros. -/
theorem w_t : W2 m ρ c (Proc.devRef .tc main_v19) = pad S2048x128 ![0, 0] ![0, 64] ![0, 0]
    (extractStridedSlice S2048x64 ![0, 22528] (Wt m c) slices_S2048x28736_S2048x64_0_22528) (sitofp (F := Ideal) .bf16 (constantI S_ 32 0#32))
    pads_S2048x64_S2048x128_000_0640 h_S_ := by
  show StableHlo.after _ _ _ = _
  after_results
  show (fun x v => pad S2048x128 ![0, 0] ![0, 64] ![0, 0] x v pads_S2048x64_S2048x128_000_0640 h_S_)
    (StableHlo.after hostOps0 (W0 m ρ c) (Proc.devRef .tc main_v9)) (sitofp (F := Ideal) .bf16 (StableHlo.after hostOps0 (W0 m ρ c) (Proc.devRef .tc main_c_2))) = _
  after_results
  rfl

/-- Where a column of the scan's input stands in the weights: each group's heads, then its two states. -/
def place (j : ℕ) : ℕ :=
  if j % 768 < 512 then j / 768 * 512 + j % 768 else if j % 768 < 640 then 4096 + j / 768 * 128 + (j % 768 - 512) else 5120 + j / 768 * 128 + (j % 768 - 640)

/-- The table is that order. -/
theorem lit_eq : ∀ j : Fin 6144, lit0 j = BitVec.ofNat 32 (place j.val) ∧ place j.val < 6144 := by decide +kernel

end Cert.Proof.InProj

end
-- ==== Proof.InProj.lean ====
/- The input projection's five claims: each call's array is a run of columns of one product of the tokens and the weights. -/
module

public import proofs.«01_k».proof.Proof.InVal
public import proofs.«01_k».proof.Proof.Gen.Kernel2.Frame
public import proofs.«01_k».proof.Proof.Gen.Reference2Ideal.Run
public import proofs.«01_k».proof.Proof.Gen.Reference2Ideal.Read
public import Idealize.ShloMosaic.Lib.KernelVsHost
public import Idealize.ShloMosaic.Lib.StableHlo.Predicate
public import Idealize.ShloMosaic.Lib.Pipeline.Value

@[expose] public section

set_option maxRecDepth 16384

noncomputable section

namespace Cert.Proof.InProj

open Idealize.ShloMosaic Idealize.ShloMosaic.TcCoe Idealize.ShloMosaic.ValueIdx Idealize.SL.Sem Cert.Proof.Tile Cert.Proof.Mm
open Cert.Kernel2Ideal Cert.Kernel2Ideal.Gen

variable {n : ℕ} (x : (S2 32768 2048).Idx → EReal) (w : (S2 2048 28736).Idx → EReal)

/-- The whole projection. -/
abbrev U : (S2 32768 28736).Idx → EReal := prod (M := 32768) (K := 2048) (N := 28736) x w

/-- A product with some of the weights' columns is the whole product at those columns. -/
theorem cols (B : (S2 2048 n).Idx → EReal) (y : (S2 32768 n).Idx) (z : (S2 32768 28736).Idx) (hz : (z 0).val = (y 0).val)
    (hB : ∀ k, B (ix2 k (y 1)) = w (ix2 k (z 1))) : prod (M := 32768) (K := 2048) (N := n) x B y = U x w z :=
  Finset.sum_congr rfl fun k _ => congrArg₂ (· * ·) (congrArg (fun r => x (ix2 r k)) (Fin.ext hz.symm)) (hB k)

/-- A slice of the weights' columns read at one. -/
theorem slice_col (off : ℕ) (h : (S2 2048 28736).Slices ![0, off] (S2 2048 n)) (k : Fin 2048) (j : Fin n) (z : Fin 28736) (hz : z.val = off + j.val) :
    extractStridedSlice (S2 2048 n) ![0, off] w h (ix2 k j) = w (ix2 k z) :=
  extractStridedSlice_apply ![0, off] w h _ _ fun a => match a with
    | ⟨0, _⟩ => (Nat.zero_add _).symm
    | ⟨1, _⟩ => hz

/-- A product with a slice of the weights' columns. -/
theorem cols_slice (off : ℕ) (h : (S2 2048 28736).Slices ![0, off] (S2 2048 n)) (y : (S2 32768 n).Idx) (z : (S2 32768 28736).Idx)
    (hz : (z 0).val = (y 0).val) (hz1 : (z 1).val = off + (y 1).val) :
    prod (M := 32768) (K := 2048) (N := n) x (extractStridedSlice (S2 2048 n) ![0, off] w h) y = U x w z :=
  cols x w _ y z hz fun k => slice_col w off h k _ _ hz1

/-- A gather of columns read at a column: the column its index names. -/
theorem gather_cols {α : Type} (v : S2048x6144.Idx → α) (idx : IVec S6144x1 32) (k : Fin 2048) (j b : Fin 6144)
    (hb : idx (ix2 j (0 : Fin 1)) = BitVec.ofNat 32 b.val) :
    Host.gather gather_S2048x6144_S6144x1_S2048x6144_0_1_n_n_1_1_20481 v idx (ix2 k j) = v (ix2 k b) := by
  unfold Host.gather
  congr 1
  funext a
  refine Fin.ext ?_
  match a with
  | ⟨0, _⟩ =>
    show GatherDims.start _ _ _ 0 + GatherDims.batchCoord _ _ 0 + GatherDims.offCoord _ _ 0 = k.val
    rw [GatherDims.batchCoord_eq_zero _ _ _ List.not_mem_nil]
    unfold GatherDims.start GatherDims.offCoord
    rw [dif_neg (by decide), dif_pos (by decide), Nat.zero_add]
    rfl
  | ⟨1, _⟩ =>
    show GatherDims.start _ _ _ 1 + GatherDims.batchCoord _ _ 1 + GatherDims.offCoord _ _ 1 = b.val
    rw [GatherDims.batchCoord_eq_zero _ _ _ List.not_mem_nil, GatherDims.offCoord_eq_zero _ _ _ (by decide)]
    unfold GatherDims.start
    rw [dif_pos (by decide)]
    have hsi : GatherDims.siIdx gather_S2048x6144_S6144x1_S2048x6144_0_1_n_n_1_1_20481 (ix2 k j) ⟨_, List.idxOf_lt_length_iff.2 (by decide : (1 : Fin 2) ∈ [1])⟩ = ix2 j (0 : Fin 1) := by
      funext c; refine Fin.ext ?_
      match c with
      | ⟨0, _⟩ => rfl
      | ⟨1, _⟩ => rfl
    have hl := b.isLt
    refine (congrArg (fun i => min (idx i).toInt.toNat (6144 - 1) + 0 + 0) hsi).trans ?_
    rw [hb, StableHlo.Predicate.toInt_ofNat_small _ (by omega)]
    show min ((b.val : Int)).toNat (6144 - 1) + 0 + 0 = b.val
    omega

/-- The reference's product is the whole projection. -/
theorem ref_U : Cert.Reference2Ideal.Read.val_main_v1 (F := Ideal) x w = U x w :=
  funext fun i => (Cert.Reference2Ideal.Read.val_main_v1_apply x w i).trans (Finset.sum_congr rfl fun k _ =>
    congrArg₂ (fun a b => x a * w b) (funext fun a => by fin_cases a <;> rfl) (funext fun a => by fin_cases a <;> rfl))

/-- The reference's scan input at a column: the projection at the column's place. -/
theorem ref_x (i : (S2 32768 6144).Idx) (z : (S2 32768 28736).Idx) (hz : (z 0).val = (i 0).val) (hz1 : (z 1).val = 16384 + place (i 1).val) :
    Cert.Reference2Ideal.Read.val_main_v19 (F := Ideal) x w i = U x w z := by
  refine (Cert.Reference2Ideal.Read.val_main_v18_apply (F := Ideal) x w i).trans ?_
  have h0 : (i 0).val < 32768 := (i 0).isLt
  have h1 : (i 1).val < 6144 := (i 1).isLt
  rw [← ref_U]
  unfold Cert.Reference2Ideal.Read.val_main_v13
  unfold place at hz1
  split at hz1
  · refine (concatenate_apply_piece (t := Cert.Reference2Ideal.S32768x8x768) 2 _ _ _ 0 (by simp) Cert.Reference2Ideal.S32768x8x512 _ rfl rfl 0 rfl
      (ix3 (i 0) (⟨(i 1).val / 768, by omega⟩ : Fin 8) (⟨(i 1).val % 768, by omega⟩ : Fin 512)) ?_ ?_).trans ?_
    · intro b hb
      match b with
      | ⟨0, _⟩ => show (i 0).val = ((i 0).val * 6144 + (i 1).val) / 6144; omega
      | ⟨1, _⟩ => show (i 1).val / 768 = ((i 0).val * 6144 + (i 1).val) / 768 % 8; omega
      | ⟨2, _⟩ => exact absurd rfl hb
    · show 0 + (i 1).val % 768 = ((i 0).val * 6144 + (i 1).val) % 768; omega
    · refine (Cert.Reference2Ideal.Read.val_main_v10_apply (F := Ideal) x w _).trans ((Cert.Reference2Ideal.Read.val_main_v5_apply (F := Ideal) x w _).trans
        (congrArg _ (funext fun a => Fin.ext ?_)))
      match a with
      | ⟨0, _⟩ => show (((i 0).val * 8 + (i 1).val / 768) * 512 + (i 1).val % 768) / 4096 = (z 0).val; omega
      | ⟨1, _⟩ => show 16384 + (((i 0).val * 8 + (i 1).val / 768) * 512 + (i 1).val % 768) % 4096 = (z 1).val; omega
  · split at hz1
    · refine (concatenate_apply_piece (t := Cert.Reference2Ideal.S32768x8x768) 2 _ _ _ 1 (by simp) Cert.Reference2Ideal.S32768x8x128 _ rfl rfl 512 rfl
        (ix3 (i 0) (⟨(i 1).val / 768, by omega⟩ : Fin 8) (⟨(i 1).val % 768 - 512, by omega⟩ : Fin 128)) ?_ ?_).trans ?_
      · intro b hb
        match b with
        | ⟨0, _⟩ => show (i 0).val = ((i 0).val * 6144 + (i 1).val) / 6144; omega
        | ⟨1, _⟩ => show (i 1).val / 768 = ((i 0).val * 6144 + (i 1).val) / 768 % 8; omega
        | ⟨2, _⟩ => exact absurd rfl hb
      · show 512 + ((i 1).val % 768 - 512) = ((i 0).val * 6144 + (i 1).val) % 768; omega
      · refine (Cert.Reference2Ideal.Read.val_main_v11_apply (F := Ideal) x w _).trans ((Cert.Reference2Ideal.Read.val_main_v6_apply (F := Ideal) x w _).trans
          (congrArg _ (funext fun a => Fin.ext ?_)))
        match a with
        | ⟨0, _⟩ => show (((i 0).val * 8 + (i 1).val / 768) * 128 + ((i 1).val % 768 - 512)) / 1024 = (z 0).val; omega
        | ⟨1, _⟩ => show 20480 + (((i 0).val * 8 + (i 1).val / 768) * 128 + ((i 1).val % 768 - 512)) % 1024 = (z 1).val; omega
    · refine (concatenate_apply_piece (t := Cert.Reference2Ideal.S32768x8x768) 2 _ _ _ 2 (by simp) Cert.Reference2Ideal.S32768x8x128 _ rfl rfl 640 rfl
        (ix3 (i 0) (⟨(i 1).val / 768, by omega⟩ : Fin 8) (⟨(i 1).val % 768 - 640, by omega⟩ : Fin 128)) ?_ ?_).trans ?_
      · intro b hb
        match b with
        | ⟨0, _⟩ => show (i 0).val = ((i 0).val * 6144 + (i 1).val) / 6144; omega
        | ⟨1, _⟩ => show (i 1).val / 768 = ((i 0).val * 6144 + (i 1).val) / 768 % 8; omega
        | ⟨2, _⟩ => exact absurd rfl hb
      · show 640 + ((i 1).val % 768 - 640) = ((i 0).val * 6144 + (i 1).val) % 768; omega
      · refine (Cert.Reference2Ideal.Read.val_main_v12_apply (F := Ideal) x w _).trans ((Cert.Reference2Ideal.Read.val_main_v7_apply (F := Ideal) x w _).trans
          (congrArg _ (funext fun a => Fin.ext ?_)))
        match a with
        | ⟨0, _⟩ => show (((i 0).val * 8 + (i 1).val / 768) * 128 + ((i 1).val % 768 - 640)) / 1024 = (z 0).val; omega
        | ⟨1, _⟩ => show 21504 + (((i 0).val * 8 + (i 1).val / 768) * 128 + ((i 1).val % 768 - 640)) % 1024 = (z 1).val; omega

/-- The fourth call's columns are the reference's. -/
theorem same_x (B : S2048x6144.Idx → EReal) (hB : B = Host.gather gather_S2048x6144_S6144x1_S2048x6144_0_1_n_n_1_1_20481
      (extractStridedSlice S2048x6144 ![0, 16384] w slices_S2048x28736_S2048x6144_0_16384)
      (broadcastInDim S6144x1 ![0] bcast_S6144_S6144x1_0 (select (cmpi .slt order (broadcastInDim S6144 ![] bcast_S_S6144 (constantI S_ 32 0#32)))
        (addi order (broadcastInDim S6144 ![] bcast_S_S6144 (constantI S_ 32 6144#32))) order))) :
    prod (M := 32768) (K := 2048) (N := 6144) x B = Cert.Reference2Ideal.Read.val_main_v19 (F := Ideal) x w := by
  funext i
  obtain ⟨hl, hp⟩ := lit_eq (i 1)
  have h1 : (i 1).val < 6144 := (i 1).isLt
  have ho : order (ix1 (i 1)) = BitVec.ofNat 32 (place (i 1).val) := by
    refine Eq.trans ?_ hl
    unfold order
    exact congrArg lit0 (Fin.ext (Shape.rowMajor_val_one _))
  rw [ref_x x w i (ix2 (i 0) (⟨16384 + place (i 1).val, by omega⟩ : Fin 28736)) rfl rfl]
  refine cols x w B i _ rfl fun k => ?_
  rw [hB]
  refine (gather_cols _ _ k (i 1) ⟨place (i 1).val, hp⟩ ?_).trans (slice_col w 16384 _ k _ _ rfl)
  have e : (broadcastInDim S6144x1 ![0] bcast_S6144_S6144x1_0 : IVec S6144 32 → IVec S6144x1 32) = fun f y => f (ix1 (y 0)) := by
    funext f y
    unfold broadcastInDim
    exact congrArg f (funext fun a => by fin_cases a; rfl)
  rw [e]
  show Scalar.select (IntOp.cmpi .slt (order (ix1 (i 1))) 0#32) _ (order (ix1 (i 1))) = _
  rw [ho, WordCmp.cmpi_slt_ofNat (b := 0) (by omega) (by omega), decide_eq_false (Nat.not_lt_zero _)]
  rfl

/-- Rows padded on the right, read inside. -/
theorem pad_in {r : ℕ} {u : Shape} (v : (S2 r 64).Idx → EReal) (q : u.Idx → EReal) (h : (S2 r 64).Pads ![0, 0] ![0, 64] ![0, 0] (S2 r 128)) (hu : 0 < u.numel)
    (y : (S2 r 128).Idx) (hi : (y 1).val < 64) : pad (S2 r 128) ![0, 0] ![0, 64] ![0, 0] v q h hu y = v (ix2 (y 0) (⟨(y 1).val, hi⟩ : Fin 64)) :=
  pad_apply_of_inside _ _ _ _ _ _ _ y (ix2 (y 0) (⟨(y 1).val, hi⟩ : Fin 64)) fun a => match a with
    | ⟨0, _⟩ => by show (y 0).val = 0 + (y 0).val * (0 + 1); omega
    | ⟨1, _⟩ => by show (y 1).val = 0 + (y 1).val * (0 + 1); omega

/-- Rows padded on the right, read outside. -/
theorem pad_out {r : ℕ} {u : Shape} (v : (S2 r 64).Idx → EReal) (q : u.Idx → EReal) (h : (S2 r 64).Pads ![0, 0] ![0, 64] ![0, 0] (S2 r 128)) (hu : 0 < u.numel)
    (y : (S2 r 128).Idx) (hi : ¬(y 1).val < 64) : pad (S2 r 128) ![0, 0] ![0, 64] ![0, 0] v q h hu y = q (Shape.Idx.first hu) :=
  pad_apply_of_not_inside _ _ _ _ _ _ _ y (1 : Fin 2) fun h => hi (by
    have h2 : ((y 1).val - 0) / (0 + 1) < 64 := h.2.2
    omega)

/-- The fifth call's columns are the reference's, its last ones zero. -/
theorem same_t (B : S2048x128.Idx → EReal) (hB : B = pad S2048x128 ![0, 0] ![0, 64] ![0, 0]
      (extractStridedSlice S2048x64 ![0, 22528] w slices_S2048x28736_S2048x64_0_22528) (sitofp (F := Ideal) .bf16 (constantI S_ 32 0#32))
      pads_S2048x64_S2048x128_000_0640 h_S_) :
    prod (M := 32768) (K := 2048) (N := 128) x B = Cert.Reference2Ideal.Read.val_main_v14 (F := Ideal) x w := by
  funext i
  unfold Cert.Reference2Ideal.Read.val_main_v14
  by_cases hi : (i 1).val < 64
  · refine Eq.trans ?_ ((pad_in (r := 32768) _ _ _ _ i hi).trans (Cert.Reference2Ideal.Read.val_main_v8_apply (F := Ideal) x w _)).symm
    rw [ref_U]
    refine cols x w B i _ rfl fun k => ?_
    rw [hB]
    exact (pad_in (r := 2048) _ _ _ _ (ix2 k (i 1)) hi).trans (slice_col w 22528 _ k _ _ rfl)
  · refine Eq.trans (Finset.sum_eq_zero fun k _ => ?_) ((pad_out (r := 32768) _ _ _ _ i hi).trans (sitofp_zero (φ := .f32))).symm
    rw [hB]
    exact (congrArg (x _ * ·) ((pad_out (r := 2048) _ _ _ _ (ix2 k (i 1)) hi).trans (sitofp_zero (φ := .bf16)))).trans (mul_zero _)

/-- A call's columns, a slice of the weights', are the same slice of the reference's product. -/
theorem same_slice (off : ℕ) (h : (S2 2048 28736).Slices ![0, off] (S2 2048 n)) (v : (S2 32768 n).Idx → EReal) (e : (S2 32768 n).Idx → (S2 32768 28736).Idx)
    (hv : ∀ i, v i = Cert.Reference2Ideal.Read.val_main_v1 (F := Ideal) x w (e i)) (he : ∀ i, (e i 0).val = (i 0).val) (he1 : ∀ i, (e i 1).val = off + (i 1).val) :
    prod (M := 32768) (K := 2048) (N := n) x (extractStridedSlice (S2 2048 n) ![0, off] w h) = v :=
  funext fun i => (cols_slice x w off h i (e i) (he i) (he1 i)).trans ((hv i).trans (congrFun (ref_U x w) (e i))).symm

/-- The call runs, keeps its arguments, and ends with its counters at zero. -/
theorem frame_kernel : Cert.quiescent_Kernel2 := fun m ρ _ => Cert.Kernel2.Gen.frame m ρ
/-- So does the idealized call. -/
theorem frame_ideal : Cert.quiescent_Kernel2Ideal := fun m ρ _ => Cert.Kernel2Ideal.Gen.frame m ρ
/-- So does the reference. -/
theorem frame_ref : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)
/-- The idealized call is the call's own text. -/
theorem preserves : Cert.preserves_Kernel2_Kernel2Ideal := trivial

/-- Calls and reference leave the same six arrays: the columns of one product. -/
theorem algebraic : Cert.algebraic_Kernel2Ideal_Reference2Ideal := by
  intro m ρ m' ρ' _ hag
  refine ⟨fun c => W8 m ρ c (Proc.devRef .tc main_v20), fun c => W8 m ρ c (Proc.devRef .tc main_v21), fun c => W8 m ρ c (Proc.devRef .tc main_v22),
    fun c => W8 m ρ c (Proc.devRef .tc main_v23), fun c => W8 m ρ c (Proc.devRef .tc main_v24), fun c => W8 m ρ c (Proc.devRef .tc main_v25),
    (θ_run defs _ _).mono (fun _ h c => ⟨h c _ (mem_uc main_v20 (by decide)), h c _ (mem_uc main_v21 (by decide)), h c _ (mem_uc main_v22 (by decide)),
      h c _ (mem_uc main_v23 (by decide)), h c _ (mem_uc main_v24 (by decide)), h c _ (mem_uc main_v25 (by decide)),
      (h c _ (mem_uc main_arg0 (by decide))).trans (W8_main_arg0 m ρ c), (h c _ (mem_uc main_arg1 (by decide))).trans (W8_main_arg1 m ρ c)⟩) (run_all (F := Ideal) m ρ),
    (θ_run Cert.Reference2Ideal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference2Ideal.Value.run (F := Ideal) m' ρ')⟩
  · rw [Cert.Reference2Ideal.Read.val_main_v15_eq, (hag c).1, (hag c).2]
    show _ = W8 m ρ c (Proc.devRef .tc main_v20)
    rw [end_a, w_a]
    exact (same_slice (X m c) (Wt m c) 0 _ _ _ (Cert.Reference2Ideal.Read.val_main_v2_apply (F := Ideal) _ _) (fun _ => rfl) fun _ => (Nat.zero_add _).symm).symm
  · rw [Cert.Reference2Ideal.Read.val_main_v16_eq, (hag c).1, (hag c).2]
    show _ = W8 m ρ c (Proc.devRef .tc main_v21)
    rw [end_b, w_b]
    exact (same_slice (X m c) (Wt m c) 6144 _ _ _ (Cert.Reference2Ideal.Read.val_main_v3_apply (F := Ideal) _ _) (fun _ => rfl) fun _ => rfl).symm
  · rw [Cert.Reference2Ideal.Read.val_main_v17_eq, (hag c).1, (hag c).2]
    show _ = W8 m ρ c (Proc.devRef .tc main_v22)
    rw [end_z, w_z]
    exact (same_slice (X m c) (Wt m c) 12288 _ _ _ (Cert.Reference2Ideal.Read.val_main_v4_apply (F := Ideal) _ _) (fun _ => rfl) fun _ => rfl).symm
  · rw [Cert.Reference2Ideal.Read.val_main_v19_eq, (hag c).1, (hag c).2]
    show _ = W8 m ρ c (Proc.devRef .tc main_v23)
    rw [end_x]
    exact (same_x (X m c) (Wt m c) _ (w_x m ρ c)).symm
  · rw [Cert.Reference2Ideal.Read.val_main_v14_eq, (hag c).1, (hag c).2]
    show _ = W8 m ρ c (Proc.devRef .tc main_v24)
    rw [end_t]
    exact (same_t (X m c) (Wt m c) _ (w_t m ρ c)).symm
  · rw [Cert.Reference2Ideal.Read.val_main_v20_eq, (hag c).1, (hag c).2]
    show _ = W8 m ρ c (Proc.devRef .tc main_v25)
    rw [end_g, w_g]
    exact (same_slice (X m c) (Wt m c) 22592 _ _ _ (Cert.Reference2Ideal.Read.val_main_v9_apply (F := Ideal) _ _) (fun _ => rfl) fun _ => rfl).symm

end Cert.Proof.InProj

end
-- ==== Proof.OutRun.lean ====
/- The output side's four products: what each call's array holds, and what the whole run leaves. -/
module

public import proofs.«01_k».proof.Defs
public import proofs.«01_k».proof.Proof.Mm
public import proofs.«01_k».proof.Proof.Gen.Kernel3Ideal.Frame
public import Idealize.ShloMosaic.Lib.Quiescent
public import Idealize.ShloMosaic.Lib.Pipeline.ValueKit.Geometry

@[expose] public section

set_option maxRecDepth 16384

noncomputable section

namespace Cert.Proof.Out

open Idealize.ShloMosaic Idealize.ShloMosaic.TcCoe Idealize.ShloMosaic.ValueIdx Cert.Proof.Tile Cert.Proof.Mm
open Idealize.SL Idealize.SL.RA Idealize.SL.BI Idealize.SL.BI.Laws Idealize.SL.ProofMode Idealize.SL.Sem
open Idealize.SL.BI.BIBase
open scoped Idealize.SL.BI
open Idealize.ShloMosaic.Rounds
open Cert.Kernel3Ideal Cert.Kernel3Ideal.Gen

section Run
variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole run: every array ends as the four calls, one after another, leave it. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Run

/-- Where two blocks sit at the same rows, the first so many columns further right, the first array's block read at an
    entry is the array there. -/
theorem at_tile {M N L m n : ℕ} {G : (S2 M N).Idx → EReal} {G' : (S2 m n).Idx → EReal} {eg : (S2 m n).Idx → (S2 M N).Idx}
    {ez : (S2 m n).Idx → (S2 M L).Idx} {ig iz : Fin 2 → ℕ} {o : ℕ} (h : ig 0 = iz 0 ∧ ig 1 = o + iz 1) (y : (S2 m n).Idx) (z : (S2 M N).Idx)
    (hz : (z 0).val = (ez y 0).val ∧ (z 1).val = o * n + (ez y 1).val) (hG : ∀ v, G' v = G (eg v))
    (hg0 : ∀ v, (eg v 0).val = ig 0 * m + 1 * (v 0).val) (hg1 : ∀ v, (eg v 1).val = ig 1 * n + 1 * (v 1).val)
    (hz0 : ∀ v, (ez v 0).val = iz 0 * m + 1 * (v 0).val) (hz1 : ∀ v, (ez v 1).val = iz 1 * n + 1 * (v 1).val) : G' y = G z := by
  rw [hG]
  refine congrArg G (funext fun a => Fin.ext ?_)
  match a with
  | ⟨0, _⟩ => exact (hg0 y).trans (by rw [h.1, ← hz0]; exact hz.1.symm)
  | ⟨1, _⟩ => exact (hg1 y).trans (by rw [h.2, Nat.add_mul, Nat.add_assoc, ← hz1]; exact hz.2.symm)

/-- The place in the three gates, side by side, of one branch's gate. -/
def spot (off : ℕ) (h : off ≤ 4096) (z : (S2 32768 2048).Idx) : (S2 32768 6144).Idx :=
  ix2 (z 0) (⟨off + (z 1).val, by have h1 : (z 1).val < 2048 := (z 1).isLt; omega⟩ : Fin 6144)

/-- A branch: its product times its gate's logistic. -/
def branch {K : ℕ} (x : (S2 32768 K).Idx → EReal) (w : (S2 K 2048).Idx → EReal) (g : (S2 32768 6144).Idx → EReal) (off : ℕ) (h : off ≤ 4096)
    (z : (S2 32768 2048).Idx) : EReal :=
  prod x w z * Ideal.logistic (g (spot off h z))

/-- The first call's block: a product times its gate's logistic. -/
theorem out_a (x : Vec Ideal S1024x2048 .bf16) (w : Vec Ideal S2048x1024 .bf16) (g : Vec Ideal S1024x1024 .bf16) (y : S1024x1024.Idx) :
    out0_3 (F := Ideal) x w g y = prod (M := 1024) (K := 2048) (N := 1024) x w y * Ideal.logistic (g y) := by
  unfold out0_3
  rw [View.canon_unit_zero (by funext a; fin_cases a <;> rfl),
    View.ld_unit_zero (S := S1024x2048) (by funext a; fin_cases a <;> rfl),
    View.ld_unit_zero (S := S2048x1024) (by funext a; fin_cases a <;> rfl),
    View.ld_unit_zero (S := S1024x1024) (by funext a; fin_cases a <;> rfl)]
  exact congrArg (· * Ideal.logistic (g y)) (congrFun (matmul_eq (φ := .bf16) (ψ := .bf16) x w shapeCasts_S2048x1024_S2048x1024) y)

/-- The second's: the same, onto what is there. -/
theorem out_b (x : Vec Ideal S1024x2048 .bf16) (w : Vec Ideal S2048x1024 .bf16) (g : Vec Ideal S1024x1024 .bf16) (s : Vec Ideal S1024x1024 .f32)
    (y : S1024x1024.Idx) :
    out1_4 (F := Ideal) x w g s y = prod (M := 1024) (K := 2048) (N := 1024) x w y * Ideal.logistic (g y) + s y := by
  unfold out1_4
  rw [View.canon_unit_zero (by funext a; fin_cases a <;> rfl),
    View.ld_unit_zero (S := S1024x2048) (by funext a; fin_cases a <;> rfl),
    View.ld_unit_zero (S := S2048x1024) (by funext a; fin_cases a <;> rfl),
    View.ld_unit_zero (S := S1024x1024) (by funext a; fin_cases a <;> rfl),
    View.ld_unit_zero (S := S1024x1024) (by funext a; fin_cases a <;> rfl)]
  exact congrArg₂ (fun p q => p * Ideal.logistic (g y) + q) (congrFun (matmul_eq (φ := .bf16) (ψ := .bf16) x w shapeCasts_S2048x1024_S2048x1024) y)
    (congrFun (shapeCast_self s shapeCasts_S1024x1024_S1024x1024) y)

/-- The third's: the same, its rows longer and its columns fewer. -/
theorem out_c (x : Vec Ideal S1024x4096 .bf16) (w : Vec Ideal S4096x512 .bf16) (g : Vec Ideal S1024x512 .bf16) (s : Vec Ideal S1024x512 .f32)
    (y : S1024x512.Idx) :
    out2_4 (F := Ideal) x w g s y = prod (M := 1024) (K := 4096) (N := 512) x w y * Ideal.logistic (g y) + s y := by
  unfold out2_4
  rw [View.canon_unit_zero (by funext a; fin_cases a <;> rfl),
    View.ld_unit_zero (S := S1024x4096) (by funext a; fin_cases a <;> rfl),
    View.ld_unit_zero (S := S4096x512) (by funext a; fin_cases a <;> rfl),
    View.ld_unit_zero (S := S1024x512) (by funext a; fin_cases a <;> rfl),
    View.ld_unit_zero (S := S1024x512) (by funext a; fin_cases a <;> rfl)]
  exact congrArg₂ (fun p q => p * Ideal.logistic (g y) + q) (congrFun (matmul_eq (φ := .bf16) (ψ := .bf16) x w shapeCasts_S4096x512_S4096x512) y)
    (congrFun (shapeCast_self s shapeCasts_S1024x512_S1024x512) y)

/-- The last's: a product onto the stream. -/
theorem out_d (x : Vec Ideal S1024x2048 .bf16) (w : Vec Ideal S2048x1024 .bf16) (s : Vec Ideal S1024x1024 .f32) (y : S1024x1024.Idx) :
    out3_3 (F := Ideal) x w s y = prod (M := 1024) (K := 2048) (N := 1024) x w y + s y := by
  unfold out3_3
  rw [View.canon_unit_zero (by funext a; fin_cases a <;> rfl),
    View.ld_unit_zero (S := S1024x2048) (by funext a; fin_cases a <;> rfl),
    View.ld_unit_zero (S := S2048x1024) (by funext a; fin_cases a <;> rfl),
    View.ld_unit_zero (S := S1024x1024) (by funext a; fin_cases a <;> rfl)]
  exact congrArg (· + s y) ((congrFun (congrArg (fun x => matmul (F := Ideal) dot_S1024x2048_S2048x1024_S1024x1024_1_0_0_1_n_n none x (shapeCast S2048x1024 w shapeCasts_S2048x1024_S2048x1024)
      (constant S1024x1024 .f32 0x00000000#32)) (shapeCast_self x shapeCasts_S1024x2048_S1024x2048)) y).trans
    (congrFun (matmul_eq (φ := .bf16) (ψ := .bf16) x w shapeCasts_S2048x1024_S2048x1024) y))

variable (V : (c : Dev nD) → (b : Ref sig .tc) → Buf (Elt Ideal) ((c : Thread nD τ).loc b)) (c : Dev nD)

/-- The first call's array is the first branch. -/
theorem final0 : (dat0 (F := Ideal) V c).arrAt 3 cfg0.N = branch (K := 2048) (V c main_arg0) (V c main_v0) (V c main_arg3) 0 (by decide) := by
  refine (dat0 (F := Ideal) V c).arrAt_eq_of_covers 3 _ (by decide +kernel) fun t _ y => ?_
  have h := (by decide +kernel : ∀ t : Fin grid0.N,
    ((win0_0.index t 0 = win0_3.index t 0 ∧ win0_0.index t 1 = 0) ∧ (win0_1.index t 0 = 0 ∧ win0_1.index t 1 = win0_3.index t 1)) ∧ (win0_2.index t 0 = win0_3.index t 0 ∧ win0_2.index t 1 = 0 + win0_3.index t 1)) t
  have hp := h.1
  have hg := h.2
  have ez0 : ∀ v, ((win0_3.rect t).emb v 0).val = win0_3.index t 0 * 1024 + 1 * (v 0).val := fun _ => rfl
  have ez1 : ∀ v, ((win0_3.rect t).emb v 1).val = win0_3.index t 1 * 1024 + 1 * (v 1).val := fun _ => rfl
  have ep : prod (M := 1024) (K := 2048) (N := 1024) (iblk0 V c 0 t) (iblk0 V c 1 t) y = prod (M := 32768) (K := 2048) (N := 2048) (V c main_arg0) (V c main_v0) ((win0_3.rect t).emb y) := by
    refine prod_tile (m := 1024) (n := 1024) (ea := (win0_0.rect t).emb) (eb := (win0_1.rect t).emb) (ez := (win0_3.rect t).emb) hp y ?_ ?_ ?_ ?_ ?_ ?_ ez0 ez1 <;>
      exact fun _ => rfl
  have eg : iblk0 V c 2 t y = V c main_arg3 (spot 0 (by decide) ((win0_3.rect t).emb y)) := by
    refine at_tile (M := 32768) (N := 6144) (L := 2048) (m := 1024) (n := 1024) (eg := (win0_2.rect t).emb) (ez := (win0_3.rect t).emb) hg y _ ⟨rfl, rfl⟩ ?_ ?_ ?_ ez0 ez1 <;>
      exact fun _ => rfl
  rw [after0_3]
  refine (cast_eq _ _).trans ?_
  exact (out_a _ _ _ y).trans (congrArg₂ (fun p q => p * Ideal.logistic q) ep eg)

/-- The second's is the second branch onto it. -/
theorem final1 : (dat1 (F := Ideal) V c).arrAt 4 cfg1.N = fun z => branch (K := 2048) (V c main_arg1) (V c main_v2) (V c main_arg3) 2048 (by decide) z + V c main_v1 z := by
  refine (dat1 (F := Ideal) V c).arrAt_eq_of_covers 4 _ (by decide +kernel) fun t _ y => ?_
  have h := (by decide +kernel : ∀ t : Fin grid1.N,
    ((win1_0.index t 0 = win1_4.index t 0 ∧ win1_0.index t 1 = 0) ∧ (win1_1.index t 0 = 0 ∧ win1_1.index t 1 = win1_4.index t 1)) ∧ (win1_2.index t 0 = win1_4.index t 0 ∧ win1_2.index t 1 = 2 + win1_4.index t 1) ∧ (win1_3.index t 0 = win1_4.index t 0 ∧ win1_3.index t 1 = 0 + win1_4.index t 1)) t
  have hp := h.1
  have hg := h.2.1
  have hs := h.2.2
  have ez0 : ∀ v, ((win1_4.rect t).emb v 0).val = win1_4.index t 0 * 1024 + 1 * (v 0).val := fun _ => rfl
  have ez1 : ∀ v, ((win1_4.rect t).emb v 1).val = win1_4.index t 1 * 1024 + 1 * (v 1).val := fun _ => rfl
  have ep : prod (M := 1024) (K := 2048) (N := 1024) (iblk1 V c 0 t) (iblk1 V c 1 t) y = prod (M := 32768) (K := 2048) (N := 2048) (V c main_arg1) (V c main_v2) ((win1_4.rect t).emb y) := by
    refine prod_tile (m := 1024) (n := 1024) (ea := (win1_0.rect t).emb) (eb := (win1_1.rect t).emb) (ez := (win1_4.rect t).emb) hp y ?_ ?_ ?_ ?_ ?_ ?_ ez0 ez1 <;>
      exact fun _ => rfl
  have eg : iblk1 V c 2 t y = V c main_arg3 (spot 2048 (by decide) ((win1_4.rect t).emb y)) := by
    refine at_tile (M := 32768) (N := 6144) (L := 2048) (m := 1024) (n := 1024) (eg := (win1_2.rect t).emb) (ez := (win1_4.rect t).emb) hg y _ ⟨rfl, rfl⟩ ?_ ?_ ?_ ez0 ez1 <;>
      exact fun _ => rfl
  have es : iblk1 V c 3 t y = V c main_v1 ((win1_4.rect t).emb y) := by
    refine at_tile (M := 32768) (N := 2048) (L := 2048) (m := 1024) (n := 1024) (eg := (win1_3.rect t).emb) (ez := (win1_4.rect t).emb) hs y _ ⟨rfl, by omega⟩ ?_ ?_ ?_ ez0 ez1 <;>
      exact fun _ => rfl
  rw [after1_4]
  refine (cast_eq _ _).trans ?_
  exact (out_b _ _ _ _ y).trans (congrArg₂ (fun p q : EReal => p + q) (congrArg₂ (fun p q => p * Ideal.logistic q) ep eg) es)

/-- The third's is the third branch onto both. -/
theorem final2 : (dat2 (F := Ideal) V c).arrAt 4 cfg2.N = fun z => branch (K := 4096) (V c main_arg2) (V c main_v4) (V c main_arg3) 4096 (by decide) z + V c main_v3 z := by
  refine (dat2 (F := Ideal) V c).arrAt_eq_of_covers 4 _ (by decide +kernel) fun t _ y => ?_
  have h := (by decide +kernel : ∀ t : Fin grid2.N,
    ((win2_0.index t 0 = win2_4.index t 0 ∧ win2_0.index t 1 = 0) ∧ (win2_1.index t 0 = 0 ∧ win2_1.index t 1 = win2_4.index t 1)) ∧ (win2_2.index t 0 = win2_4.index t 0 ∧ win2_2.index t 1 = 8 + win2_4.index t 1) ∧ (win2_3.index t 0 = win2_4.index t 0 ∧ win2_3.index t 1 = 0 + win2_4.index t 1)) t
  have hp := h.1
  have hg := h.2.1
  have hs := h.2.2
  have ez0 : ∀ v, ((win2_4.rect t).emb v 0).val = win2_4.index t 0 * 1024 + 1 * (v 0).val := fun _ => rfl
  have ez1 : ∀ v, ((win2_4.rect t).emb v 1).val = win2_4.index t 1 * 512 + 1 * (v 1).val := fun _ => rfl
  have ep : prod (M := 1024) (K := 4096) (N := 512) (iblk2 V c 0 t) (iblk2 V c 1 t) y = prod (M := 32768) (K := 4096) (N := 2048) (V c main_arg2) (V c main_v4) ((win2_4.rect t).emb y) := by
    refine prod_tile (m := 1024) (n := 512) (ea := (win2_0.rect t).emb) (eb := (win2_1.rect t).emb) (ez := (win2_4.rect t).emb) hp y ?_ ?_ ?_ ?_ ?_ ?_ ez0 ez1 <;>
      exact fun _ => rfl
  have eg : iblk2 V c 2 t y = V c main_arg3 (spot 4096 (by decide) ((win2_4.rect t).emb y)) := by
    refine at_tile (M := 32768) (N := 6144) (L := 2048) (m := 1024) (n := 512) (eg := (win2_2.rect t).emb) (ez := (win2_4.rect t).emb) hg y _ ⟨rfl, rfl⟩ ?_ ?_ ?_ ez0 ez1 <;>
      exact fun _ => rfl
  have es : iblk2 V c 3 t y = V c main_v3 ((win2_4.rect t).emb y) := by
    refine at_tile (M := 32768) (N := 2048) (L := 2048) (m := 1024) (n := 512) (eg := (win2_3.rect t).emb) (ez := (win2_4.rect t).emb) hs y _ ⟨rfl, by omega⟩ ?_ ?_ ?_ ez0 ez1 <;>
      exact fun _ => rfl
  rw [after2_4]
  refine (cast_eq _ _).trans ?_
  exact (out_c _ _ _ _ y).trans (congrArg₂ (fun p q : EReal => p + q) (congrArg₂ (fun p q => p * Ideal.logistic q) ep eg) es)

/-- The last's is their sum's product onto the stream. -/
theorem final3 : (dat3 (F := Ideal) V c).arrAt 3 cfg3.N = fun z => prod (M := 32768) (K := 2048) (N := 2048) (V c main_v5) (V c main_v6) z + V c main_arg4 z := by
  refine (dat3 (F := Ideal) V c).arrAt_eq_of_covers 3 _ (by decide +kernel) fun t _ y => ?_
  have h := (by decide +kernel : ∀ t : Fin grid3.N,
    ((win3_0.index t 0 = win3_3.index t 0 ∧ win3_0.index t 1 = 0) ∧ (win3_1.index t 0 = 0 ∧ win3_1.index t 1 = win3_3.index t 1)) ∧ (win3_2.index t 0 = win3_3.index t 0 ∧ win3_2.index t 1 = 0 + win3_3.index t 1)) t
  have hp := h.1
  have hs := h.2
  have ez0 : ∀ v, ((win3_3.rect t).emb v 0).val = win3_3.index t 0 * 1024 + 1 * (v 0).val := fun _ => rfl
  have ez1 : ∀ v, ((win3_3.rect t).emb v 1).val = win3_3.index t 1 * 1024 + 1 * (v 1).val := fun _ => rfl
  have ep : prod (M := 1024) (K := 2048) (N := 1024) (iblk3 V c 0 t) (iblk3 V c 1 t) y = prod (M := 32768) (K := 2048) (N := 2048) (V c main_v5) (V c main_v6) ((win3_3.rect t).emb y) := by
    refine prod_tile (m := 1024) (n := 1024) (ea := (win3_0.rect t).emb) (eb := (win3_1.rect t).emb) (ez := (win3_3.rect t).emb) hp y ?_ ?_ ?_ ?_ ?_ ?_ ez0 ez1 <;>
      exact fun _ => rfl
  have es : iblk3 V c 2 t y = V c main_arg4 ((win3_3.rect t).emb y) := by
    refine at_tile (M := 32768) (N := 2048) (L := 2048) (m := 1024) (n := 1024) (eg := (win3_2.rect t).emb) (ez := (win3_3.rect t).emb) hs y _ ⟨rfl, by omega⟩ ?_ ?_ ?_ ez0 ez1 <;>
      exact fun _ => rfl
  rw [after3_3]
  refine (cast_eq _ _).trans ?_
  exact (out_d _ _ _ y).trans (congrArg₂ (fun p q : EReal => p + q) ep es)

end Cert.Proof.Out

end
-- ==== Proof.OutVal.lean ====
/- The output side's arrays as each call finds them, and what the run ends with. -/
module

public import proofs.«01_k».proof.Proof.OutRun

@[expose] public section

set_option maxRecDepth 16384

noncomputable section

namespace Cert.Proof.Out

open Idealize.ShloMosaic Idealize.ShloMosaic.TcCoe Idealize.ShloMosaic.ValueIdx Cert.Proof.Tile Cert.Proof.Mm
open Cert.Kernel3Ideal Cert.Kernel3Ideal.Gen

variable (m : (ℓ : Loc nD τ sig) → Buf (Elt Ideal) ℓ) (ρ : Dev nD → PrngReg) (c : Dev nD)

/-- The first branch's input. -/
abbrev Xa : S32768x2048.Idx → EReal := m ((c : Thread nD τ).loc main_arg0)
/-- The second's. -/
abbrev Xb : S32768x2048.Idx → EReal := m ((c : Thread nD τ).loc main_arg1)
/-- The third's. -/
abbrev Xc : S32768x4096.Idx → EReal := m ((c : Thread nD τ).loc main_arg2)
/-- The gates, side by side. -/
abbrev G : S32768x6144.Idx → EReal := m ((c : Thread nD τ).loc main_arg3)
/-- The stream. -/
abbrev H : S32768x2048.Idx → EReal := m ((c : Thread nD τ).loc main_arg4)
/-- The first branch's weights. -/
abbrev Wa : S2048x2048.Idx → EReal := m ((c : Thread nD τ).loc main_arg5)
/-- The second's. -/
abbrev Wb : S2048x2048.Idx → EReal := m ((c : Thread nD τ).loc main_arg6)
/-- The third's. -/
abbrev Wc : S4096x2048.Idx → EReal := m ((c : Thread nD τ).loc main_arg7)
/-- The output's. -/
abbrev Wo : S2048x2048.Idx → EReal := m ((c : Thread nD τ).loc main_arg8)

/-- The first call's weights. -/
theorem w_a : W1 m ρ c (Proc.devRef .tc main_v0) = Wa m c := by
  show StableHlo.after _ _ _ = _
  after_results
  rfl

/-- The second's. -/
theorem w_b : W3 m ρ c (Proc.devRef .tc main_v2) = Wb m c := by
  refine Eq.trans ?_ (W2_args m ρ c main_arg6 (by decide))
  show StableHlo.after _ _ _ = _
  after_results
  rfl

/-- The third's. -/
theorem w_c : W5 m ρ c (Proc.devRef .tc main_v4) = Wc m c := by
  refine Eq.trans ?_ (W4_args m ρ c main_arg7 (by decide))
  show StableHlo.after _ _ _ = _
  after_results
  rfl

/-- The last's. -/
theorem w_o : W7 m ρ c (Proc.devRef .tc main_v6) = Wo m c := by
  refine Eq.trans ?_ (W6_args m ρ c main_arg8 (by decide))
  show StableHlo.after _ _ _ = _
  after_results
  rfl

/-- What the second call finds of the first. -/
theorem sum1 : W3 m ρ c (Proc.devRef .tc main_v1) = branch (K := 2048) (Xa m c) (Wa m c) (G m c) 0 (by decide) := by
  rw [W3_of m ρ c main_v1 (by decide), (W2_arr m ρ c 3 :), final0, show V1 m ρ c main_arg0 = _ from W1_args m ρ c main_arg0 (by decide),
    show V1 m ρ c main_arg3 = _ from W1_args m ρ c main_arg3 (by decide), show V1 m ρ c main_v0 = _ from w_a m ρ c]

/-- What the third finds of both. -/
theorem sum2 : W5 m ρ c (Proc.devRef .tc main_v3) = fun z => branch (K := 2048) (Xb m c) (Wb m c) (G m c) 2048 (by decide) z
    + branch (K := 2048) (Xa m c) (Wa m c) (G m c) 0 (by decide) z := by
  rw [W5_of m ρ c main_v3 (by decide), (W4_arr m ρ c 4 :), final1, show V3 m ρ c main_arg1 = _ from W3_args m ρ c main_arg1 (by decide),
    show V3 m ρ c main_arg3 = _ from W3_args m ρ c main_arg3 (by decide), show V3 m ρ c main_v2 = _ from w_b m ρ c,
    show V3 m ρ c main_v1 = _ from sum1 m ρ c]

/-- The three branches' sum, as the calls add them. -/
def total (z : (S2 32768 2048).Idx) : EReal :=
  branch (K := 4096) (Xc m c) (Wc m c) (G m c) 4096 (by decide) z + (branch (K := 2048) (Xb m c) (Wb m c) (G m c) 2048 (by decide) z
    + branch (K := 2048) (Xa m c) (Wa m c) (G m c) 0 (by decide) z)

/-- What the last finds of the three. -/
theorem sum3 : W7 m ρ c (Proc.devRef .tc main_v5) = total m c := by
  rw [W7_of m ρ c main_v5 (by decide), (W6_arr m ρ c 4 :), final2, show V5 m ρ c main_arg2 = _ from W5_args m ρ c main_arg2 (by decide),
    show V5 m ρ c main_arg3 = _ from W5_args m ρ c main_arg3 (by decide), show V5 m ρ c main_v4 = _ from w_c m ρ c,
    show V5 m ρ c main_v3 = _ from sum2 m ρ c]
  rfl

/-- The last call's array at the end. -/
theorem end_o : W8 m ρ c (Proc.devRef .tc main_v7) = fun z => prod (M := 32768) (K := 2048) (N := 2048) (total m c) (Wo m c) z + H m c z := by
  rw [(W8_arr m ρ c 3 :), final3, show V7 m ρ c main_arg4 = _ from W7_args m ρ c main_arg4 (by decide),
    show V7 m ρ c main_v6 = _ from w_o m ρ c, show V7 m ρ c main_v5 = _ from sum3 m ρ c]

end Cert.Proof.Out

end
-- ==== Proof.Out.lean ====
/- The output side's five claims: the three gated branches summed, their product with the output weights, and the stream. -/
module

public import proofs.«01_k».proof.Proof.OutVal
public import proofs.«01_k».proof.Proof.Gen.Kernel3.Frame
public import proofs.«01_k».proof.Proof.Gen.Reference3Ideal.Run
public import proofs.«01_k».proof.Proof.Gen.Reference3Ideal.Read

@[expose] public section

set_option maxRecDepth 16384

noncomputable section

namespace Cert.Proof.Out

open Idealize.ShloMosaic Idealize.ShloMosaic.TcCoe Idealize.ShloMosaic.ValueIdx Idealize.SL.Sem Cert.Proof.Tile Cert.Proof.Mm
open Cert.Kernel3Ideal Cert.Kernel3Ideal.Gen

section Reference
open Cert.Reference3Ideal.Read

variable (a b : (S2 32768 2048).Idx → EReal) (d : (S2 32768 4096).Idx → EReal) (g : (S2 32768 6144).Idx → EReal) (s : (S2 32768 2048).Idx → EReal)
  (wa wb : (S2 2048 2048).Idx → EReal) (wd : (S2 4096 2048).Idx → EReal) (wo : (S2 2048 2048).Idx → EReal)

/-- The reference's first product. -/
theorem ref_a : val_main_v1 (F := Ideal) a wa = prod (M := 32768) (K := 2048) (N := 2048) a wa :=
  funext fun i => (val_main_v1_apply a wa i).trans (Finset.sum_congr rfl fun k _ =>
    congrArg₂ (fun p q => a p * wa q) (funext fun e => by fin_cases e <;> rfl) (funext fun e => by fin_cases e <;> rfl))

/-- Its second. -/
theorem ref_b : val_main_v3 (F := Ideal) b wb = prod (M := 32768) (K := 2048) (N := 2048) b wb :=
  funext fun i => (val_main_v3_apply b wb i).trans (Finset.sum_congr rfl fun k _ =>
    congrArg₂ (fun p q => b p * wb q) (funext fun e => by fin_cases e <;> rfl) (funext fun e => by fin_cases e <;> rfl))

/-- Its third. -/
theorem ref_d : val_main_v5 (F := Ideal) d wd = prod (M := 32768) (K := 4096) (N := 2048) d wd :=
  funext fun i => (val_main_v5_apply d wd i).trans (Finset.sum_congr rfl fun k _ =>
    congrArg₂ (fun p q => d p * wd q) (funext fun e => by fin_cases e <;> rfl) (funext fun e => by fin_cases e <;> rfl))

/-- Its gates: one over one more than the exponential of what they are, negated. -/
theorem ref_gate (z : (S2 32768 6144).Idx) : val_main_v12 (F := Ideal) g z = Ideal.logistic (g z) := by
  rw [val_main_v12_apply, val_main_v10_apply, val_main_v11_apply, val_main_v9_apply]
  show Ideal.div (Ideal.ofBits .f32 0x3F800000#32) (Ideal.ofBits .f32 0x3F800000#32 + Ideal.exp (-(g z))) = _
  rw [one_f32]
  rfl

/-- The sum of its gated branches: the same three, in another order. -/
theorem ref_total (z : (S2 32768 2048).Idx) : val_main_v20 (F := Ideal) a b d g wa wb wd z
    = branch (K := 4096) d wd g 4096 (by decide) z + (branch (K := 2048) b wb g 2048 (by decide) z + branch (K := 2048) a wa g 0 (by decide) z) := by
  rw [val_main_v20_apply, val_main_v18_apply, val_main_v16_apply, val_main_v17_apply, val_main_v19_apply, val_main_v13_apply, val_main_v14_apply,
    val_main_v15_apply, ref_gate, ref_gate, ref_gate, ref_a, ref_b, ref_d]
  have e0 : Cert.Reference3Ideal.Read.idx_main_v13 z = spot 0 (by decide) z := funext fun e => Fin.ext (by
    match e with
    | ⟨0, _⟩ => rfl
    | ⟨1, _⟩ => exact (Nat.zero_add _).symm)
  have e1 : Cert.Reference3Ideal.Read.idx_main_v14 z = spot 2048 (by decide) z := funext fun e => Fin.ext (by
    match e with
    | ⟨0, _⟩ => rfl
    | ⟨1, _⟩ => rfl)
  have e2 : Cert.Reference3Ideal.Read.idx_main_v15 z = spot 4096 (by decide) z := funext fun e => Fin.ext (by
    match e with
    | ⟨0, _⟩ => rfl
    | ⟨1, _⟩ => rfl)
  rw [e0, e1, e2]
  show Ideal.logistic _ * _ + Ideal.logistic _ * _ + Ideal.logistic _ * _ = _
  unfold branch
  rw [add_comm, add_comm (Ideal.logistic (g (spot 0 _ z)) * _), mul_comm, mul_comm (Ideal.logistic (g (spot 2048 _ z))),
    mul_comm (Ideal.logistic (g (spot 0 _ z)))]

/-- Its result: the stream and the sum's product with the output weights. -/
theorem ref_out (z : (S2 32768 2048).Idx) : val_main_v22 (F := Ideal) a b d g s wa wb wd wo z
    = prod (M := 32768) (K := 2048) (N := 2048) (fun z => branch (K := 4096) d wd g 4096 (by decide) z
        + (branch (K := 2048) b wb g 2048 (by decide) z + branch (K := 2048) a wa g 0 (by decide) z)) wo z + s z := by
  rw [val_main_v22_apply]
  refine (add_comm (s z) _).trans (congrArg (· + s z) ?_)
  refine (val_main_v21_apply a b d g wa wb wd wo z).trans (Finset.sum_congr rfl fun k _ => congrArg₂ (· * ·) ?_ ?_)
  · refine (ref_total a b d g wa wb wd _).trans ?_
    refine congrArg (fun z => branch (K := 4096) d wd g 4096 (by decide) z
        + (branch (K := 2048) b wb g 2048 (by decide) z + branch (K := 2048) a wa g 0 (by decide) z)) (funext fun e => ?_)
    fin_cases e <;> rfl
  · exact congrArg wo (funext fun e => by fin_cases e <;> rfl)

end Reference

/-- The calls run, keep their arguments, and end with their counters at zero. -/
theorem frame_kernel : Cert.quiescent_Kernel3 := fun m ρ _ => Cert.Kernel3.Gen.frame m ρ
/-- So do the idealized calls. -/
theorem frame_ideal : Cert.quiescent_Kernel3Ideal := fun m ρ _ => Cert.Kernel3Ideal.Gen.frame m ρ
/-- So does the reference. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
/-- The idealized calls are the calls' own text. -/
theorem preserves : Cert.preserves_Kernel3_Kernel3Ideal := trivial

/-- Calls and reference leave the same array: the stream and the gated branches' sum through the output weights. -/
theorem algebraic : Cert.algebraic_Kernel3Ideal_Reference3Ideal := by
  intro m ρ m' ρ' _ hag
  refine ⟨fun c => W8 m ρ c (Proc.devRef .tc main_v7),
    (θ_run defs _ _).mono (fun _ h c => ⟨h c _ (mem_uc main_v7 (by decide)),
      (h c _ (mem_uc main_arg0 (by decide))).trans (W8_main_arg0 m ρ c), (h c _ (mem_uc main_arg1 (by decide))).trans (W8_main_arg1 m ρ c),
      (h c _ (mem_uc main_arg2 (by decide))).trans (W8_main_arg2 m ρ c), (h c _ (mem_uc main_arg3 (by decide))).trans (W8_main_arg3 m ρ c),
      (h c _ (mem_uc main_arg4 (by decide))).trans (W8_main_arg4 m ρ c), (h c _ (mem_uc main_arg5 (by decide))).trans (W8_main_arg5 m ρ c),
      (h c _ (mem_uc main_arg6 (by decide))).trans (W8_main_arg6 m ρ c), (h c _ (mem_uc main_arg7 (by decide))).trans (W8_main_arg7 m ρ c),
      (h c _ (mem_uc main_arg8 (by decide))).trans (W8_main_arg8 m ρ c)⟩) (run_all (F := Ideal) m ρ),
    (θ_run Cert.Reference3Ideal.defs _ _).mono (fun _ h c => ⟨(h c).1.trans ?_, (h c).2⟩) (Cert.Reference3Ideal.Value.run (F := Ideal) m' ρ')⟩
  obtain ⟨h0, h1, h2, h3, h4, h5, h6, h7, h8⟩ := hag c
  rw [Cert.Reference3Ideal.Read.val_main_v22_eq, h0, h1, h2, h3, h4, h5, h6, h7, h8]
  show _ = W8 m ρ c (Proc.devRef .tc main_v7)
  rw [end_o]
  exact funext fun z => ref_out (Xa m c) (Xb m c) (Xc m c) (G m c) (H m c) (Wa m c) (Wb m c) (Wc m c) (Wo m c) z

end Cert.Proof.Out

end
-- ==== Proof.Query.lean ====
/- The queries of the experts' retrieval: the call's array is the product of the tokens and the weights. -/
module

public import proofs.«01_k».proof.Defs
public import proofs.«01_k».proof.Proof.Mm
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent
public import Idealize.ShloMosaic.Lib.Pipeline.ValueKit.Geometry

@[expose] public section

set_option maxRecDepth 16384

noncomputable section

namespace Cert.Proof.Query

open Idealize.ShloMosaic Idealize.ShloMosaic.TcCoe Idealize.ShloMosaic.ValueIdx Idealize.SL.Sem Cert.Proof.Tile Cert.Proof.Mm
open Cert.Kernel4Ideal Cert.Kernel4Ideal.Gen

/-- The weights as the call finds them are the weights given. -/
theorem V_w (m : (ℓ : Loc nD τ sig) → Buf (Elt Ideal) ℓ) (c : Dev nD) :
    V m c main_v0 = (fun i => (m ((c : Thread nD τ).loc main_arg1) i : EReal) : S2048x2048.Idx → EReal) := by
  show StableHlo.after _ _ _ = _
  after_results
  rfl

/-- A block is the product of its rows and columns. -/
theorem out_eq (x : Vec Ideal S1024x2048 .bf16) (w : Vec Ideal S2048x1024 .bf16) :
    out0_2 (F := Ideal) x w = prod (M := 1024) (K := 2048) (N := 1024) x w := by
  unfold out0_2
  rw [View.canon_unit_zero (by funext a; fin_cases a <;> rfl), View.ld_unit_zero (S := S1024x2048) (by funext a; fin_cases a <;> rfl),
    View.ld_unit_zero (S := S2048x1024) (by funext a; fin_cases a <;> rfl)]
  exact matmul_eq (φ := .bf16) (ψ := .bf16) x w _

/-- The block each grid point reads and writes. -/
theorem index_all : ∀ t : Fin cfg0.N,
    (win0_0.index t 0 = win0_2.index t 0 ∧ win0_0.index t 1 = 0) ∧ (win0_1.index t 0 = 0 ∧ win0_1.index t 1 = win0_2.index t 1) :=
  (by decide +kernel : ∀ t : Fin grid0.N, _)

variable (m : (ℓ : Loc nD τ sig) → Buf (Elt Ideal) ℓ) (c : Dev nD)

/-- The call's array is the product. -/
theorem final_eq : (dats (F := Ideal) m 0 c).arrAt 2 cfg0.N = prod (M := 32768) (K := 2048) (N := 2048) (V m c main_arg0) (V m c main_v0) := by
  refine (dats (F := Ideal) m 0 c).arrAt_eq_of_covers 2 _ (by decide +kernel) fun t hf y => ?_
  obtain ⟨⟨a0, a1⟩, b0, b1⟩ := index_all t
  rw [after0_2, out_eq]
  refine prod_block (m := 1024) (n := 1024) ((win0_0.rect t).emb) ((win0_1.rect t).emb) y ((win0_2.rect t).emb y) ?_ ?_ ?_ ?_ ?_ ?_
  · intro v; rfl
  · intro v; rfl
  · intro v hv
    show win0_0.index t 0 * 1024 + 1 * (v 0).val = win0_2.index t 0 * 1024 + 1 * (y 0).val
    rw [a0, hv]
  · intro v
    show win0_0.index t 1 * 2048 + 1 * (v 1).val = (v 1).val
    rw [a1]; omega
  · intro v
    show win0_1.index t 0 * 2048 + 1 * (v 0).val = (v 0).val
    rw [b0]; omega
  · intro v hv
    show win0_1.index t 1 * 1024 + 1 * (v 1).val = win0_2.index t 1 * 1024 + 1 * (y 1).val
    rw [b1, hv]

/-- The reference's array is the product. -/
theorem ref_eq (x : (⟨S32768x2048, .bf16⟩ : BufTy).Contents (Elt Ideal)) (w : (⟨S2048x2048, .f32⟩ : BufTy).Contents (Elt Ideal)) :
    Cert.Reference4Ideal.Read.val_main_v2 (F := Ideal) x w = prod (M := 32768) (K := 2048) (N := 2048) x w :=
  funext fun i => (Cert.Reference4Ideal.Read.val_main_v1_apply x w i).trans (Finset.sum_congr rfl fun k _ =>
    congrArg₂ (fun a b => x a * w b) (funext fun a => by fin_cases a <;> rfl) (funext fun a => by fin_cases a <;> rfl))

/-- The call runs, keeps its arguments, and ends with its counters at zero. -/
theorem frame_kernel : Cert.quiescent_Kernel4 := fun m ρ _ => Cert.Kernel4.Gen.frame m ρ
/-- So does the idealized call. -/
theorem frame_ideal : Cert.quiescent_Kernel4Ideal := fun m ρ _ => Cert.Kernel4Ideal.Gen.frame m ρ
/-- So does the reference. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
/-- The idealized call is the call's own text. -/
theorem preserves : Cert.preserves_Kernel4_Kernel4Ideal := trivial
/-- Call and reference leave the same array: the product of the tokens and the weights. -/
theorem algebraic : Cert.algebraic_Kernel4Ideal_Reference4Ideal := by
  intro m ρ m' ρ' _ hag
  refine ⟨_, Cert.Kernel4Ideal.Value.run_blocks (F := Ideal) m ρ,
    (θ_run Cert.Reference4Ideal.defs _ _).mono (fun _ h c => ⟨(h c).1.trans ?_, (h c).2⟩) (Cert.Reference4Ideal.Value.run (F := Ideal) m' ρ')⟩
  rw [Cert.Reference4Ideal.Read.val_main_v2_eq, (hag c).1, (hag c).2, final_eq m c, V_main_arg0, V_w]
  exact ref_eq _ _

end Cert.Proof.Query

end
-- ==== Proof.Norm.lean ====
/- The norms of the residual stream: a row divided by its root mean square, times the weights, on a block of rows and on
   the whole stream. -/
module

public import proofs.«01_k».proof.Defs
public import proofs.«01_k».proof.Proof.Tile
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent
public import Idealize.ShloMosaic.Lib.Pipeline.ValueKit.Geometry

@[expose] public section

set_option maxRecDepth 16384

noncomputable section

namespace Cert.Proof.Norm

open Idealize.ShloMosaic Idealize.ShloMosaic.TcCoe Idealize.ShloMosaic.ValueIdx Idealize.SL.Sem Cert.Proof.Tile
open Cert.Kernel5Ideal Cert.Kernel5Ideal.Gen

/-- What a row is divided by: the root of the mean of its squares plus the small constant, inverted. -/
def scale {n : ℕ} (x : (S2 n 2048).Idx → EReal) (r : Fin n) : EReal :=
  Ideal.rsqrt (Ideal.div (∑ k : Fin 2048, x (ix2 r k) * x (ix2 r k)) (Ideal.ofBits .f32 0x45000000#32) + Ideal.ofBits .f32 0x358637BD#32)

/-- The rows normed and weighted. -/
def nrm {n : ℕ} (x : (S2 n 2048).Idx → EReal) (w : Fin 2048 → EReal) : (S2 n 2048).Idx → EReal :=
  fun y => x y * scale x (y 0) * w (y 1)

/-- Two arrays added. -/
def plus {n : ℕ} (x a : (S2 n 2048).Idx → EReal) : (S2 n 2048).Idx → EReal := fun i => x i + a i

/-- The norm of a block's row is the norm of the whole stream's row at that place. -/
theorem nrm_block {n N : ℕ} {x : (S2 n 2048).Idx → EReal} {X : (S2 N 2048).Idx → EReal} {w W : Fin 2048 → EReal} (f : (S2 n 2048).Idx → (S2 N 2048).Idx)
    (hx : ∀ v, x v = X (f v)) (hw : w = W) (h0 : ∀ v v', v 0 = v' 0 → (f v) 0 = (f v') 0) (h1 : ∀ v, (f v) 1 = v 1) (y : (S2 n 2048).Idx) :
    nrm x w y = nrm X W (f y) := by
  have hs : ∀ k : Fin 2048, f (ix2 (y 0) k) = ix2 ((f y) 0) k := fun k => by
    funext a
    match a with
    | ⟨0, _⟩ => exact h0 _ _ rfl
    | ⟨1, _⟩ => exact h1 _
  subst hw
  unfold nrm scale
  rw [hx, h1]
  simp only [hx, hs]
  rfl

/-- The block a step of the norm leaves. -/
theorem pay_eq (x : Vec Ideal S512x2048 .f32) (w : Vec Ideal S1x2048 .f32) : k0_pay1 (F := Ideal) x w = nrm (n := 512) x (fun k => w (ix2 u0 k)) := by
  funext y
  refine (Cert.Kernel5Ideal.Value.piece2_0 x w y).trans ?_
  have e : r0_0.idx y = y := by
    funext a
    match a with
    | ⟨0, _⟩ => exact Fin.ext ((Nat.zero_add _).trans (Nat.one_mul _))
    | ⟨1, _⟩ => exact Fin.ext ((Nat.zero_add _).trans (Nat.one_mul _))
  rw [e]
  have s : multiReduction (F := Ideal) .add [1] S512 (mulf x x) 0x00000000#32 reduces_S512x2048_S512 (.inl rfl) rfl (Cert.Kernel5Ideal.Value.ix2_1 y)
      = ∑ k : Fin 2048, x (ix2 (y 0) k) * x (ix2 (y 0) k) :=
    (Ideal.multiReduction_add_single _ _ reduces_S512x2048_S512 _ _ _).trans (Finset.sum_congr rfl fun k _ =>
      congrArg (fun i => x i * x i) (funext fun a => Fin.ext (by match a with | ⟨0, _⟩ => rfl | ⟨1, _⟩ => rfl)))
  refine congrArg₂ (· * ·) (congrArg₂ (· * ·) (congrArg x (funext fun a => by match a with | ⟨0, _⟩ => rfl | ⟨1, _⟩ => rfl)) ?_)
    (congrArg w (funext fun a => by match a with | ⟨0, _⟩ => rfl | ⟨1, _⟩ => rfl))
  exact congrArg (fun t => Ideal.rsqrt (Ideal.div t _ + _)) s

/-- The reference's array is the stream normed. -/
theorem ref_eq (x : (⟨S32768x2048, .f32⟩ : BufTy).Contents (Elt Ideal)) (w : (⟨S2048, .f32⟩ : BufTy).Contents (Elt Ideal)) :
    Cert.Reference5Ideal.Read.val_main_v13 (F := Ideal) x w = nrm (n := 32768) x (fun k => w (ix1 k)) := by
  funext y
  have s : Cert.Reference5Ideal.Read.val_main_v1 (F := Ideal) x (ix1 (y 0)) = ∑ k : Fin 2048, x (ix2 (y 0) k) * x (ix2 (y 0) k) := by
    refine (Cert.Reference5Ideal.Read.val_main_v1_apply x _).trans ((congrArg (· + _) ?_).trans (zero_add _)) |>.trans ?_
    · exact zero_f32
    · exact Finset.sum_congr rfl fun k _ => congrArg (fun i => x i * x i) (funext fun a => by match a with | ⟨0, _⟩ => rfl | ⟨1, _⟩ => rfl)
  rw [Cert.Reference5Ideal.Read.val_main_v13_apply, Cert.Reference5Ideal.Read.val_main_v12_apply, Cert.Reference5Ideal.Read.val_main_v9_apply,
    Cert.Reference5Ideal.Read.val_main_v8_apply, Cert.Reference5Ideal.Read.val_main_v7_apply, Cert.Reference5Ideal.Read.val_main_v6_apply,
    Cert.Reference5Ideal.Read.val_main_v4_apply, Cert.Reference5Ideal.Read.val_main_v2_apply, Cert.Reference5Ideal.Read.val_main_v3_apply,
    Cert.Reference5Ideal.Read.val_main_v5_apply, Cert.Reference5Ideal.Read.val_main_v11_apply, Cert.Reference5Ideal.Read.val_main_v10_apply]
  refine congrArg₂ (· * ·) (congrArg (x y * ·) ?_) (congrArg w (funext fun a => by match a with | ⟨0, _⟩ => rfl))
  exact congrArg (fun t => Ideal.rsqrt (Ideal.div t (Ideal.ofBits .f32 0x45000000#32) + Ideal.ofBits .f32 0x358637BD#32)) ((congrArg _ (funext fun a => by match a with | ⟨0, _⟩ => rfl)).trans s)

/-- The weights as the call finds them: the weights given, as one row. -/
theorem V_w (m : (ℓ : Loc nD τ sig) → Buf (Elt Ideal) ℓ) (c : Dev nD) :
    V m c main_v0 = shapeCast S1x2048 (m ((c : Thread nD τ).loc main_arg1)) shapeCasts_S2048_S1x2048 := by
  show StableHlo.after _ _ _ = _
  after_results
  rfl

/-- A vector of weights as one row, read in the row. -/
theorem row_at (w : S2048.Idx → EReal) (h : S2048.ShapeCasts S1x2048) (k : Fin 2048) : shapeCast S1x2048 w h (ix2 u0 k) = w (ix1 k) :=
  shapeCast_apply w h (ix2 u0 k) (ix1 k) (by rw [Shape.rowMajor_val_two, Shape.rowMajor_val_one]; simp)

/-- A block holds its rows normed. -/
theorem out_eq (x : Vec Ideal S512x2048 .f32) (w : Vec Ideal S1x2048 .f32) : out0_2 (F := Ideal) x w = nrm (n := 512) x (fun k => w (ix2 u0 k)) := by
  unfold out0_2
  rw [View.canon_unit_zero (by funext a; fin_cases a <;> rfl), View.ld_unit_zero (S := S512x2048) (by funext a; fin_cases a <;> rfl),
    View.ld_unit_zero (S := S1x2048) (by funext a; fin_cases a <;> rfl)]
  exact pay_eq x w

/-- The block each grid point reads and writes. -/
theorem index_all : ∀ t : Fin cfg0.N,
    (win0_0.index t 0 = win0_2.index t 0 ∧ win0_0.index t 1 = 0) ∧ (win0_1.index t 0 = 0 ∧ win0_1.index t 1 = 0) ∧ win0_2.index t 1 = 0 :=
  (by decide +kernel : ∀ t : Fin grid0.N, _)

variable (m : (ℓ : Loc nD τ sig) → Buf (Elt Ideal) ℓ) (c : Dev nD)

/-- The call's array is the stream normed. -/
theorem final_eq : (dats (F := Ideal) m 0 c).arrAt 2 cfg0.N
    = nrm (n := 32768) (V m c main_arg0) (fun k => V m c main_v0 (ix2 u0 k)) := by
  refine (dats (F := Ideal) m 0 c).arrAt_eq_of_covers 2 _ (by decide +kernel) fun t hf y => ?_
  obtain ⟨⟨a0, a1⟩, ⟨b0, b1⟩, c1⟩ := index_all t
  rw [after0_2]
  refine (cast_eq _ _).trans ?_
  rw [out_eq]
  refine nrm_block ((win0_2.rect t).emb) (fun v => ?_) (funext fun k => ?_) ?_ ?_ y
  · refine congrArg (V m c main_arg0) (funext fun a => ?_)
    match a with
    | ⟨0, _⟩ => exact Fin.ext (by show win0_0.index t 0 * 512 + 1 * (v 0).val = win0_2.index t 0 * 512 + 1 * (v 0).val; rw [a0])
    | ⟨1, _⟩ => exact Fin.ext (by show win0_0.index t 1 * 2048 + 1 * (v 1).val = win0_2.index t 1 * 2048 + 1 * (v 1).val; rw [a1, c1])
  · refine congrArg (V m c main_v0) (funext fun a => ?_)
    match a with
    | ⟨0, _⟩ => exact Fin.ext (by show win0_1.index t 0 * 1 + 1 * 0 = 0; rw [b0])
    | ⟨1, _⟩ => exact Fin.ext (by show win0_1.index t 1 * 2048 + 1 * k.val = k.val; rw [b1]; omega)
  · intro v v' hv
    exact Fin.ext (by show win0_2.index t 0 * 512 + 1 * (v 0).val = win0_2.index t 0 * 512 + 1 * (v' 0).val; rw [hv])
  · intro v
    exact Fin.ext (by show win0_2.index t 1 * 2048 + 1 * (v 1).val = (v 1).val; rw [c1]; omega)

/-- The call runs, keeps its arguments, and ends with its counters at zero. -/
theorem frame_kernel : Cert.quiescent_Kernel5 := fun m ρ _ => Cert.Kernel5.Gen.frame m ρ
/-- So does the idealized call. -/
theorem frame_ideal : Cert.quiescent_Kernel5Ideal := fun m ρ _ => Cert.Kernel5Ideal.Gen.frame m ρ
/-- So does the reference. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
/-- The idealized call is the call's own text. -/
theorem preserves : Cert.preserves_Kernel5_Kernel5Ideal := trivial
/-- Call and reference leave the same array: the stream normed. -/
theorem algebraic : Cert.algebraic_Kernel5Ideal_Reference5Ideal := by
  intro m ρ m' ρ' _ hag
  refine ⟨_, Cert.Kernel5Ideal.Value.run_blocks (F := Ideal) m ρ,
    (θ_run Cert.Reference5Ideal.defs _ _).mono (fun _ h c => ⟨(h c).1.trans ?_, (h c).2⟩) (Cert.Reference5Ideal.Value.run (F := Ideal) m' ρ')⟩
  rw [Cert.Reference5Ideal.Read.val_main_v13_eq, (hag c).1, (hag c).2, final_eq m c, V_main_arg0, V_w, ref_eq]
  exact congrArg (nrm _) (funext fun k => (row_at _ _ k).symm)

end Cert.Proof.Norm

end
-- ==== Proof.Step.lean ====
/- The step from one layer to the next: the experts' output is added to the stream, and the sum normed. -/
module

public import proofs.«01_k».proof.Proof.Norm
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Proof.Step

open Idealize.ShloMosaic Idealize.ShloMosaic.TcCoe Idealize.ShloMosaic.ValueIdx Idealize.SL.Sem Cert.Proof.Tile Cert.Proof.Norm
open Cert.Kernel6Ideal Cert.Kernel6Ideal.Gen

/-- What is added to the stream. -/
theorem sum_eq (x a : Vec Ideal S512x2048 .f32) (w : Vec Ideal S1x2048 .f32) : out0_3 (F := Ideal) x a w = plus (n := 512) x a := by
  unfold out0_3
  rw [View.canon_unit_zero (by funext a; fin_cases a <;> rfl), View.ld_unit_zero (S := S512x2048) (by funext a; fin_cases a <;> rfl),
    View.ld_unit_zero (S := S512x2048) (by funext a; fin_cases a <;> rfl)]
  rfl

/-- A block holds the sum's rows normed. -/
theorem out_eq (x a : Vec Ideal S512x2048 .f32) (w : Vec Ideal S1x2048 .f32) :
    out0_4 (F := Ideal) x a w = nrm (n := 512) (plus x a) (fun k => w (ix2 u0 k)) := by
  unfold out0_4
  rw [View.canon_unit_zero (by funext a; fin_cases a <;> rfl), View.ld_unit_zero (S := S512x2048) (by funext a; fin_cases a <;> rfl),
    View.ld_unit_zero (S := S512x2048) (by funext a; fin_cases a <;> rfl), View.ld_unit_zero (S := S1x2048) (by funext a; fin_cases a <;> rfl)]
  exact pay_eq (plus x a) w

/-- The weights as the call finds them: the weights given, as one row. -/
theorem V_w (m : (ℓ : Loc nD τ sig) → Buf (Elt Ideal) ℓ) (c : Dev nD) :
    V m c main_v0 = shapeCast S1x2048 (m ((c : Thread nD τ).loc main_arg2)) shapeCasts_S2048_S1x2048 := by
  show StableHlo.after _ _ _ = _
  after_results
  rfl

/-- The block each grid point reads and writes. -/
theorem index_all : ∀ t : Fin cfg0.N, ((win0_0.index t 0 = win0_4.index t 0 ∧ win0_0.index t 1 = 0) ∧ (win0_1.index t 0 = win0_4.index t 0 ∧ win0_1.index t 1 = 0))
    ∧ (win0_2.index t 0 = 0 ∧ win0_2.index t 1 = 0) ∧ (win0_3.index t 0 = win0_4.index t 0 ∧ win0_3.index t 1 = 0) ∧ win0_4.index t 1 = 0 :=
  (by decide +kernel : ∀ t : Fin grid0.N, _)

variable (m : (ℓ : Loc nD τ sig) → Buf (Elt Ideal) ℓ) (c : Dev nD)

/-- The stream's part of a block is where the block's sum is. -/
theorem arg0_at (t : Fin cfg0.N) (v : S512x2048.Idx) : V m c main_arg0 ((win0_0.rect t).emb v) = V m c main_arg0 ((win0_4.rect t).emb v) := by
  obtain ⟨⟨⟨a0, a1⟩, _⟩, _, _, e1⟩ := index_all t
  refine congrArg (V m c main_arg0) (funext fun a => ?_)
  match a with
  | ⟨0, _⟩ => exact Fin.ext (by show win0_0.index t 0 * 512 + 1 * (v 0).val = win0_4.index t 0 * 512 + 1 * (v 0).val; rw [a0])
  | ⟨1, _⟩ => exact Fin.ext (by show win0_0.index t 1 * 2048 + 1 * (v 1).val = win0_4.index t 1 * 2048 + 1 * (v 1).val; rw [a1, e1])

/-- So is the experts' part. -/
theorem arg1_at (t : Fin cfg0.N) (v : S512x2048.Idx) : V m c main_arg1 ((win0_1.rect t).emb v) = V m c main_arg1 ((win0_4.rect t).emb v) := by
  obtain ⟨⟨_, b0, b1⟩, _, _, e1⟩ := index_all t
  refine congrArg (V m c main_arg1) (funext fun a => ?_)
  match a with
  | ⟨0, _⟩ => exact Fin.ext (by show win0_1.index t 0 * 512 + 1 * (v 0).val = win0_4.index t 0 * 512 + 1 * (v 0).val; rw [b0])
  | ⟨1, _⟩ => exact Fin.ext (by show win0_1.index t 1 * 2048 + 1 * (v 1).val = win0_4.index t 1 * 2048 + 1 * (v 1).val; rw [b1, e1])

/-- The call's first array is the sum. -/
theorem final_sum : (dats (F := Ideal) m 0 c).arrAt 3 cfg0.N = plus (n := 32768) (V m c main_arg0) (V m c main_arg1) := by
  refine (dats (F := Ideal) m 0 c).arrAt_eq_of_covers 3 _ (by decide +kernel) fun t hf y => ?_
  obtain ⟨_, _, ⟨d0, d1⟩, e1⟩ := index_all t
  rw [after0_3]
  refine (cast_eq _ _).trans ?_
  rw [sum_eq]
  have hp : (win0_3.rect t).emb y = (win0_4.rect t).emb y := funext fun a => by
    match a with
    | ⟨0, _⟩ => exact Fin.ext (by show win0_3.index t 0 * 512 + 1 * (y 0).val = win0_4.index t 0 * 512 + 1 * (y 0).val; rw [d0])
    | ⟨1, _⟩ => exact Fin.ext (by show win0_3.index t 1 * 2048 + 1 * (y 1).val = win0_4.index t 1 * 2048 + 1 * (y 1).val; rw [d1, e1])
  exact (congrArg₂ (fun p q : EReal => p + q) (arg0_at m c t y) (arg1_at m c t y)).trans (congrArg (plus (n := 32768) (V m c main_arg0) (V m c main_arg1)) hp.symm)

/-- The call's second array is the sum normed. -/
theorem final_eq : (dats (F := Ideal) m 0 c).arrAt 4 cfg0.N
    = nrm (n := 32768) (plus (V m c main_arg0) (V m c main_arg1)) (fun k => V m c main_v0 (ix2 u0 k)) := by
  refine (dats (F := Ideal) m 0 c).arrAt_eq_of_covers 4 _ (by decide +kernel) fun t hf y => ?_
  obtain ⟨_, ⟨c0, c1⟩, _, e1⟩ := index_all t
  rw [after0_4]
  refine (cast_eq _ _).trans ?_
  rw [out_eq]
  refine nrm_block ((win0_4.rect t).emb) (fun v => congrArg₂ (fun p q : EReal => p + q) (arg0_at m c t v) (arg1_at m c t v)) (funext fun k => ?_) ?_ ?_ y
  · refine congrArg (V m c main_v0) (funext fun a => ?_)
    match a with
    | ⟨0, _⟩ => exact Fin.ext (by show win0_2.index t 0 * 1 + 1 * 0 = 0; rw [c0])
    | ⟨1, _⟩ => exact Fin.ext (by show win0_2.index t 1 * 2048 + 1 * k.val = k.val; rw [c1]; omega)
  · intro v v' hv
    exact Fin.ext (by show win0_4.index t 0 * 512 + 1 * (v 0).val = win0_4.index t 0 * 512 + 1 * (v' 0).val; rw [hv])
  · intro v
    exact Fin.ext (by show win0_4.index t 1 * 2048 + 1 * (v 1).val = (v 1).val; rw [e1]; omega)

/-- The reference's second array is the sum normed. -/
theorem ref_step (x a : (⟨S32768x2048, .f32⟩ : BufTy).Contents (Elt Ideal)) (w : (⟨S2048, .f32⟩ : BufTy).Contents (Elt Ideal)) :
    Cert.Reference6Ideal.Read.val_main_v14 (F := Ideal) x a w = nrm (n := 32768) (plus x a) (fun k => w (ix1 k)) :=
  ref_eq (plus x a) w

/-- The call runs, keeps its arguments, and ends with its counters at zero. -/
theorem frame_kernel : Cert.quiescent_Kernel6 := fun m ρ _ => Cert.Kernel6.Gen.frame m ρ
/-- So does the idealized call. -/
theorem frame_ideal : Cert.quiescent_Kernel6Ideal := fun m ρ _ => Cert.Kernel6Ideal.Gen.frame m ρ
/-- So does the reference. -/
theorem frame_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)
/-- The idealized call is the call's own text. -/
theorem preserves : Cert.preserves_Kernel6_Kernel6Ideal := trivial
/-- Call and reference leave the same arrays: the sum, and the sum normed. -/
theorem algebraic : Cert.algebraic_Kernel6Ideal_Reference6Ideal := by
  intro m ρ m' ρ' _ hag
  refine ⟨_, _, Cert.Kernel6Ideal.Value.run_blocks (F := Ideal) m ρ,
    (θ_run Cert.Reference6Ideal.defs _ _).mono (fun _ h c => ⟨(h c).1.trans ?_, (h c).2.1.trans ?_, (h c).2.2⟩) (Cert.Reference6Ideal.Value.run (F := Ideal) m' ρ')⟩
  · rw [(hag c).1, (hag c).2.1, final_sum m c, V_main_arg0, V_main_arg1]
    rfl
  · rw [Cert.Reference6Ideal.Read.val_main_v14_eq, (hag c).1, (hag c).2.1, (hag c).2.2, final_eq m c, V_main_arg0, V_main_arg1, V_w, ref_step]
    exact congrArg (nrm _) (funext fun k => (row_at _ _ k).symm)

end Cert.Proof.Step

end
-- ==== Proof.Last.lean ====
/- The layer's end: the experts' output is added to the stream, and the sum normed in float32: the result of the model's layers. -/
module

public import proofs.«01_k».proof.Proof.Norm
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Proof.Last

open Idealize.ShloMosaic Idealize.ShloMosaic.TcCoe Idealize.ShloMosaic.ValueIdx Idealize.SL.Sem Cert.Proof.Tile Cert.Proof.Norm
open Cert.Kernel7Ideal Cert.Kernel7Ideal.Gen

/-- A block holds the sum's rows normed. -/
theorem out_eq (x a : Vec Ideal S512x2048 .f32) (w : Vec Ideal S1x2048 .f32) :
    out0_3 (F := Ideal) x a w = nrm (n := 512) (plus x a) (fun k => w (ix2 u0 k)) := by
  unfold out0_3
  rw [View.canon_unit_zero (by funext a; fin_cases a <;> rfl), View.ld_unit_zero (S := S512x2048) (by funext a; fin_cases a <;> rfl),
    View.ld_unit_zero (S := S512x2048) (by funext a; fin_cases a <;> rfl), View.ld_unit_zero (S := S1x2048) (by funext a; fin_cases a <;> rfl)]
  exact pay_eq (plus x a) w

/-- The weights as the call finds them: the weights given, as one row. -/
theorem V_w (m : (ℓ : Loc nD τ sig) → Buf (Elt Ideal) ℓ) (c : Dev nD) :
    V m c main_v0 = shapeCast S1x2048 (m ((c : Thread nD τ).loc main_arg2)) shapeCasts_S2048_S1x2048 := by
  show StableHlo.after _ _ _ = _
  after_results
  rfl

/-- The block each grid point reads and writes. -/
theorem index_all : ∀ t : Fin cfg0.N, ((win0_0.index t 0 = win0_3.index t 0 ∧ win0_0.index t 1 = 0) ∧ (win0_1.index t 0 = win0_3.index t 0 ∧ win0_1.index t 1 = 0))
    ∧ (win0_2.index t 0 = 0 ∧ win0_2.index t 1 = 0) ∧ win0_3.index t 1 = 0 :=
  (by decide +kernel : ∀ t : Fin grid0.N, _)

variable (m : (ℓ : Loc nD τ sig) → Buf (Elt Ideal) ℓ) (c : Dev nD)

/-- The stream's part of a block is where the block's sum is. -/
theorem arg0_at (t : Fin cfg0.N) (v : S512x2048.Idx) : V m c main_arg0 ((win0_0.rect t).emb v) = V m c main_arg0 ((win0_3.rect t).emb v) := by
  obtain ⟨⟨⟨a0, a1⟩, _⟩, _, e1⟩ := index_all t
  refine congrArg (V m c main_arg0) (funext fun a => ?_)
  match a with
  | ⟨0, _⟩ => exact Fin.ext (by show win0_0.index t 0 * 512 + 1 * (v 0).val = win0_3.index t 0 * 512 + 1 * (v 0).val; rw [a0])
  | ⟨1, _⟩ => exact Fin.ext (by show win0_0.index t 1 * 2048 + 1 * (v 1).val = win0_3.index t 1 * 2048 + 1 * (v 1).val; rw [a1, e1])

/-- So is the experts' part. -/
theorem arg1_at (t : Fin cfg0.N) (v : S512x2048.Idx) : V m c main_arg1 ((win0_1.rect t).emb v) = V m c main_arg1 ((win0_3.rect t).emb v) := by
  obtain ⟨⟨_, b0, b1⟩, _, e1⟩ := index_all t
  refine congrArg (V m c main_arg1) (funext fun a => ?_)
  match a with
  | ⟨0, _⟩ => exact Fin.ext (by show win0_1.index t 0 * 512 + 1 * (v 0).val = win0_3.index t 0 * 512 + 1 * (v 0).val; rw [b0])
  | ⟨1, _⟩ => exact Fin.ext (by show win0_1.index t 1 * 2048 + 1 * (v 1).val = win0_3.index t 1 * 2048 + 1 * (v 1).val; rw [b1, e1])

/-- The call's array is the sum normed. -/
theorem final_eq : (dats (F := Ideal) m 0 c).arrAt 3 cfg0.N
    = nrm (n := 32768) (plus (V m c main_arg0) (V m c main_arg1)) (fun k => V m c main_v0 (ix2 u0 k)) := by
  refine (dats (F := Ideal) m 0 c).arrAt_eq_of_covers 3 _ (by decide +kernel) fun t hf y => ?_
  obtain ⟨_, ⟨c0, c1⟩, e1⟩ := index_all t
  rw [after0_3]
  refine (cast_eq _ _).trans ?_
  rw [out_eq]
  refine nrm_block ((win0_3.rect t).emb) (fun v => congrArg₂ (fun p q : EReal => p + q) (arg0_at m c t v) (arg1_at m c t v)) (funext fun k => ?_) ?_ ?_ y
  · refine congrArg (V m c main_v0) (funext fun a => ?_)
    match a with
    | ⟨0, _⟩ => exact Fin.ext (by show win0_2.index t 0 * 1 + 1 * 0 = 0; rw [c0])
    | ⟨1, _⟩ => exact Fin.ext (by show win0_2.index t 1 * 2048 + 1 * k.val = k.val; rw [c1]; omega)
  · intro v v' hv
    exact Fin.ext (by show win0_3.index t 0 * 512 + 1 * (v 0).val = win0_3.index t 0 * 512 + 1 * (v' 0).val; rw [hv])
  · intro v
    exact Fin.ext (by show win0_3.index t 1 * 2048 + 1 * (v 1).val = (v 1).val; rw [e1]; omega)

/-- The reference's array is the sum normed. -/
theorem ref_step (x a : (⟨S32768x2048, .f32⟩ : BufTy).Contents (Elt Ideal)) (w : (⟨S2048, .f32⟩ : BufTy).Contents (Elt Ideal)) :
    Cert.Reference7Ideal.Read.val_main_v13 (F := Ideal) x a w = nrm (n := 32768) (plus x a) (fun k => w (ix1 k)) :=
  ref_eq (plus x a) w

/-- The call runs, keeps its arguments, and ends with its counters at zero. -/
theorem frame_kernel : Cert.quiescent_Kernel7 := fun m ρ _ => Cert.Kernel7.Gen.frame m ρ
/-- So does the idealized call. -/
theorem frame_ideal : Cert.quiescent_Kernel7Ideal := fun m ρ _ => Cert.Kernel7Ideal.Gen.frame m ρ
/-- So does the reference. -/
theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
/-- The idealized call is the call's own text. -/
theorem preserves : Cert.preserves_Kernel7_Kernel7Ideal := trivial
/-- Call and reference leave the same array: the sum normed. -/
theorem algebraic : Cert.algebraic_Kernel7Ideal_Reference7Ideal := by
  intro m ρ m' ρ' _ hag
  refine ⟨_, Cert.Kernel7Ideal.Value.run_blocks (F := Ideal) m ρ,
    (θ_run Cert.Reference7Ideal.defs _ _).mono (fun _ h c => ⟨(h c).1.trans ?_, (h c).2⟩) (Cert.Reference7Ideal.Value.run (F := Ideal) m' ρ')⟩
  rw [Cert.Reference7Ideal.Read.val_main_v13_eq, (hag c).1, (hag c).2.1, (hag c).2.2, final_eq m c, V_main_arg0, V_main_arg1, V_w, ref_step]
  exact congrArg (nrm _) (funext fun k => (row_at _ _ k).symm)

end Cert.Proof.Last

end
-- ==== Proof.ConvRun.lean ====
/- One step of the short convolution: a block of 256 tokens, the products of its gates and values, and the last rows of the
   block before, kept between the steps. -/
module

public import proofs.«01_k».proof.Defs
public import proofs.«01_k».proof.Proof.Tile
public import proofs.«01_k».proof.Proof.Gen.Kernel8Ideal.Value
public import Idealize.ShloMosaic.Lib.Pipeline.ValueKit.Tiles
public import Idealize.ShloMosaic.Lib.WritesUnit
public import Idealize.ShloMosaic.Lib.Pipeline.ValueKit.Geometry

@[expose] public section

set_option maxRecDepth 16384

noncomputable section

namespace Cert.Proof.Conv

open Idealize.ShloMosaic Idealize.ShloMosaic.TcCoe Idealize.ShloMosaic.ValueIdx Idealize.SL.Sem Cert.Proof.Tile
open Cert.Kernel8Ideal Cert.Kernel8Ideal.Gen

/-- The products of the second gates and the values, place by place. -/
def prods (x y : S256x2048.Idx → EReal) : S256x2048.Idx → EReal := fun i => x i * y i

/-- The row `d` places back: in the block, or for its first rows in the rows kept. -/
def back (p : S256x2048.Idx → EReal) (old : S264x2048.Idx → EReal) (d : ℕ) (r : Fin 256) (k : Fin 2048) : EReal :=
  if d ≤ r.val then p (ix2 ⟨r.val - d, by omega⟩ k) else old (ix2 ⟨8 + r.val - d, by omega⟩ k)

/-- What a step leaves in its block. -/
def blk (p : S256x2048.Idx → EReal) (old : S264x2048.Idx → EReal) (b : S256x2048.Idx → EReal) (w : S3x2048.Idx → EReal) : S256x2048.Idx → EReal :=
  fun y => b y * (p y * w (ix2 2 (y 1)) + back p old 1 (y 0) (y 1) * w (ix2 1 (y 1)) + back p old 2 (y 0) (y 1) * w (ix2 0 (y 1)))

/-- Rows read at a shift out of the buffer after the block's products were laid into it from row 8 on. -/
theorem read_shift (v : View sig .tc .vmem S264x2048 .f32) (f : v.ty.Contents (Elt Ideal)) (w : S256x2048.Idx → EReal)
    (L : List (View.Piece (Elt Ideal) S264x2048 .f32)) (o d : ℕ) (hd : o + d = 8)
    (inb : ∀ a, (![8, 0] : Fin 2 → ℕ) a + S256x2048.size a ≤ S264x2048.size a)
    (inb' : ∀ a, (![o, 0] : Fin 2 → ℕ) a + S256x2048.size a ≤ S264x2048.size a) (r : Fin 256) (k : Fin 2048) :
    v.readAt (Elt Ideal) (Rect.unit (s := S264x2048) ![o, 0] S256x2048.size inb').toLoadRect
        (v.writes (Elt Ideal) f ((⟨Rect.unit (s := S264x2048) ![8, 0] S256x2048.size inb, w⟩ : View.Piece (Elt Ideal) S264x2048 .f32) :: L)) (ix2 r k)
      = back w (v.read (Elt Ideal) (v.writes (Elt Ideal) f L)) d r k := by
  have e : (Rect.unit (s := S264x2048) ![o, 0] S256x2048.size inb').toLoadRect.idx (ix2 r k) = (ix2 ⟨o + r.val, by omega⟩ k : S264x2048.Idx) := by
    funext a; apply Fin.ext
    refine (Rect.idx_unit_val (s := S264x2048) ![o, 0] S256x2048.size inb' _ a).trans ?_
    match a with
    | ⟨0, _⟩ => rfl
    | ⟨1, _⟩ => exact Nat.zero_add _
  rw [View.readAt_apply, e]
  unfold back
  by_cases h : d ≤ r.val
  · rw [if_pos h]
    exact View.read_writes_cons_rows_of_mem v f inb w L _ (ix2 ⟨r.val - d, by omega⟩ k) rfl (show o + r.val = 8 + (r.val - d) by omega) rfl
  · rw [if_neg h]
    refine (View.read_writes_cons_rows_of_not_mem v f inb w L _ rfl rfl (.inl (show o + r.val < 8 by omega))).trans ?_
    exact congrArg _ (congrArg (fun q => (ix2 q k : S264x2048.Idx)) (Fin.ext (show o + r.val = 8 + r.val - d by omega)))

/-- One row of the weights, as a load reads it. -/
theorem weight_at (w : Vec Ideal S3x2048 .f32) (o : ℕ) (ho : o < 3) (inb : ∀ a, (![o, 0] : Fin 2 → ℕ) a + S1x2048.size a ≤ S3x2048.size a) (k : Fin 2048) :
    View.ld w (Rect.unit (s := S3x2048) ![o, 0] S1x2048.size inb) (ix2 u0 k) = w (ix2 ⟨o, ho⟩ k) :=
  congrArg w (funext fun a => Fin.ext (by
    refine (Rect.idx_unit_val (s := S3x2048) ![o, 0] S1x2048.size inb _ a).trans ?_
    match a with
    | ⟨0, _⟩ => rfl
    | ⟨1, _⟩ => exact Nat.zero_add _))

/-- A load of the whole block reads the block. -/
theorem whole_ld (x : Vec Ideal S256x2048 .bf16) (inb : ∀ a, (![0, 0] : Fin 2 → ℕ) a + S256x2048.size a ≤ S256x2048.size a) :
    View.ld x (Rect.unit (s := S256x2048) ![0, 0] ![256, 2048] inb) = x :=
  View.ld_unit_zero (S := S256x2048) (by funext a; fin_cases a <;> rfl) _ _

/-- Only the first eight rows kept count. -/
theorem back_congr (p : S256x2048.Idx → EReal) {old old' : S264x2048.Idx → EReal} {k : Fin 2048}
    (h : ∀ q (hq : q < 8), old (ix2 ⟨q, by omega⟩ k) = old' (ix2 ⟨q, by omega⟩ k)) (d : ℕ) (hd : d ≤ 8) (r : Fin 256) : back p old d r k = back p old' d r k := by
  unfold back
  by_cases hr : d ≤ r.val
  · rw [if_pos hr, if_pos hr]
  · rw [if_neg hr, if_neg hr]
    exact h (8 + r.val - d) (by omega)

/-- A row of weights laid under every token, read at a place. -/
theorem under_at (w : Vec Ideal S1x2048 .f32) (h : S1x2048.Broadcasts S256x2048) (r : Fin 256) (k : Fin 2048) :
    broadcastTo S256x2048 w h (ix2 r k) = w (ix2 u0 k) :=
  broadcastTo_apply _ h (ix2 r k) (ix2 u0 k) (fun a => by fin_cases a <;> rfl)

/-- What a step computes for its block. -/
theorem pay_eq (c h : Vec Ideal S256x2048 .bf16) (v11 v15 v20 : Vec Ideal S1x2048 .f32) (v14 v19 : Vec Ideal S256x2048 .f32) (b : Vec Ideal S256x2048 .bf16)
    (r : Fin 256) (k : Fin 2048) :
    k0_pay5 (F := Ideal) c h v11 v14 v15 v19 v20 b (ix2 r k)
      = b (ix2 r k) * (prods c h (ix2 r k) * v11 (ix2 u0 k) + v14 (ix2 r k) * v15 (ix2 u0 k) + v19 (ix2 r k) * v20 (ix2 u0 k)) := by
  show b (ix2 r k) * (c (ix2 r k) * h (ix2 r k) * broadcastTo S256x2048 v11 _ (ix2 r k) + v14 (ix2 r k) * broadcastTo S256x2048 v15 _ (ix2 r k)
    + v19 (ix2 r k) * broadcastTo S256x2048 v20 _ (ix2 r k)) = _
  rw [under_at, under_at, under_at]
  rfl

/-- What a step lays into the buffer: its products. -/
theorem laid_eq (c h : Vec Ideal S256x2048 .bf16) : k0_pay3 (F := Ideal) c h = prods c h := by
  unfold k0_pay3
  exact shapeCast_self _ _

/-- The rows kept for the next step: the block's last ones. -/
theorem kept_at (c h : Vec Ideal S256x2048 .bf16) (v : View sig .tc .vmem S264x2048 .f32) (f : v.ty.Contents (Elt Ideal))
    (L : List (View.Piece (Elt Ideal) S264x2048 .f32)) (inb : ∀ a, (![0, 0] : Fin 2 → ℕ) a + S8x2048.size a ≤ S264x2048.size a)
    (q : ℕ) (hq : q < 8) (k : Fin 2048) :
    v.read (Elt Ideal) (v.writes (Elt Ideal) f ((⟨Rect.unit (s := S264x2048) ![0, 0] S8x2048.size inb, k0_pay4 (F := Ideal) c h⟩ :
        View.Piece (Elt Ideal) S264x2048 .f32) :: L)) (ix2 ⟨q, by omega⟩ k) = prods c h (ix2 ⟨248 + q, by omega⟩ k) := by
  refine (View.read_writes_cons_rows_of_mem v f inb _ L _ (ix2 ⟨q, hq⟩ k) rfl (Nat.zero_add q).symm rfl).trans ?_
  unfold k0_pay4
  refine (congrFun (shapeCast_self _ _) _).trans ?_
  refine (extractStridedSlice_apply _ _ _ _ (ix2 ⟨248 + q, by omega⟩ k) (fun a => by
    match a with
    | ⟨0, _⟩ => rfl
    | ⟨1, _⟩ => exact (Nat.zero_add _).symm)).trans ?_
  rfl

/-- The rows a sequence starts from are zero. -/
theorem zeros_at (v : View sig .tc .vmem S264x2048 .f32) (f : v.ty.Contents (Elt Ideal))
    (inb : ∀ a, (![0, 0] : Fin 2 → ℕ) a + S8x2048.size a ≤ S264x2048.size a) {k : Fin 2048} (q : ℕ) (hq : q < 8) :
    v.read (Elt Ideal) (v.writes (Elt Ideal) f [(⟨Rect.unit (s := S264x2048) ![0, 0] ![8, 2048] inb, k0_pay2 (F := Ideal)⟩ :
        View.Piece (Elt Ideal) S264x2048 .f32)]) (ix2 ⟨q, by omega⟩ k) = (fun _ => 0 : S264x2048.Idx → EReal) (ix2 ⟨q, by omega⟩ k) := by
  refine (View.read_writes_cons_rows_of_mem v f inb _ [] _ (ix2 ⟨q, hq⟩ k) rfl (Nat.zero_add q).symm rfl).trans ?_
  unfold k0_pay2
  exact (congrFun (shapeCast_self _ _) _).trans zero_f32

section Whole

variable (c : Dev nD) (i : grid0.Coords) (arg3 : Memref sig .tc .vmem S256x2048 .bf16) (harg3 : arg3.IsWhole)
  (arg4 : Memref sig .tc .vmem S256x2048 .bf16) (harg4 : arg4.IsWhole) (arg5 : Memref sig .tc .vmem S256x2048 .bf16) (harg5 : arg5.IsWhole)
  (arg6 : Memref sig .tc .vmem S3x2048 .f32) (harg6 : arg6.IsWhole) (arg7 : Memref sig .tc .vmem S256x2048 .bf16) (harg7 : arg7.IsWhole)
  (arg8 : Memref sig .tc .vmem S264x2048 .f32) (harg8 : arg8.IsWhole) (x0 x1 x2 : Vec Ideal S256x2048 .bf16) (x3 : Vec Ideal S3x2048 .f32)

/-- A step after the first of a sequence, over the rows the step before kept. -/
theorem out_B (hc : ¬cond0_0 i) (xs : Vec Ideal S264x2048 .f32) :
    out0_B_4 (F := Ideal) c i arg3 harg3 arg4 harg4 arg5 harg5 arg6 harg6 arg7 harg7 arg8 harg8 hc x0 x1 x2 x3 xs = blk (prods x1 x2) xs x0 x3 := by
  unfold out0_B_4 kernelRun0_B
  dsimp only
  rw [View.read_writes_junk_eq_canon, View.canon_unit_zero (by funext a; fin_cases a <;> rfl)]
  funext y
  obtain ⟨r, k, rfl⟩ : ∃ (r : Fin 256) (k : Fin 2048), y = ix2 r k := ⟨y 0, y 1, funext fun a => by match a with | ⟨0, _⟩ => rfl | ⟨1, _⟩ => rfl⟩
  unfold kernelRun0_B.sl.r kernelRun0_B.sl.HS0_1
  refine (pay_eq _ _ _ _ _ _ _ _ r k).trans ?_
  rw [read_shift arg8.view (harg8.unread xs) _ [] 7 1 rfl, read_shift arg8.view (harg8.unread xs) _ [] 6 2 rfl]
  simp only [View.readAt_eq_ld, harg3.read_unread, harg4.read_unread, harg5.read_unread, harg6.read_unread]
  rw [weight_at x3 2 (by omega), weight_at x3 1 (by omega), weight_at x3 0 (by omega)]
  simp only [whole_ld]
  rw [laid_eq, View.writes_nil, harg8.read_unread]
  exact congrArg (· * _) (congrFun (whole_ld x0 _) (ix2 r k))

/-- A sequence's first step, over no rows before it. -/
theorem out_A (hc : cond0_0 i) :
    out0_A_4 (F := Ideal) c i arg3 harg3 arg4 harg4 arg5 harg5 arg6 harg6 arg7 harg7 arg8 harg8 hc x0 x1 x2 x3 = blk (prods x1 x2) (fun _ => 0) x0 x3 := by
  unfold out0_A_4 kernelRun0_A
  dsimp only
  rw [View.read_writes_junk_eq_canon, View.canon_unit_zero (by funext a; fin_cases a <;> rfl)]
  funext y
  obtain ⟨r, k, rfl⟩ : ∃ (r : Fin 256) (k : Fin 2048), y = ix2 r k := ⟨y 0, y 1, funext fun a => by match a with | ⟨0, _⟩ => rfl | ⟨1, _⟩ => rfl⟩
  unfold kernelRun0_A.sl.r kernelRun0_A.sl.v14 kernelRun0_A.sl.v19 kernelRun0_A.sl.HS0_2
  refine (pay_eq _ _ _ _ _ _ _ _ r k).trans ?_
  unfold View.readCov
  rw [read_shift arg8.view arg8.view.junk _ _ 7 1 rfl, read_shift arg8.view arg8.view.junk _ _ 6 2 rfl]
  simp only [View.readAt_eq_ld, harg3.read_unread, harg4.read_unread, harg5.read_unread, harg6.read_unread]
  rw [weight_at x3 2 (by omega), weight_at x3 1 (by omega), weight_at x3 0 (by omega)]
  simp only [whole_ld]
  rw [laid_eq, back_congr _ (old' := fun _ => 0) (zeros_at arg8.view arg8.view.junk _) 1 (by omega), back_congr _ (old' := fun _ => 0) (zeros_at arg8.view arg8.view.junk _) 2 (by omega)]
  exact congrArg (· * _) (congrFun (whole_ld x0 _) (ix2 r k))

/-- What a step after the first keeps. -/
theorem sout_B (hc : ¬cond0_0 i) (xs : Vec Ideal S264x2048 .f32) (q : ℕ) (hq : q < 8) (k : Fin 2048) :
    sout0_B_0 (F := Ideal) c i arg3 harg3 arg4 harg4 arg5 harg5 arg6 harg6 arg7 harg7 arg8 harg8 hc x0 x1 x2 x3 xs (ix2 ⟨q, by omega⟩ k)
      = prods x1 x2 (ix2 ⟨248 + q, by omega⟩ k) := by
  unfold sout0_B_0 kernelRun0_B
  dsimp only
  refine (kept_at _ _ VS0_0 VS0_0.junk _ _ q hq k).trans ?_
  simp only [View.readAt_eq_ld, harg4.read_unread, harg5.read_unread, whole_ld]

/-- What a first step keeps. -/
theorem sout_A (hc : cond0_0 i) (q : ℕ) (hq : q < 8) (k : Fin 2048) :
    sout0_A_0 (F := Ideal) c i arg3 harg3 arg4 harg4 arg5 harg5 arg6 harg6 arg7 harg7 arg8 harg8 hc x0 x1 x2 x3 (ix2 ⟨q, by omega⟩ k)
      = prods x1 x2 (ix2 ⟨248 + q, by omega⟩ k) := by
  unfold sout0_A_0 kernelRun0_A
  dsimp only
  refine (kept_at _ _ VS0_0 VS0_0.junk _ _ q hq k).trans ?_
  simp only [View.readAt_eq_ld, harg4.read_unread, harg5.read_unread, whole_ld]

end Whole

end Cert.Proof.Conv

end
-- ==== Proof.Conv.lean ====
/- The short convolution, whole: each place of the array over the gates, the values and the weights of the call. -/
module

public import proofs.«01_k».proof.Defs
public import proofs.«01_k».proof.Proof.ConvRun
public import proofs.«01_k».proof.Proof.Gen.Kernel8.Frame
public import proofs.«01_k».proof.Proof.Gen.Reference8Ideal.Run
public import proofs.«01_k».proof.Proof.Gen.Reference8Ideal.Read
public import Idealize.ShloMosaic.Lib.Quiescent
public import Idealize.ShloMosaic.Lib.Pointwise.ShapeOpsCore

@[expose] public section

set_option maxRecDepth 16384

noncomputable section

namespace Cert.Proof.Conv

open Idealize.ShloMosaic hiding ix1 ix2 ix3
open Idealize.ShloMosaic.TcCoe Idealize.ShloMosaic.ValueIdx Idealize.SL.Sem Cert.Proof.Tile
open Cert.Kernel8Ideal Cert.Kernel8Ideal.Gen

/-- The second gate times the value, of token `i` and channel `k`. -/
def gated (U : S32768x6144.Idx → EReal) (i : ℕ) (hi : i < 32768) (k : Fin 2048) : EReal :=
  U (ix2 ⟨i, hi⟩ ⟨2048 + k.val, by omega⟩) * U (ix2 ⟨i, hi⟩ ⟨4096 + k.val, by omega⟩)

/-- The same of the token `d` places before, nothing where the sequence begins after it. -/
def prev (U : S32768x6144.Idx → EReal) (d : ℕ) (i : Fin 32768) (k : Fin 2048) : EReal :=
  if d ≤ i.val % 4096 then gated U (i.val - d) (by omega) k else 0

/-- The convolution of width three over each sequence of 4096 tokens, gated before and after. -/
def conv (U : S32768x6144.Idx → EReal) (W : S3x2048.Idx → EReal) : S32768x2048.Idx → EReal := fun y =>
  U (ix2 (y 0) ⟨(y 1).val, (y 1).isLt.trans (by decide)⟩)
    * (gated U (y 0).val (y 0).isLt (y 1) * W (ix2 2 (y 1)) + prev U 1 (y 0) (y 1) * W (ix2 1 (y 1)) + prev U 2 (y 0) (y 1) * W (ix2 0 (y 1)))

/-- Equal tokens give equal products. -/
theorem gated_congr (U : S32768x6144.Idx → EReal) {i j : ℕ} (e : i = j) (hi : i < 32768) (hj : j < 32768) (k : Fin 2048) :
    gated U i hi k = gated U j hj k := by subst e; rfl

/-- The block each grid point reads and writes. -/
theorem index_all : ∀ t : Fin cfg0.N,
    (win0_0.index t 0 = t.val ∧ win0_0.index t 1 = 0) ∧ (win0_1.index t 0 = t.val ∧ win0_1.index t 1 = 1)
      ∧ (win0_2.index t 0 = t.val ∧ win0_2.index t 1 = 2) ∧ (win0_3.index t 0 = 0 ∧ win0_3.index t 1 = 0)
      ∧ (win0_4.index t 0 = t.val ∧ win0_4.index t 1 = 0) ∧ t.val < 128 :=
  (by decide +kernel : ∀ t : Fin grid0.N, _)

section
variable (m : (ℓ : Loc nD τ sig) → Buf (Elt Ideal) ℓ) (c : Dev nD)

/-- The block of first gates. -/
theorem b_at (t : Fin cfg0.N) (r : Fin 256) (k : Fin 2048) (h : 256 * t.val + r.val < 32768) :
    (iblk m c 0 t : S256x2048.Idx → EReal) (ix2 r k) = (V m c main_arg0 : S32768x6144.Idx → EReal) (ix2 ⟨256 * t.val + r.val, h⟩ ⟨k.val, by omega⟩) := by
  obtain ⟨⟨a0, a1⟩, -⟩ := index_all t
  refine congrArg (V m c main_arg0) (funext fun a => ?_)
  match a with
  | ⟨0, _⟩ => exact Fin.ext (by show win0_0.index t 0 * 256 + 1 * r.val = 256 * t.val + r.val; rw [a0]; omega)
  | ⟨1, _⟩ => exact Fin.ext (by show win0_0.index t 1 * 2048 + 1 * k.val = k.val; rw [a1]; omega)

/-- The products of the block of second gates and the block of values. -/
theorem prods_at (t : Fin cfg0.N) (r : Fin 256) (k : Fin 2048) (h : 256 * t.val + r.val < 32768) :
    prods (iblk m c 1 t) (iblk m c 2 t) (ix2 r k) = gated (V m c main_arg0) (256 * t.val + r.val) h k := by
  obtain ⟨-, ⟨b0, b1⟩, ⟨c0, c1⟩, -⟩ := index_all t
  refine congrArg₂ (fun p q : EReal => p * q) (congrArg (V m c main_arg0) (funext fun a => ?_)) (congrArg (V m c main_arg0) (funext fun a => ?_))
  · match a with
    | ⟨0, _⟩ => exact Fin.ext (by show win0_1.index t 0 * 256 + 1 * r.val = 256 * t.val + r.val; rw [b0]; omega)
    | ⟨1, _⟩ => exact Fin.ext (by show win0_1.index t 1 * 2048 + 1 * k.val = 2048 + k.val; rw [b1]; omega)
  · match a with
    | ⟨0, _⟩ => exact Fin.ext (by show win0_2.index t 0 * 256 + 1 * r.val = 256 * t.val + r.val; rw [c0]; omega)
    | ⟨1, _⟩ => exact Fin.ext (by show win0_2.index t 1 * 2048 + 1 * k.val = 4096 + k.val; rw [c1]; omega)

/-- The weights of a step are the weights of the call. -/
theorem w_eq (t : Fin cfg0.N) : (iblk m c 3 t : S3x2048.Idx → EReal) = V m c main_arg1 := by
  obtain ⟨-, -, -, ⟨d0, d1⟩, -⟩ := index_all t
  funext v
  refine congrArg (V m c main_arg1) (funext fun a => ?_)
  match a with
  | ⟨0, _⟩ => exact Fin.ext (by show win0_3.index t 0 * 3 + 1 * (v 0).val = (v 0).val; rw [d0]; omega)
  | ⟨1, _⟩ => exact Fin.ext (by show win0_3.index t 1 * 2048 + 1 * (v 1).val = (v 1).val; rw [d1]; omega)

/-- The rows a step keeps are the products of its block's last eight tokens. -/
theorem kept (t : Fin cfg0.N) (q : ℕ) (hq : q < 8) (k : Fin 2048) (h : 256 * t.val + (248 + q) < 32768) :
    (outsAt0 m c t.val t.isLt).2 (ix2 ⟨q, by omega⟩ k) = gated (V m c main_arg0) (256 * t.val + (248 + q)) h k := by
  refine Eq.trans ?_ (prods_at m c t ⟨248 + q, by omega⟩ k h)
  by_cases h0 : t.val % 16 = 0
  · rw [outsAt0_A m c t h0]
    dsimp only
    exact sout_A c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0) q hq k
  · rw [outsAt0_B m c t h0]
    dsimp only
    exact sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (fun h => h0 ((hcond0_0 t).mp h)) _ q hq k

/-- A step's rows some places back, where the rows kept before it are the tokens before its block. -/
theorem back_at (t : Fin cfg0.N) (old : S264x2048.Idx → EReal) (d : ℕ) (hd : d ≤ 8) (r : Fin 256) (k : Fin 2048) (h : 256 * t.val + r.val < 32768)
    (hA : t.val % 16 = 0 → ∀ q (hq : q < 8), old (ix2 ⟨q, by omega⟩ k) = 0)
    (hB : ¬ t.val % 16 = 0 → ∀ q (hq : q < 8), old (ix2 ⟨q, by omega⟩ k) = gated (V m c main_arg0) (256 * (t.val - 1) + (248 + q)) (by omega) k) :
    back (prods (iblk m c 1 t) (iblk m c 2 t)) old d r k = prev (V m c main_arg0) d ⟨256 * t.val + r.val, h⟩ k := by
  unfold back prev
  by_cases hr : d ≤ r.val
  · rw [if_pos hr, if_pos (show d ≤ (256 * t.val + r.val) % 4096 by omega), prods_at m c t _ k (show 256 * t.val + (r.val - d) < 32768 by omega)]
    exact gated_congr _ (by show 256 * t.val + (r.val - d) = 256 * t.val + r.val - d; omega) _ _ _
  · rw [if_neg hr]
    by_cases h0 : t.val % 16 = 0
    · rw [if_neg (show ¬ d ≤ (256 * t.val + r.val) % 4096 by omega)]
      exact hA h0 (8 + r.val - d) (by omega)
    · rw [if_pos (show d ≤ (256 * t.val + r.val) % 4096 by omega)]
      refine (hB h0 (8 + r.val - d) (by omega)).trans (gated_congr _ ?_ _ _ _)
      show 256 * (t.val - 1) + (248 + (8 + r.val - d)) = 256 * t.val + r.val - d
      omega

/-- A step's block is its part of the convolution. -/
theorem blk_at (t : Fin cfg0.N) (old : S264x2048.Idx → EReal) (r : Fin 256) (k : Fin 2048) (h : 256 * t.val + r.val < 32768)
    (hA : t.val % 16 = 0 → ∀ q (hq : q < 8), old (ix2 ⟨q, by omega⟩ k) = 0)
    (hB : ¬ t.val % 16 = 0 → ∀ q (hq : q < 8), old (ix2 ⟨q, by omega⟩ k) = gated (V m c main_arg0) (256 * (t.val - 1) + (248 + q)) (by omega) k) :
    blk (prods (iblk m c 1 t) (iblk m c 2 t)) old (iblk m c 0 t) (iblk m c 3 t) (ix2 r k)
      = conv (V m c main_arg0) (V m c main_arg1) (ix2 ⟨256 * t.val + r.val, h⟩ k) := by
  unfold blk conv
  rw [w_eq m c t]
  refine congrArg₂ (fun p q : EReal => p * q) (b_at m c t r k h) (congrArg₂ (fun p q : EReal => p + q) (congrArg₂ (fun p q : EReal => p + q) ?_ ?_) ?_)
  · exact congrArg (fun p : EReal => p * _) (prods_at m c t r k h)
  · exact congrArg (fun p : EReal => p * _) (back_at m c t old 1 (by decide) r k h hA hB)
  · exact congrArg (fun p : EReal => p * _) (back_at m c t old 2 (by decide) r k h hA hB)

/-- What a point leaves is its part of the convolution. -/
theorem point_at (t : Fin cfg0.N) (r : Fin 256) (k : Fin 2048) (h : 256 * t.val + r.val < 32768) :
    (outsAt0 m c t.val t.isLt).1 (ix2 r k) = conv (V m c main_arg0) (V m c main_arg1) (ix2 ⟨256 * t.val + r.val, h⟩ k) := by
  by_cases h0 : t.val % 16 = 0
  · rw [outsAt0_A m c t h0]
    refine Eq.trans ?_ (blk_at m c t (fun _ => 0) r k h (fun _ _ _ => rfl) (fun hn => absurd h0 hn))
    dsimp only
    exact congrFun (out_A c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0)) _
  · rw [outsAt0_B m c t h0]
    refine Eq.trans ?_ (blk_at m c t (outsAt0 m c (t.val - 1) (Nat.lt_of_le_of_lt (Nat.sub_le _ _) t.isLt)).2 r k h (fun hn => absurd hn h0)
      (fun _ q hq => kept m c ⟨t.val - 1, Nat.lt_of_le_of_lt (Nat.sub_le _ _) t.isLt⟩ q hq k _))
    dsimp only
    exact congrFun (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (fun h => h0 ((hcond0_0 t).mp h)) _) _

/-- The call's array is the convolution. -/
theorem final_eq : (dats (F := Ideal) m 0 c).arrAt 4 cfg0.N = conv (V m c main_arg0) (V m c main_arg1) := by
  refine (dats (F := Ideal) m 0 c).arrAt_eq_of_covers 4 _ (by decide +kernel) fun t hf y => ?_
  obtain ⟨-, -, -, -, ⟨e0, e1⟩, ht⟩ := index_all t
  rw [after0_4]
  refine (cast_eq _ _).trans ?_
  obtain ⟨r, k, rfl⟩ : ∃ (r : Fin 256) (k : Fin 2048), y = ix2 r k := ⟨y 0, y 1, funext fun a => by match a with | ⟨0, _⟩ => rfl | ⟨1, _⟩ => rfl⟩
  refine (point_at m c t r k (by omega)).trans (congrArg (conv (V m c main_arg0) (V m c main_arg1)) (funext fun a => ?_))
  match a with
  | ⟨0, _⟩ => exact Fin.ext (by show 256 * t.val + r.val = win0_4.index t 0 * 256 + 1 * r.val; rw [e0]; omega)
  | ⟨1, _⟩ => exact Fin.ext (by show k.val = win0_4.index t 1 * 2048 + 1 * k.val; rw [e1]; omega)

end

open Cert.Reference8Ideal.Read in
/-- The reference's array before it is split, as the sequences of tokens. -/
theorem seq_at (x : S32768x6144.Idx → EReal) (z : Cert.Reference8Ideal.S8x4096x6144.Idx) (i : Fin 32768) (k : Fin 6144)
    (h : 4096 * (z 0).val + (z 1).val = i.val) (hk : (z 2).val = k.val) : val_main_v1 (F := Ideal) x z = x (ix2 i k) := by
  rw [val_main_v1_apply]
  refine congrArg x (funext fun a => ?_)
  have h0 : (z 0).val < 8 := (z 0).isLt
  have h1 : (z 1).val < 4096 := (z 1).isLt
  have h2 : (z 2).val < 6144 := (z 2).isLt
  match a with
  | ⟨0, _⟩ => exact Fin.ext (by show (((z 0).val * 4096 + (z 1).val) * 6144 + (z 2).val) / 6144 = i.val; omega)
  | ⟨1, _⟩ => exact Fin.ext (by show (((z 0).val * 4096 + (z 1).val) * 6144 + (z 2).val) % 6144 = k.val; omega)

open Cert.Reference8Ideal.Read in
/-- The reference's products of second gates and values. -/
theorem gated_at (x : S32768x6144.Idx → EReal) (z : Cert.Reference8Ideal.S8x4096x2048.Idx) (i : ℕ) (hi : i < 32768) (k : Fin 2048)
    (h : 4096 * (z 0).val + (z 1).val = i) (hk : (z 2).val = k.val) : val_main_v5 (F := Ideal) x z = gated x i hi k := by
  rw [val_main_v5_apply, val_main_v3_apply, val_main_v4_apply]
  exact congrArg₂ (fun p q : EReal => p * q) (seq_at x _ ⟨i, hi⟩ ⟨2048 + k.val, by omega⟩ h (congrArg (2048 + ·) hk))
    (seq_at x _ ⟨i, hi⟩ ⟨4096 + k.val, by omega⟩ h (congrArg (4096 + ·) hk))

open Cert.Reference8Ideal.Read in
/-- The products laid behind two rows of zeros, in each sequence. -/
theorem padded_at (x : S32768x6144.Idx → EReal) (z : Cert.Reference8Ideal.S8x4098x2048.Idx) (i : Fin 32768) (d : ℕ) (hd : d ≤ 2) (k : Fin 2048)
    (h0 : (z 0).val = i.val / 4096) (h1 : (z 1).val + d = i.val % 4096 + 2) (h2 : (z 2).val = k.val) :
    val_main_v6 (F := Ideal) x z = prev x d i k := by
  unfold val_main_v6 prev
  rw [pad_apply]
  have hz : (z 1).val < 4098 := (z 1).isLt
  by_cases hr : d ≤ i.val % 4096
  · rw [if_pos hr, dif_pos (fun a => by
      match a with
      | ⟨0, _⟩ => show 0 ≤ (z 0).val ∧ ((z 0).val - 0) % 1 = 0 ∧ ((z 0).val - 0) / 1 < 8; omega
      | ⟨1, _⟩ => show 2 ≤ (z 1).val ∧ ((z 1).val - 2) % 1 = 0 ∧ ((z 1).val - 2) / 1 < 4096; omega
      | ⟨2, _⟩ => show 0 ≤ (z 2).val ∧ ((z 2).val - 0) % 1 = 0 ∧ ((z 2).val - 0) / 1 < 2048; omega)]
    refine gated_at x _ _ _ k ?_ ?_
    · show 4096 * (((z 0).val - 0) / 1) + ((z 1).val - 2) / 1 = i.val - d
      omega
    · show ((z 2).val - 0) / 1 = k.val
      omega
  · rw [if_neg hr, dif_neg (fun hn => by
      have := (hn ⟨1, by decide⟩).1
      have : 2 ≤ (z 1).val := this
      omega)]
    show (((0#32).toInt : ℝ) : EReal) = 0
    simp

/-- The reference's array is the convolution. -/
theorem ref_eq (x : S32768x6144.Idx → EReal) (w : S3x2048.Idx → EReal) : Cert.Reference8Ideal.Read.val_main_v31 (F := Ideal) x w = conv x w := by
  funext y
  obtain ⟨i, k, rfl⟩ : ∃ (i : Fin 32768) (k : Fin 2048), y = ix2 i k := ⟨y 0, y 1, funext fun a => by match a with | ⟨0, _⟩ => rfl | ⟨1, _⟩ => rfl⟩
  have e : Cert.Reference8Ideal.Read.idx_main_v30 (ix2 i k) = ix3 ⟨i.val / 4096, by omega⟩ ⟨i.val % 4096, by omega⟩ k := by
    funext a
    match a with
    | ⟨0, _⟩ => exact Fin.ext (by show (i.val * 2048 + k.val) / 8388608 = i.val / 4096; omega)
    | ⟨1, _⟩ => exact Fin.ext (by show (i.val * 2048 + k.val) / 2048 % 4096 = i.val % 4096; omega)
    | ⟨2, _⟩ => exact Fin.ext (by show (i.val * 2048 + k.val) % 2048 = k.val; omega)
  rw [Cert.Reference8Ideal.Read.val_main_v31_apply, Cert.Reference8Ideal.Read.val_main_v30_apply, e,
    Cert.Reference8Ideal.Read.val_main_v29_apply, Cert.Reference8Ideal.Read.val_main_v2_apply, Cert.Reference8Ideal.Read.val_main_v28_apply,
    Cert.Reference8Ideal.Read.val_main_v27_apply, Cert.Reference8Ideal.Read.val_main_v21_apply, Cert.Reference8Ideal.Read.val_main_v20_apply,
    Cert.Reference8Ideal.Read.val_main_v14_apply, Cert.Reference8Ideal.Read.val_main_v12_apply,
    Cert.Reference8Ideal.Read.val_main_v9_apply, Cert.Reference8Ideal.Read.val_main_v17_apply, Cert.Reference8Ideal.Read.val_main_v24_apply,
    padded_at x _ i 2 (by decide) k rfl rfl rfl, padded_at x _ i 1 (by decide) k rfl (by show 1 + i.val % 4096 + 1 = _; omega) rfl,
    padded_at x _ i 0 (by decide) k rfl (by show 2 + i.val % 4096 + 0 = _; omega) rfl,
    seq_at x _ i ⟨k.val, by omega⟩ (by show 4096 * (i.val / 4096) + i.val % 4096 = i.val; omega) rfl,
    Cert.Reference8Ideal.Read.val_main_v11_apply, Cert.Reference8Ideal.Read.val_main_v10_apply, Cert.Reference8Ideal.Read.val_main_v8_apply,
    Cert.Reference8Ideal.Read.val_main_v7_apply, Cert.Reference8Ideal.Read.val_main_v19_apply, Cert.Reference8Ideal.Read.val_main_v18_apply,
    Cert.Reference8Ideal.Read.val_main_v16_apply, Cert.Reference8Ideal.Read.val_main_v15_apply, Cert.Reference8Ideal.Read.val_main_v26_apply,
    Cert.Reference8Ideal.Read.val_main_v25_apply, Cert.Reference8Ideal.Read.val_main_v23_apply, Cert.Reference8Ideal.Read.val_main_v22_apply]
  have row : ∀ (q : Fin 3) (z : S3x2048.Idx), z 0 = q → (z 1).val = k.val % 2048 → w z = w (ix2 q k) := fun q z h0 h1 =>
    congrArg w (funext fun a => by
      match a with
      | ⟨0, _⟩ => exact h0
      | ⟨1, _⟩ => exact Fin.ext (h1.trans (Nat.mod_eq_of_lt k.isLt)))
  rw [row 0 (Cert.Reference8Ideal.Read.idx_main_v7 (Cert.Reference8Ideal.Read.idx_main_v8 (Cert.Reference8Ideal.Read.idx_main_v10 (Cert.Reference8Ideal.Read.idx_main_v11 (ix3 ⟨i.val / 4096, by omega⟩ ⟨i.val % 4096, by omega⟩ k))))) rfl rfl,
    row 1 (Cert.Reference8Ideal.Read.idx_main_v15 (Cert.Reference8Ideal.Read.idx_main_v16 (Cert.Reference8Ideal.Read.idx_main_v18 (Cert.Reference8Ideal.Read.idx_main_v19 (ix3 ⟨i.val / 4096, by omega⟩ ⟨i.val % 4096, by omega⟩ k))))) rfl rfl,
    row 2 (Cert.Reference8Ideal.Read.idx_main_v22 (Cert.Reference8Ideal.Read.idx_main_v23 (Cert.Reference8Ideal.Read.idx_main_v25 (Cert.Reference8Ideal.Read.idx_main_v26 (ix3 ⟨i.val / 4096, by omega⟩ ⟨i.val % 4096, by omega⟩ k))))) rfl rfl]
  have z : prev x 0 i k = gated x i.val i.isLt k := if_pos (Nat.zero_le _)
  rw [z]
  refine congrArg (fun p : EReal => x _ * p) ?_
  show (Ideal.ofBits .f32 0x00000000#32 + w (ix2 0 k) * prev x 2 i k) + w (ix2 1 k) * prev x 1 i k + w (ix2 2 k) * gated x i.val i.isLt k
    = gated x i.val i.isLt k * w (ix2 2 k) + prev x 1 i k * w (ix2 1 k) + prev x 2 i k * w (ix2 0 k)
  rw [show Ideal.ofBits .f32 0x00000000#32 = 0 from zero_f32, zero_add, mul_comm (w _), mul_comm (w _), mul_comm (w _)]
  ac_rfl

/-- The call runs, keeps its arguments, and ends with its counters at zero. -/
theorem frame_kernel : Cert.quiescent_Kernel8 := fun m ρ _ => Cert.Kernel8.Gen.frame m ρ
/-- So does the idealized call. -/
theorem frame_ideal : Cert.quiescent_Kernel8Ideal := fun m ρ _ => Cert.Kernel8Ideal.Gen.frame m ρ
/-- So does the reference. -/
theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
/-- The idealized call is the call's own text. -/
theorem preserves : Cert.preserves_Kernel8_Kernel8Ideal := trivial
/-- Call and reference leave the same array: the convolution. -/
theorem algebraic : Cert.algebraic_Kernel8Ideal_Reference8Ideal := by
  intro m ρ m' ρ' _ hag
  refine ⟨_, Cert.Kernel8Ideal.Value.run_blocks (F := Ideal) m ρ,
    (θ_run Cert.Reference8Ideal.defs _ _).mono (fun _ h c => ⟨(h c).1.trans ?_, (h c).2⟩) (Cert.Reference8Ideal.Value.run (F := Ideal) m' ρ')⟩
  rw [Cert.Reference8Ideal.Read.val_main_v31_eq, (hag c).1, (hag c).2, final_eq m c, V_main_arg0, V_main_arg1]
  exact ref_eq _ _

end Cert.Proof.Conv

end
-- ==== Proof.ScanRun.lean ====
/- One step of the scan's convolution: a block of 256 tokens and 2048 columns in two halves, each shifted by products with
   matrices of ones and zeros, and the last rows of the block before, kept between the steps. -/
module

public import proofs.«01_k».proof.Defs
public import proofs.«01_k».proof.Proof.Tile
public import proofs.«01_k».proof.Proof.Gen.Kernel9Ideal.Value
public import Idealize.ShloMosaic.Lib.Pipeline.ValueKit.Tiles
public import Idealize.ShloMosaic.Lib.WritesUnit
public import Idealize.ShloMosaic.Lib.Pipeline.ValueKit.Geometry

@[expose] public section

set_option maxRecDepth 16384

noncomputable section

namespace Cert.Proof.ScanConv

open Idealize.ShloMosaic Idealize.ShloMosaic.TcCoe Idealize.ShloMosaic.ValueIdx Idealize.SL.Sem Cert.Proof.Tile
open Cert.Kernel9Ideal Cert.Kernel9Ideal.Gen

/-- The row `d` places back: in the block, or for its first rows in the rows kept. -/
def past (x : S256x2048.Idx → EReal) (old : S272x2048.Idx → EReal) (d : ℕ) (r : Fin 256) (k : Fin 2048) : EReal :=
  if d ≤ r.val then x (ix2 ⟨r.val - d, by omega⟩ k) else old (ix2 ⟨16 + r.val - d, by omega⟩ k)

/-- A value times its logistic. -/
def act (y : EReal) : EReal := y * Ideal.logistic y

/-- What a step leaves in its block. -/
def blk (x : S256x2048.Idx → EReal) (old : S272x2048.Idx → EReal) (w : S4x2048.Idx → EReal) (b : S1x2048.Idx → EReal) : S256x2048.Idx → EReal :=
  fun y => act (x y * w (ix2 3 (y 1)) + b (ix2 u0 (y 1)) + past x old 1 (y 0) (y 1) * w (ix2 2 (y 1)) + past x old 2 (y 0) (y 1) * w (ix2 1 (y 1))
    + past x old 3 (y 0) (y 1) * w (ix2 0 (y 1)))

/-- The matrix that shifts rows: a one where the column is the row plus `o`. -/
def shift (o : ℕ) : S128x144.Idx → EReal := fun i => if (i 1).val = (i 0).val + o then 1 else 0

/-- An entry of such a matrix, as the step computes it. -/
theorem shift_at (o r q : ℕ) (ho : o < 16) (hr : r < 128) (hq : q < 144) :
    Scalar.select (IntOp.cmpi .eq (BitVec.ofNat 32 (0 * 144 + q)) (BitVec.ofNat 32 (0 * 128 + r) + BitVec.ofNat 32 o)) (Ideal.ofBits .f32 0x3F800000#32)
      (Ideal.ofBits .f32 0x00000000#32) = if q = r + o then 1 else 0 := by
  simp only [Nat.zero_mul, Nat.zero_add]
  rw [← BitVec.ofNat_add, WordCmp.cmpi_eq_ofNat (by omega) (by omega), zero_f32, one_f32]
  by_cases h : q = r + o
  · rw [if_pos h, decide_eq_true h]; rfl
  · rw [if_neg h, decide_eq_false h]; rfl

/-- The first matrix shifts by one row. -/
theorem shift1 : k0_pay5 (F := Ideal) = shift 15 := funext fun i => shift_at 15 (i 0).val (i 1).val (by omega) (i 0).isLt (i 1).isLt
/-- The second by two. -/
theorem shift2 : k0_pay6 (F := Ideal) = shift 14 := funext fun i => shift_at 14 (i 0).val (i 1).val (by omega) (i 0).isLt (i 1).isLt
/-- The third by three. -/
theorem shift3 : k0_pay7 (F := Ideal) = shift 13 := funext fun i => shift_at 13 (i 0).val (i 1).val (by omega) (i 0).isLt (i 1).isLt

/-- Rows under such a matrix are the rows shifted. -/
theorem shifted (o : ℕ) (ho : o ≤ 16) (e : S144x2048.Idx → EReal) (r : Fin 128) (k : Fin 2048) :
    matmul (F := Ideal) (φ₁ := .bf16) (φ₂ := .bf16) dot_S128x144_S144x2048_S128x2048_1_0_0_1_n_n none (shift o) e (constant S128x2048 .f32 0x00000000#32) (ix2 r k)
      = e (ix2 ⟨r.val + o, by omega⟩ k) := by
  refine (Ideal.matmul_plain_apply (φ₁ := .bf16) (φ₂ := .bf16) none (shift o) e _ r k).trans ?_
  rw [show constant (F := Ideal) S128x2048 .f32 0x00000000#32 (ix2 r k) = 0 from zero_f32, zero_add]
  refine (Finset.sum_eq_single (⟨r.val + o, by omega⟩ : Fin 144) (fun q _ hq => ?_) (fun h => absurd (Finset.mem_univ _) h)).trans ?_
  · have : shift o (ix2 r q) = 0 := if_neg fun h => hq (Fin.ext h)
    rw [this, zero_mul]
  · have : shift o (ix2 r ⟨r.val + o, by omega⟩) = 1 := if_pos rfl
    rw [this, one_mul]

/-- A row of weights laid under every token, read at a place. -/
theorem under_at (w : Vec Ideal S1x2048 .f32) (h : S1x2048.ShapeCasts S1x2048) (h' : S1x2048.Broadcasts S128x2048) (r : Fin 128) (k : Fin 2048) :
    broadcastTo S128x2048 (shapeCast S1x2048 w h) h' (ix2 r k) = w (ix2 u0 k) := by
  rw [shapeCast_self]
  exact broadcastTo_apply _ h' (ix2 r k) (ix2 u0 k) (fun a => by fin_cases a <;> rfl)

/-- What a step computes for half of its block, from the half's rows and the sixteen before them. -/
theorem half_eq (e : Vec Ideal S144x2048 .bf16) (w3 b w2 w1 w0 : Vec Ideal S1x2048 .f32) (r : Fin 128) (k : Fin 2048) :
    k0_pay10 (F := Ideal) k0_pay5 k0_pay6 k0_pay7 e (k0_pay8 e) (k0_pay9 w3) b w2 w1 w0 (ix2 r k)
      = act (e (ix2 ⟨r.val + 16, by omega⟩ k) * w3 (ix2 u0 k) + b (ix2 u0 k) + e (ix2 ⟨r.val + 15, by omega⟩ k) * w2 (ix2 u0 k)
          + e (ix2 ⟨r.val + 14, by omega⟩ k) * w1 (ix2 u0 k) + e (ix2 ⟨r.val + 13, by omega⟩ k) * w0 (ix2 u0 k)) := by
  rw [shift1, shift2, shift3]
  have s0 : extractStridedSlice S128x2048 ![16, 0] e slices_S144x2048_o16_0_S128x2048 (ix2 r k) = e (ix2 ⟨r.val + 16, by omega⟩ k) :=
    extractStridedSlice_apply _ _ _ _ _ (fun a => by
      match a with
      | ⟨0, _⟩ => exact Nat.add_comm _ _
      | ⟨1, _⟩ => exact (Nat.zero_add _).symm)
  refine congrArg act ?_
  refine congrArg₂ (fun p q : EReal => p + q) (congrArg₂ (fun p q : EReal => p + q) (congrArg₂ (fun p q : EReal => p + q)
    (congrArg₂ (fun p q : EReal => p + q) (congrArg₂ (fun p q : EReal => p * q) s0 ?_) ?_) ?_) ?_) ?_
  · exact under_at w3 _ broadcasts_S1x2048_S128x2048 r k
  · exact under_at b _ broadcasts_S1x2048_S128x2048 r k
  · exact congrArg₂ (fun p q : EReal => p * q) (shifted 15 (by omega) e r k) (under_at w2 _ broadcasts_S1x2048_S128x2048 r k)
  · exact congrArg₂ (fun p q : EReal => p * q) (shifted 14 (by omega) e r k) (under_at w1 _ broadcasts_S1x2048_S128x2048 r k)
  · exact congrArg₂ (fun p q : EReal => p * q) (shifted 13 (by omega) e r k) (under_at w0 _ broadcasts_S1x2048_S128x2048 r k)

/-- Rows of the buffer, read from row `h` on after the block was laid into it from row 16 on. -/
theorem read_past (v : View sig .tc .vmem S272x2048 .bf16) (f : v.ty.Contents (Elt Ideal)) (w : S256x2048.Idx → EReal)
    (L : List (View.Piece (Elt Ideal) S272x2048 .bf16)) (h o d : ℕ) (hh : h ≤ 128) (hd : o + d = 16)
    (inb : ∀ a, (![16, 0] : Fin 2 → ℕ) a + S256x2048.size a ≤ S272x2048.size a)
    (inb' : ∀ a, (![h, 0] : Fin 2 → ℕ) a + S144x2048.size a ≤ S272x2048.size a) (r : Fin 128) (k : Fin 2048) :
    v.readAt (Elt Ideal) (Rect.unit (s := S272x2048) ![h, 0] S144x2048.size inb').toLoadRect
        (v.writes (Elt Ideal) f ((⟨Rect.unit (s := S272x2048) ![16, 0] S256x2048.size inb, w⟩ : View.Piece (Elt Ideal) S272x2048 .bf16) :: L))
        (ix2 ⟨r.val + o, by omega⟩ k)
      = past w (v.read (Elt Ideal) (v.writes (Elt Ideal) f L)) d ⟨h + r.val, by omega⟩ k := by
  have e : (Rect.unit (s := S272x2048) ![h, 0] S144x2048.size inb').toLoadRect.idx (ix2 ⟨r.val + o, by omega⟩ k)
      = (ix2 ⟨h + (r.val + o), by omega⟩ k : S272x2048.Idx) := by
    funext a; apply Fin.ext
    refine (Rect.idx_unit_val (s := S272x2048) ![h, 0] S144x2048.size inb' _ a).trans ?_
    match a with
    | ⟨0, _⟩ => rfl
    | ⟨1, _⟩ => exact Nat.zero_add _
  rw [View.readAt_apply, e]
  unfold past
  dsimp only
  by_cases hr : d ≤ h + r.val
  · rw [if_pos hr]
    exact View.read_writes_cons_rows_of_mem v f inb w L _ (ix2 ⟨h + r.val - d, by omega⟩ k) rfl (show h + (r.val + o) = 16 + (h + r.val - d) by omega) rfl
  · rw [if_neg hr]
    refine (View.read_writes_cons_rows_of_not_mem v f inb w L _ rfl rfl (.inl (show h + (r.val + o) < 16 by omega))).trans ?_
    exact congrArg _ (congrArg (fun q => (ix2 q k : S272x2048.Idx)) (Fin.ext (show h + (r.val + o) = 16 + (h + r.val) - d by omega)))

/-- Only the first sixteen rows kept count, and only for the block's first rows. -/
theorem past_congr (x : S256x2048.Idx → EReal) {old old' : S272x2048.Idx → EReal} {k : Fin 2048} (d : ℕ) (r : Fin 256)
    (h : ∀ q (hq : q < 16), r.val < d → old (ix2 ⟨q, by omega⟩ k) = old' (ix2 ⟨q, by omega⟩ k)) (hd : d ≤ 16) : past x old d r k = past x old' d r k := by
  unfold past
  by_cases hr : d ≤ r.val
  · rw [if_pos hr, if_pos hr]
  · rw [if_neg hr, if_neg hr]
    exact h (16 + r.val - d) (by omega) (by omega)

/-- No place back is the place itself. -/
theorem past_zero (x : S256x2048.Idx → EReal) (old : S272x2048.Idx → EReal) (r : Fin 256) (k : Fin 2048) : past x old 0 r k = x (ix2 r k) :=
  if_pos (Nat.zero_le _)

/-- One row of the weights, as a load reads it. -/
theorem weight_at (w : Vec Ideal S4x2048 .f32) (o : ℕ) (ho : o < 4) (inb : ∀ a, (![o, 0] : Fin 2 → ℕ) a + S1x2048.size a ≤ S4x2048.size a) (k : Fin 2048) :
    View.ld w (Rect.unit (s := S4x2048) ![o, 0] S1x2048.size inb) (ix2 u0 k) = w (ix2 ⟨o, ho⟩ k) :=
  congrArg w (funext fun a => Fin.ext (by
    refine (Rect.idx_unit_val (s := S4x2048) ![o, 0] S1x2048.size inb _ a).trans ?_
    match a with
    | ⟨0, _⟩ => rfl
    | ⟨1, _⟩ => exact Nat.zero_add _))

/-- A load of the whole block reads the block. -/
theorem whole_ld (x : Vec Ideal S256x2048 .bf16) (inb : ∀ a, (![0, 0] : Fin 2 → ℕ) a + S256x2048.size a ≤ S256x2048.size a) :
    View.ld x (Rect.unit (s := S256x2048) ![0, 0] ![256, 2048] inb) = x :=
  View.ld_unit_zero (S := S256x2048) (by funext a; fin_cases a <;> rfl) _ _

/-- A load of the whole bias reads the bias. -/
theorem bias_ld (x : Vec Ideal S1x2048 .f32) (inb : ∀ a, (![0, 0] : Fin 2 → ℕ) a + S1x2048.size a ≤ S1x2048.size a) :
    View.ld x (Rect.unit (s := S1x2048) ![0, 0] ![1, 2048] inb) = x :=
  View.ld_unit_zero (S := S1x2048) (by funext a; fin_cases a <;> rfl) _ _

/-- A place of a half's block, from the rows before it. -/
def line (x : S256x2048.Idx → EReal) (old : S272x2048.Idx → EReal) (w3 b w2 w1 w0 : S1x2048.Idx → EReal) (r : Fin 256) (k : Fin 2048) : EReal :=
  act (past x old 0 r k * w3 (ix2 u0 k) + b (ix2 u0 k) + past x old 1 r k * w2 (ix2 u0 k) + past x old 2 r k * w1 (ix2 u0 k) + past x old 3 r k * w0 (ix2 u0 k))

/-- What half of a step computes from the rows it read. -/
theorem half_line (v : View sig .tc .vmem S272x2048 .bf16) (f : v.ty.Contents (Elt Ideal)) (x : S256x2048.Idx → EReal)
    (L : List (View.Piece (Elt Ideal) S272x2048 .bf16)) (h : ℕ) (hh : h ≤ 128)
    (inb : ∀ a, (![16, 0] : Fin 2 → ℕ) a + S256x2048.size a ≤ S272x2048.size a)
    (inb' : ∀ a, (![h, 0] : Fin 2 → ℕ) a + S144x2048.size a ≤ S272x2048.size a) (e : Vec Ideal S144x2048 .bf16)
    (he : e = v.readAt (Elt Ideal) (Rect.unit (s := S272x2048) ![h, 0] S144x2048.size inb').toLoadRect
        (v.writes (Elt Ideal) f ((⟨Rect.unit (s := S272x2048) ![16, 0] S256x2048.size inb, x⟩ : View.Piece (Elt Ideal) S272x2048 .bf16) :: L)))
    (w3 b w2 w1 w0 : Vec Ideal S1x2048 .f32) (r : Fin 128) (k : Fin 2048) :
    k0_pay10 (F := Ideal) k0_pay5 k0_pay6 k0_pay7 e (k0_pay8 e) (k0_pay9 w3) b w2 w1 w0 (ix2 r k)
      = line x (v.read (Elt Ideal) (v.writes (Elt Ideal) f L)) w3 b w2 w1 w0 ⟨h + r.val, by omega⟩ k := by
  refine (half_eq e w3 b w2 w1 w0 r k).trans ?_
  rw [he, read_past v f x L h 16 0 hh rfl, read_past v f x L h 15 1 hh rfl, read_past v f x L h 14 2 hh rfl, read_past v f x L h 13 3 hh rfl]
  rfl

/-- The two halves laid one under the other. -/
theorem both_at (e' : Vec Ideal S144x2048 .bf16) (w3 b w2 w1 w0 : Vec Ideal S1x2048 .f32) (v61 : FVec Ideal S128x2048 .bf16) (g : S256x2048.Idx → EReal)
    (h1 : ∀ (r : Fin 128) (k : Fin 2048), v61 (ix2 r k) = g (ix2 ⟨0 + r.val, by omega⟩ k))
    (h2 : ∀ (r : Fin 128) (k : Fin 2048), k0_pay10 (F := Ideal) k0_pay5 k0_pay6 k0_pay7 e' (k0_pay8 e') (k0_pay9 w3) b w2 w1 w0 (ix2 r k)
      = g (ix2 ⟨128 + r.val, by omega⟩ k)) (r : Fin 256) (k : Fin 2048) :
    k0_pay1 (F := Ideal) k0_pay6 k0_pay7 v61 e' (k0_pay11 e' w3 b) (k0_pay12 k0_pay5 e') (k0_pay13 w2) w1 w0 (ix2 r k) = g (ix2 r k) := by
  show concatenate S256x2048 0 [⟨S128x2048, v61⟩,
      ⟨S128x2048, k0_pay10 (F := Ideal) k0_pay5 k0_pay6 k0_pay7 e' (k0_pay8 e') (k0_pay9 w3) b w2 w1 w0⟩] concatenates_S128x2048_S128x2048_S256x2048_d0 (ix2 r k) = _
  by_cases hr : r.val < 128
  · refine (concatenate_apply_piece (t := S256x2048) 0 _ _ (ix2 r k) 0 (by simp) S128x2048 _ rfl rfl 0 rfl (ix2 ⟨r.val, hr⟩ k) (fun a ha => ?_) (Nat.zero_add _)).trans ?_
    · match a with
      | ⟨0, _⟩ => exact absurd rfl ha
      | ⟨1, _⟩ => rfl
    · exact (h1 ⟨r.val, hr⟩ k).trans (congrArg (fun q => g (ix2 q k)) (Fin.ext (Nat.zero_add _)))
  · refine (concatenate_apply_piece (t := S256x2048) 0 _ _ (ix2 r k) 1 (by simp) S128x2048 _ rfl rfl 128 rfl (ix2 ⟨r.val - 128, by omega⟩ k) (fun a ha => ?_)
      (Nat.add_sub_cancel' (Nat.le_of_not_lt hr))).trans ?_
    · match a with
      | ⟨0, _⟩ => exact absurd rfl ha
      | ⟨1, _⟩ => rfl
    · exact (h2 ⟨r.val - 128, by omega⟩ k).trans (congrArg (fun q => g (ix2 q k)) (Fin.ext (show 128 + (r.val - 128) = r.val by omega)))

/-- What a step lays into the buffer: its block. -/
theorem laid_eq (x : Vec Ideal S256x2048 .bf16) : k0_pay4 (F := Ideal) x = x := by
  unfold k0_pay4
  exact shapeCast_self _ _

/-- The rows kept for the next step: the block's last ones. -/
theorem kept_at (x : Vec Ideal S256x2048 .bf16) (v : View sig .tc .vmem S272x2048 .bf16) (f : v.ty.Contents (Elt Ideal))
    (L : List (View.Piece (Elt Ideal) S272x2048 .bf16)) (inb : ∀ a, (![0, 0] : Fin 2 → ℕ) a + S16x2048.size a ≤ S272x2048.size a)
    (inb' : ∀ a, (![240, 0] : Fin 2 → ℕ) a + S16x2048.size a ≤ S256x2048.size a) (q : ℕ) (hq : q < 16) (k : Fin 2048) :
    v.read (Elt Ideal) (v.writes (Elt Ideal) f ((⟨Rect.unit (s := S272x2048) ![0, 0] S16x2048.size inb,
        k0_pay2 (F := Ideal) (View.ld x (Rect.unit (s := S256x2048) ![240, 0] S16x2048.size inb'))⟩ :
        View.Piece (Elt Ideal) S272x2048 .bf16) :: L)) (ix2 ⟨q, by omega⟩ k) = x (ix2 ⟨240 + q, by omega⟩ k) := by
  refine (View.read_writes_cons_rows_of_mem v f inb _ L _ (ix2 ⟨q, hq⟩ k) rfl (Nat.zero_add q).symm rfl).trans ?_
  unfold k0_pay2
  refine (congrFun (shapeCast_self _ _) _).trans ?_
  exact congrArg x (funext fun a => Fin.ext (by
    refine (Rect.idx_unit_val (s := S256x2048) ![240, 0] S16x2048.size inb' _ a).trans ?_
    match a with
    | ⟨0, _⟩ => rfl
    | ⟨1, _⟩ => exact Nat.zero_add _))

/-- The rows a sequence starts from are zero. -/
theorem zeros_at (v : View sig .tc .vmem S272x2048 .bf16) (f : v.ty.Contents (Elt Ideal))
    (inb : ∀ a, (![0, 0] : Fin 2 → ℕ) a + S16x2048.size a ≤ S272x2048.size a) {k : Fin 2048} (q : ℕ) (hq : q < 16) :
    v.read (Elt Ideal) (v.writes (Elt Ideal) f [(⟨Rect.unit (s := S272x2048) ![0, 0] S16x2048.size inb, k0_pay3 (F := Ideal)⟩ :
        View.Piece (Elt Ideal) S272x2048 .bf16)]) (ix2 ⟨q, by omega⟩ k) = (fun _ => 0 : S272x2048.Idx → EReal) (ix2 ⟨q, by omega⟩ k) := by
  refine (View.read_writes_cons_rows_of_mem v f inb _ [] _ (ix2 ⟨q, hq⟩ k) rfl (Nat.zero_add q).symm rfl).trans ?_
  unfold k0_pay3
  exact (congrFun (shapeCast_self _ _) _).trans zero_bf16

/-- A place's line over the loaded rows of weights, and over rows kept that agree where they count. -/
theorem line_eq (x : S256x2048.Idx → EReal) {old old' : S272x2048.Idx → EReal} (w : S4x2048.Idx → EReal) (w3 b w2 w1 w0 : S1x2048.Idx → EReal) (r : Fin 256)
    (k : Fin 2048) (h : ∀ q (hq : q < 16), r.val < 3 → old (ix2 ⟨q, by omega⟩ k) = old' (ix2 ⟨q, by omega⟩ k)) (h3 : w3 (ix2 u0 k) = w (ix2 3 k))
    (h2 : w2 (ix2 u0 k) = w (ix2 2 k)) (h1 : w1 (ix2 u0 k) = w (ix2 1 k)) (h0 : w0 (ix2 u0 k) = w (ix2 0 k)) :
    line x old w3 b w2 w1 w0 r k = blk x old' w b (ix2 r k) := by
  unfold line blk
  rw [past_zero, h3, h2, h1, h0, past_congr x 1 r (fun q hq hr => h q hq (by omega)) (by omega), past_congr x 2 r (fun q hq hr => h q hq (by omega)) (by omega),
    past_congr x 3 r (fun q hq hr => h q hq hr) (by omega)]

section Whole

variable (c : Dev nD) (i : grid0.Coords) (arg3 : Memref sig .tc .vmem S256x2048 .bf16) (harg3 : arg3.IsWhole)
  (arg4 : Memref sig .tc .vmem S4x2048 .f32) (harg4 : arg4.IsWhole) (arg5 : Memref sig .tc .vmem S1x2048 .f32) (harg5 : arg5.IsWhole)
  (arg6 : Memref sig .tc .vmem S256x2048 .bf16) (harg6 : arg6.IsWhole) (arg7 : Memref sig .tc .vmem S272x2048 .bf16) (harg7 : arg7.IsWhole)
  (x0 : Vec Ideal S256x2048 .bf16) (x1 : Vec Ideal S4x2048 .f32) (x2 : Vec Ideal S1x2048 .f32)

/-- A step after the first of a sequence, over the rows the step before kept. -/
theorem out_B (hc : ¬cond0_0 i) (xs : Vec Ideal S272x2048 .bf16) :
    out0_B_3 (F := Ideal) c i arg3 harg3 arg4 harg4 arg5 harg5 arg6 harg6 arg7 harg7 hc x0 x1 x2 xs = blk x0 xs x1 x2 := by
  unfold out0_B_3 kernelRun0_B
  dsimp only
  rw [View.read_writes_junk_eq_canon, View.canon_unit_zero (by funext a; fin_cases a <;> rfl)]
  funext y
  obtain ⟨r, k, rfl⟩ : ∃ (r : Fin 256) (k : Fin 2048), y = ix2 r k := ⟨y 0, y 1, funext fun a => by match a with | ⟨0, _⟩ => rfl | ⟨1, _⟩ => rfl⟩
  unfold kernelRun0_B.sl.r_3 kernelRun0_B.sl.r_4 kernelRun0_B.sl.r_5 kernelRun0_B.sl.r_6 kernelRun0_B.sl.r_1 kernelRun0_B.sl.r_2 kernelRun0_B.sl.r
    kernelRun0_B.sl.v62 kernelRun0_B.sl.HS0_1
  unfold View.readCov
  simp only [View.readAt_eq_ld arg3.view, View.readAt_eq_ld arg4.view, View.readAt_eq_ld arg5.view, harg3.read_unread, harg4.read_unread, harg5.read_unread, whole_ld, bias_ld, laid_eq]
  refine both_at _ _ _ _ _ _ _ _ (fun r k => ?_) (fun r k => ?_) r k
  · refine (half_line arg7.view (harg7.unread xs) x0 [] 0 (by omega) _ _ _ rfl _ _ _ _ _ r k).trans ?_
    rw [View.writes_nil, harg7.read_unread]
    exact line_eq x0 x1 _ _ _ _ _ _ k (fun q hq _ => rfl) (weight_at x1 3 (by omega) _ k) (weight_at x1 2 (by omega) _ k) (weight_at x1 1 (by omega) _ k)
      (weight_at x1 0 (by omega) _ k)
  · refine (half_line arg7.view arg7.view.junk x0 [] 128 (by omega) _ _ _ rfl _ _ _ _ _ r k).trans ?_
    exact line_eq x0 x1 _ _ _ _ _ _ k (fun q hq hr => absurd hr (Nat.not_lt.2 (Nat.le_add_right_of_le (by decide)))) (weight_at x1 3 (by omega) _ k) (weight_at x1 2 (by omega) _ k)
      (weight_at x1 1 (by omega) _ k) (weight_at x1 0 (by omega) _ k)

/-- A sequence's first step, over no rows before it. -/
theorem out_A (hc : cond0_0 i) :
    out0_A_3 (F := Ideal) c i arg3 harg3 arg4 harg4 arg5 harg5 arg6 harg6 arg7 harg7 hc x0 x1 x2 = blk x0 (fun _ => 0) x1 x2 := by
  unfold out0_A_3 kernelRun0_A
  dsimp only
  rw [View.read_writes_junk_eq_canon, View.canon_unit_zero (by funext a; fin_cases a <;> rfl)]
  funext y
  obtain ⟨r, k, rfl⟩ : ∃ (r : Fin 256) (k : Fin 2048), y = ix2 r k := ⟨y 0, y 1, funext fun a => by match a with | ⟨0, _⟩ => rfl | ⟨1, _⟩ => rfl⟩
  unfold kernelRun0_A.sl.r_2 kernelRun0_A.sl.r_3 kernelRun0_A.sl.r_4 kernelRun0_A.sl.r_5 kernelRun0_A.sl.r kernelRun0_A.sl.r_1
    kernelRun0_A.sl.v62 kernelRun0_A.sl.v30 kernelRun0_A.sl.HS0_2
  unfold View.readCov
  simp only [View.readAt_eq_ld arg3.view, View.readAt_eq_ld arg4.view, View.readAt_eq_ld arg5.view, harg3.read_unread, harg4.read_unread, harg5.read_unread, whole_ld, bias_ld, laid_eq]
  refine both_at _ _ _ _ _ _ _ _ (fun r k => ?_) (fun r k => ?_) r k
  · refine (half_line arg7.view arg7.view.junk x0 _ 0 (by omega) _ _ _ rfl _ _ _ _ _ r k).trans ?_
    exact line_eq x0 (old' := fun _ => 0) x1 _ _ _ _ _ _ k (fun q hq _ => zeros_at arg7.view arg7.view.junk _ q hq) (weight_at x1 3 (by omega) _ k) (weight_at x1 2 (by omega) _ k)
      (weight_at x1 1 (by omega) _ k) (weight_at x1 0 (by omega) _ k)
  · refine (half_line arg7.view arg7.view.junk x0 _ 128 (by omega) _ _ _ rfl _ _ _ _ _ r k).trans ?_
    exact line_eq x0 x1 _ _ _ _ _ _ k (fun q hq hr => absurd hr (Nat.not_lt.2 (Nat.le_add_right_of_le (by decide)))) (weight_at x1 3 (by omega) _ k) (weight_at x1 2 (by omega) _ k)
      (weight_at x1 1 (by omega) _ k) (weight_at x1 0 (by omega) _ k)

/-- What a step after the first keeps. -/
theorem sout_B (hc : ¬cond0_0 i) (xs : Vec Ideal S272x2048 .bf16) (q : ℕ) (hq : q < 16) (k : Fin 2048) :
    sout0_B_0 (F := Ideal) c i arg3 harg3 arg4 harg4 arg5 harg5 arg6 harg6 arg7 harg7 hc x0 x1 x2 xs (ix2 ⟨q, by omega⟩ k) = x0 (ix2 ⟨240 + q, by omega⟩ k) := by
  unfold sout0_B_0 kernelRun0_B
  dsimp only
  simp only [View.readAt_eq_ld arg3.view, harg3.read_unread]
  exact kept_at x0 VS0_0 VS0_0.junk _ _ _ q hq k

/-- What a first step keeps. -/
theorem sout_A (hc : cond0_0 i) (q : ℕ) (hq : q < 16) (k : Fin 2048) :
    sout0_A_0 (F := Ideal) c i arg3 harg3 arg4 harg4 arg5 harg5 arg6 harg6 arg7 harg7 hc x0 x1 x2 (ix2 ⟨q, by omega⟩ k) = x0 (ix2 ⟨240 + q, by omega⟩ k) := by
  unfold sout0_A_0 kernelRun0_A
  dsimp only
  simp only [View.readAt_eq_ld arg3.view, harg3.read_unread]
  exact kept_at x0 VS0_0 VS0_0.junk _ _ _ q hq k

end Whole

end Cert.Proof.ScanConv

end
-- ==== Proof.ScanConv.lean ====
/- The scan's convolution, whole: each place of the array over the tokens, the weights and the bias of the call, its columns in groups. -/
module

public import proofs.«01_k».proof.Defs
public import proofs.«01_k».proof.Proof.ScanRun
public import proofs.«01_k».proof.Proof.InVal
public import proofs.«01_k».proof.Proof.Gen.Kernel9.Frame
public import proofs.«01_k».proof.Proof.Gen.Reference9Ideal.Run
public import proofs.«01_k».proof.Proof.Gen.Reference9Ideal.Read
public import Idealize.ShloMosaic.Lib.Quiescent
public import Idealize.ShloMosaic.Lib.KernelVsHost
public import Idealize.ShloMosaic.Lib.StableHlo.Predicate
public import Idealize.ShloMosaic.Lib.Pointwise.ShapeOpsCore

@[expose] public section

set_option maxRecDepth 16384

noncomputable section

namespace Cert.Proof.ScanConv

open Idealize.ShloMosaic hiding ix1 ix2 ix3
open Idealize.ShloMosaic.TcCoe Idealize.ShloMosaic.ValueIdx Idealize.SL.Sem Cert.Proof.Tile
open Cert.Proof.InProj (place)
open Cert.Kernel9Ideal Cert.Kernel9Ideal.Gen

/-- The value of the token `d` places before, nothing where the sequence begins after it. -/
def prev (U : S32768x6144.Idx → EReal) (d : ℕ) (i : Fin 32768) (k : Fin 6144) : EReal :=
  if d ≤ i.val % 4096 then U (ix2 ⟨i.val - d, by omega⟩ k) else 0

/-- The convolution of width four over each sequence of 4096 tokens with its bias, times its logistic. -/
def conv (U : S32768x6144.Idx → EReal) (W : S4x6144.Idx → EReal) (B : S1x6144.Idx → EReal) : S32768x6144.Idx → EReal := fun y =>
  act (U y * W (ix2 3 (y 1)) + B (ix2 u0 (y 1)) + prev U 1 (y 0) (y 1) * W (ix2 2 (y 1)) + prev U 2 (y 0) (y 1) * W (ix2 1 (y 1))
    + prev U 3 (y 0) (y 1) * W (ix2 0 (y 1)))

/-- The block of tokens of a grid point. -/
abbrev tb (t : ℕ) : ℕ := 16 * (t / 48) + t % 16
/-- Its block of columns. -/
abbrev cb (t : ℕ) : ℕ := t / 16 % 3

/-- The block each grid point reads and writes. -/
theorem index_all : ∀ t : Fin cfg0.N,
    (win0_0.index t 0 = tb t.val ∧ win0_0.index t 1 = cb t.val) ∧ (win0_1.index t 0 = 0 ∧ win0_1.index t 1 = cb t.val)
      ∧ (win0_2.index t 0 = 0 ∧ win0_2.index t 1 = cb t.val) ∧ (win0_3.index t 0 = tb t.val ∧ win0_3.index t 1 = cb t.val) ∧ t.val < 384 :=
  (by decide +kernel : ∀ t : Fin grid0.N, _)

section
variable (m : (ℓ : Loc nD τ sig) → Buf (Elt Ideal) ℓ) (c : Dev nD)

/-- The values of a step's block. -/
theorem x_at (t : Fin cfg0.N) (r : Fin 256) (k : Fin 2048) (i : Fin 32768) (j : Fin 6144) (hi : i.val = 256 * tb t.val + r.val) (hj : j.val = 2048 * cb t.val + k.val) :
    (iblk m c 0 t : S256x2048.Idx → EReal) (ix2 r k) = (V m c main_arg0 : S32768x6144.Idx → EReal) (ix2 i j) := by
  obtain ⟨⟨a0, a1⟩, -⟩ := index_all t
  refine congrArg (V m c main_arg0) (funext fun a => ?_)
  match a with
  | ⟨0, _⟩ => exact Fin.ext (by show win0_0.index t 0 * 256 + 1 * r.val = i.val; rw [a0]; omega)
  | ⟨1, _⟩ => exact Fin.ext (by show win0_0.index t 1 * 2048 + 1 * k.val = j.val; rw [a1]; omega)

/-- The weights of a step. -/
theorem w_at (t : Fin cfg0.N) (q : Fin 4) (k : Fin 2048) (j : Fin 6144) (hj : j.val = 2048 * cb t.val + k.val) :
    (iblk m c 1 t : S4x2048.Idx → EReal) (ix2 q k) = (V m c main_v6 : S4x6144.Idx → EReal) (ix2 q j) := by
  obtain ⟨-, ⟨b0, b1⟩, -⟩ := index_all t
  refine congrArg (V m c main_v6) (funext fun a => ?_)
  match a with
  | ⟨0, _⟩ => exact Fin.ext (by show win0_1.index t 0 * 4 + 1 * q.val = q.val; rw [b0]; omega)
  | ⟨1, _⟩ => exact Fin.ext (by show win0_1.index t 1 * 2048 + 1 * k.val = j.val; rw [b1]; omega)

/-- The bias of a step. -/
theorem b_at (t : Fin cfg0.N) (k : Fin 2048) (j : Fin 6144) (hj : j.val = 2048 * cb t.val + k.val) :
    (iblk m c 2 t : S1x2048.Idx → EReal) (ix2 u0 k) = (V m c main_v14 : S1x6144.Idx → EReal) (ix2 u0 j) := by
  obtain ⟨-, -, ⟨c0, c1⟩, -⟩ := index_all t
  refine congrArg (V m c main_v14) (funext fun a => ?_)
  match a with
  | ⟨0, _⟩ => exact Fin.ext (by show win0_2.index t 0 * 1 + 1 * 0 = 0; rw [c0])
  | ⟨1, _⟩ => exact Fin.ext (by show win0_2.index t 1 * 2048 + 1 * k.val = j.val; rw [c1]; omega)

/-- The rows a step keeps are its block's last sixteen tokens. -/
theorem kept (t : Fin cfg0.N) (q : ℕ) (hq : q < 16) (k : Fin 2048) :
    (outsAt0 m c t.val t.isLt).2 (ix2 ⟨q, by omega⟩ k) = (iblk m c 0 t : S256x2048.Idx → EReal) (ix2 ⟨240 + q, by omega⟩ k) := by
  by_cases h0 : t.val % 16 = 0
  · rw [outsAt0_A m c t h0]
    dsimp only
    exact sout_A c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0) q hq k
  · rw [outsAt0_B m c t h0]
    dsimp only
    exact sout_B c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) _ q hq k

/-- The rows before a step's block: nothing at a sequence's first step, the step before's last rows after it. -/
def Before (t : Fin cfg0.N) (old : S272x2048.Idx → EReal) (k : Fin 2048) : Prop :=
  (t.val % 16 = 0 → ∀ q (hq : q < 16), old (ix2 ⟨q, by omega⟩ k) = 0)
    ∧ (¬ t.val % 16 = 0 → ∀ q (hq : q < 16), old (ix2 ⟨q, by omega⟩ k)
        = (iblk m c 0 ⟨t.val - 1, Nat.lt_of_le_of_lt (Nat.sub_le _ _) t.isLt⟩ : S256x2048.Idx → EReal) (ix2 ⟨240 + q, by omega⟩ k))

/-- A step's rows some places back are the tokens before. -/
theorem past_at (t : Fin cfg0.N) (old : S272x2048.Idx → EReal) (d : ℕ) (hd : d ≤ 16) (r : Fin 256) (k : Fin 2048) (i : Fin 32768) (j : Fin 6144)
    (hi : i.val = 256 * tb t.val + r.val) (hj : j.val = 2048 * cb t.val + k.val) (ho : Before m c t old k) :
    past (iblk m c 0 t) old d r k = prev (V m c main_arg0) d i j := by
  unfold past prev
  unfold tb at hi
  by_cases hr : d ≤ r.val
  · rw [if_pos hr, if_pos (show d ≤ i.val % 4096 by omega)]
    exact x_at m c t _ k _ j (show i.val - d = 256 * tb t.val + (r.val - d) by unfold tb; omega) hj
  · rw [if_neg hr]
    by_cases h0 : t.val % 16 = 0
    · rw [if_neg (show ¬ d ≤ i.val % 4096 by omega)]
      exact ho.1 h0 (16 + r.val - d) (by omega)
    · rw [if_pos (show d ≤ i.val % 4096 by omega)]
      refine (ho.2 h0 (16 + r.val - d) (by omega)).trans (x_at m c _ _ k _ j ?_ ?_)
      · show i.val - d = 256 * (16 * ((t.val - 1) / 48) + (t.val - 1) % 16) + (240 + (16 + r.val - d))
        omega
      · refine hj.trans ?_
        show 2048 * (t.val / 16 % 3) + k.val = 2048 * ((t.val - 1) / 16 % 3) + k.val
        omega

/-- A step's block is its part of the convolution. -/
theorem blk_at (t : Fin cfg0.N) (old : S272x2048.Idx → EReal) (r : Fin 256) (k : Fin 2048) (i : Fin 32768) (j : Fin 6144)
    (hi : i.val = 256 * tb t.val + r.val) (hj : j.val = 2048 * cb t.val + k.val) (ho : Before m c t old k) :
    blk (iblk m c 0 t) old (iblk m c 1 t) (iblk m c 2 t) (ix2 r k) = conv (V m c main_arg0) (V m c main_v6) (V m c main_v14) (ix2 i j) := by
  refine congrArg act (congrArg₂ (fun p q : EReal => p + q) (congrArg₂ (fun p q : EReal => p + q) (congrArg₂ (fun p q : EReal => p + q)
    (congrArg₂ (fun p q : EReal => p + q) ?_ (b_at m c t k j hj)) ?_) ?_) ?_)
  · exact congrArg₂ (fun p q : EReal => p * q) (x_at m c t r k i j hi hj) (w_at m c t 3 k j hj)
  · exact congrArg₂ (fun p q : EReal => p * q) (past_at m c t old 1 (by decide) r k i j hi hj ho) (w_at m c t 2 k j hj)
  · exact congrArg₂ (fun p q : EReal => p * q) (past_at m c t old 2 (by decide) r k i j hi hj ho) (w_at m c t 1 k j hj)
  · exact congrArg₂ (fun p q : EReal => p * q) (past_at m c t old 3 (by decide) r k i j hi hj ho) (w_at m c t 0 k j hj)

/-- What a point leaves is its part of the convolution. -/
theorem point_at (t : Fin cfg0.N) (r : Fin 256) (k : Fin 2048) (i : Fin 32768) (j : Fin 6144)
    (hi : i.val = 256 * tb t.val + r.val) (hj : j.val = 2048 * cb t.val + k.val) :
    (outsAt0 m c t.val t.isLt).1 (ix2 r k) = conv (V m c main_arg0) (V m c main_v6) (V m c main_v14) (ix2 i j) := by
  by_cases h0 : t.val % 16 = 0
  · rw [outsAt0_A m c t h0]
    refine Eq.trans ?_ (blk_at m c t (fun _ => 0) r k i j hi hj ⟨fun _ _ _ => rfl, fun hn => absurd h0 hn⟩)
    dsimp only
    exact congrFun (out_A c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0)) _
  · rw [outsAt0_B m c t h0]
    refine Eq.trans ?_ (blk_at m c t (outsAt0 m c (t.val - 1) (Nat.lt_of_le_of_lt (Nat.sub_le _ _) t.isLt)).2 r k i j hi hj ⟨fun hn => absurd hn h0,
      fun _ q hq => kept m c ⟨t.val - 1, Nat.lt_of_le_of_lt (Nat.sub_le _ _) t.isLt⟩ q hq k⟩)
    dsimp only
    exact congrFun (out_B c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) _) _

/-- The call's array is the convolution. -/
theorem final_eq : (dats (F := Ideal) m 0 c).arrAt 3 cfg0.N = conv (V m c main_arg0) (V m c main_v6) (V m c main_v14) := by
  refine (dats (F := Ideal) m 0 c).arrAt_eq_of_covers 3 _ (by decide +kernel) fun t hf y => ?_
  obtain ⟨-, -, -, ⟨e0, e1⟩, ht⟩ := index_all t
  rw [after0_3]
  refine (cast_eq _ _).trans ?_
  obtain ⟨r, k, rfl⟩ : ∃ (r : Fin 256) (k : Fin 2048), y = ix2 r k := ⟨y 0, y 1, funext fun a => by match a with | ⟨0, _⟩ => rfl | ⟨1, _⟩ => rfl⟩
  refine (point_at m c t r k ⟨256 * tb t.val + r.val, by unfold tb; omega⟩ ⟨2048 * cb t.val + k.val, by unfold cb; omega⟩ rfl rfl).trans
    (congrArg (conv (V m c main_arg0) (V m c main_v6) (V m c main_v14)) (funext fun a => ?_))
  match a with
  | ⟨0, _⟩ => exact Fin.ext (by show 256 * tb t.val + r.val = win0_3.index t 0 * 256 + 1 * r.val; rw [e0]; omega)
  | ⟨1, _⟩ => exact Fin.ext (by show 2048 * cb t.val + k.val = win0_3.index t 1 * 2048 + 1 * k.val; rw [e1]; omega)

/-- The table of the call is the columns' order. -/
theorem lit_eq : ∀ j : Fin 6144, lit0 j = BitVec.ofNat 32 (place j.val) ∧ place j.val < 6144 := by decide +kernel

/-- The column a column of the groups stands at. -/
def spot (j : Fin 6144) : Fin 6144 := ⟨place j.val, (lit_eq j).2⟩

/-- The columns' order, as the table gives it. -/
def order : IVec S6144 32 := fun i => lit0 (S6144.rowMajor i)

/-- The indices the call gathers by. -/
def picks : IVec S6144x1 32 :=
  broadcastInDim S6144x1 ![0] bcast_S6144_S6144x1_0 (select (cmpi .slt order (broadcastInDim S6144 ![] bcast_S_S6144 (constantI S_ 32 0#32)))
    (addi order (broadcastInDim S6144 ![] bcast_S_S6144 (constantI S_ 32 6144#32))) order)

/-- Each index is the column's place. -/
theorem picks_at (j : Fin 6144) : picks (ix2 j (0 : Fin 1)) = BitVec.ofNat 32 (spot j).val := by
  obtain ⟨hl, hp⟩ := lit_eq j
  have ho : order (ix1 j) = BitVec.ofNat 32 (place j.val) := by
    refine Eq.trans ?_ hl
    unfold order
    exact congrArg lit0 (Fin.ext (Shape.rowMajor_val_one _))
  have e : (broadcastInDim S6144x1 ![0] bcast_S6144_S6144x1_0 : IVec S6144 32 → IVec S6144x1 32) = fun f y => f (ix1 (y 0)) := by
    funext f y
    unfold broadcastInDim
    exact congrArg f (funext fun a => by fin_cases a; rfl)
  unfold picks
  rw [e]
  show Scalar.select (IntOp.cmpi .slt (order (ix1 j)) 0#32) _ (order (ix1 j)) = _
  rw [ho, WordCmp.cmpi_slt_ofNat (b := 0) (by omega) (by omega), decide_eq_false (Nat.not_lt_zero _)]
  rfl

/-- The weights the steps read. -/
theorem V_w : V m c main_v6 = Host.gather gather_S4x6144_S6144x1_S4x6144_0_1_n_n_1_1_41 (m ((c : Thread nD τ).loc main_arg1)) picks := by
  show StableHlo.after _ _ _ = _
  after_results
  rfl

/-- The bias the steps read. -/
theorem V_b : V m c main_v14 = shapeCast S1x6144 (Host.gather gather_S6144_S6144x1_S6144_n_0_n_n_0_1_1 (m ((c : Thread nD τ).loc main_arg2)) picks) shapeCasts_S6144_S1x6144 := by
  show StableHlo.after _ _ _ = _
  after_results
  rfl

/-- The weights at a column: the given weights at the column's place. -/
theorem w_spot (q : Fin 4) (j : Fin 6144) : (V m c main_v6 : S4x6144.Idx → EReal) (ix2 q j) = m ((c : Thread nD τ).loc main_arg1) (ix2 q (spot j)) := by
  rw [V_w]
  unfold Host.gather
  congr 1
  funext a
  refine Fin.ext ?_
  match a with
  | ⟨0, _⟩ =>
    show GatherDims.start _ _ _ 0 + GatherDims.batchCoord _ _ 0 + GatherDims.offCoord _ _ 0 = q.val
    rw [GatherDims.batchCoord_eq_zero _ _ _ List.not_mem_nil]
    unfold GatherDims.start GatherDims.offCoord
    rw [dif_neg (by decide), dif_pos (by decide), Nat.zero_add]
    rfl
  | ⟨1, _⟩ =>
    show GatherDims.start _ _ _ 1 + GatherDims.batchCoord _ _ 1 + GatherDims.offCoord _ _ 1 = (spot j).val
    rw [GatherDims.batchCoord_eq_zero _ _ _ List.not_mem_nil, GatherDims.offCoord_eq_zero _ _ _ (by decide)]
    unfold GatherDims.start
    rw [dif_pos (by decide)]
    have hsi : GatherDims.siIdx gather_S4x6144_S6144x1_S4x6144_0_1_n_n_1_1_41 (ix2 q j) ⟨_, List.idxOf_lt_length_iff.2 (by decide : (1 : Fin 2) ∈ [1])⟩ = ix2 j (0 : Fin 1) := by
      funext c; refine Fin.ext ?_
      match c with
      | ⟨0, _⟩ => rfl
      | ⟨1, _⟩ => rfl
    have hl := (spot j).isLt
    refine (congrArg (fun i => min (picks i).toInt.toNat (6144 - 1) + 0 + 0) hsi).trans ?_
    rw [picks_at, StableHlo.Predicate.toInt_ofNat_small _ (by omega)]
    show min (((spot j).val : Int)).toNat (6144 - 1) + 0 + 0 = (spot j).val
    omega

/-- The bias at a column: the given bias at the column's place. -/
theorem b_spot (j : Fin 6144) : (V m c main_v14 : S1x6144.Idx → EReal) (ix2 u0 j) = m ((c : Thread nD τ).loc main_arg2) (ix1 (spot j)) := by
  rw [V_b]
  refine (shapeCast_apply _ shapeCasts_S6144_S1x6144 (ix2 u0 j) (ix1 j) (by
    rw [Shape.rowMajor_val_one, Shape.rowMajor_val_two]
    show j.val = 0 * 6144 + j.val
    omega)).trans ?_
  unfold Host.gather
  congr 1
  funext a
  refine Fin.ext ?_
  match a with
  | ⟨0, _⟩ =>
    show GatherDims.start _ _ _ 0 + GatherDims.batchCoord _ _ 0 + GatherDims.offCoord _ _ 0 = (spot j).val
    rw [GatherDims.batchCoord_eq_zero _ _ _ List.not_mem_nil, GatherDims.offCoord_eq_zero _ _ _ (by decide)]
    unfold GatherDims.start
    rw [dif_pos (by decide)]
    have hsi : GatherDims.siIdx gather_S6144_S6144x1_S6144_n_0_n_n_0_1_1 (ix1 j) ⟨_, List.idxOf_lt_length_iff.2 (by decide : (0 : Fin 1) ∈ [0])⟩ = ix2 j (0 : Fin 1) := by
      funext c; refine Fin.ext ?_
      match c with
      | ⟨0, _⟩ => rfl
      | ⟨1, _⟩ => rfl
    have hl := (spot j).isLt
    refine (congrArg (fun i => min (picks i).toInt.toNat (6144 - 1) + 0 + 0) hsi).trans ?_
    rw [picks_at, StableHlo.Predicate.toInt_ofNat_small _ (by omega)]
    show min (((spot j).val : Int)).toNat (6144 - 1) + 0 + 0 = (spot j).val
    omega

end

end Cert.Proof.ScanConv

end
-- ==== Proof.ScanRef.lean ====
/- The scan's convolution as the reference writes it, and the call's five claims. -/
module

public import proofs.«01_k».proof.Proof.ScanConv

@[expose] public section

set_option maxRecDepth 16384

noncomputable section

namespace Cert.Proof.ScanConv

open Idealize.ShloMosaic hiding ix1 ix2 ix3
open Idealize.ShloMosaic.TcCoe Idealize.ShloMosaic.ValueIdx Idealize.SL.Sem Cert.Proof.Tile
open Cert.Proof.InProj (place)
open Cert.Kernel9Ideal Cert.Kernel9Ideal.Gen

section
open Cert.Reference9Ideal.Read

/-- The reference's grouped weights at a column: the given weights at the column's place. -/
theorem ref_w (w : S4x6144.Idx → EReal) (z : S4x6144.Idx) (q : Fin 4) (j : Fin 6144) (hq : (z 0).val = q.val) (hj : (z 1).val = j.val) :
    val_main_v7 (F := Ideal) w z = w (ix2 q (spot j)) := by
  refine (val_main_v7_apply (F := Ideal) w z).trans ?_
  have h0 : q.val < 4 := q.isLt
  have h1 : j.val < 6144 := j.isLt
  have hs : (spot j).val = place j.val := rfl
  unfold val_main_v6
  unfold place at hs
  split at hs
  · refine (concatenate_apply_piece (t := Cert.Reference9Ideal.S4x8x768) 2 _ _ _ 0 (by simp) Cert.Reference9Ideal.S4x8x512 _ rfl rfl 0 rfl
      (ix3 q (⟨j.val / 768, by omega⟩ : Fin 8) (⟨j.val % 768, by omega⟩ : Fin 512)) ?_ ?_).trans ?_
    · intro b hb
      match b with
      | ⟨0, _⟩ => show q.val = ((z 0).val * 6144 + (z 1).val) / 6144; omega
      | ⟨1, _⟩ => show j.val / 768 = ((z 0).val * 6144 + (z 1).val) / 768 % 8; omega
      | ⟨2, _⟩ => exact absurd rfl hb
    · show 0 + j.val % 768 = ((z 0).val * 6144 + (z 1).val) % 768; omega
    · refine (val_main_v3_apply (F := Ideal) w _).trans ((val_main_v0_apply (F := Ideal) w _).trans (congrArg w (funext fun a => Fin.ext ?_)))
      match a with
      | ⟨0, _⟩ => show ((q.val * 8 + j.val / 768) * 512 + j.val % 768) / 4096 = q.val; omega
      | ⟨1, _⟩ => show ((q.val * 8 + j.val / 768) * 512 + j.val % 768) % 4096 = (spot j).val; omega
  · split at hs
    · refine (concatenate_apply_piece (t := Cert.Reference9Ideal.S4x8x768) 2 _ _ _ 1 (by simp) Cert.Reference9Ideal.S4x8x128 _ rfl rfl 512 rfl
        (ix3 q (⟨j.val / 768, by omega⟩ : Fin 8) (⟨j.val % 768 - 512, by omega⟩ : Fin 128)) ?_ ?_).trans ?_
      · intro b hb
        match b with
        | ⟨0, _⟩ => show q.val = ((z 0).val * 6144 + (z 1).val) / 6144; omega
        | ⟨1, _⟩ => show j.val / 768 = ((z 0).val * 6144 + (z 1).val) / 768 % 8; omega
        | ⟨2, _⟩ => exact absurd rfl hb
      · show 512 + (j.val % 768 - 512) = ((z 0).val * 6144 + (z 1).val) % 768; omega
      · refine (val_main_v4_apply (F := Ideal) w _).trans ((val_main_v1_apply (F := Ideal) w _).trans (congrArg w (funext fun a => Fin.ext ?_)))
        match a with
        | ⟨0, _⟩ => show ((q.val * 8 + j.val / 768) * 128 + (j.val % 768 - 512)) / 1024 = q.val; omega
        | ⟨1, _⟩ => show 4096 + ((q.val * 8 + j.val / 768) * 128 + (j.val % 768 - 512)) % 1024 = (spot j).val; omega
    · refine (concatenate_apply_piece (t := Cert.Reference9Ideal.S4x8x768) 2 _ _ _ 2 (by simp) Cert.Reference9Ideal.S4x8x128 _ rfl rfl 640 rfl
        (ix3 q (⟨j.val / 768, by omega⟩ : Fin 8) (⟨j.val % 768 - 640, by omega⟩ : Fin 128)) ?_ ?_).trans ?_
      · intro b hb
        match b with
        | ⟨0, _⟩ => show q.val = ((z 0).val * 6144 + (z 1).val) / 6144; omega
        | ⟨1, _⟩ => show j.val / 768 = ((z 0).val * 6144 + (z 1).val) / 768 % 8; omega
        | ⟨2, _⟩ => exact absurd rfl hb
      · show 640 + (j.val % 768 - 640) = ((z 0).val * 6144 + (z 1).val) % 768; omega
      · refine (val_main_v5_apply (F := Ideal) w _).trans ((val_main_v2_apply (F := Ideal) w _).trans (congrArg w (funext fun a => Fin.ext ?_)))
        match a with
        | ⟨0, _⟩ => show ((q.val * 8 + j.val / 768) * 128 + (j.val % 768 - 640)) / 1024 = q.val; omega
        | ⟨1, _⟩ => show 5120 + ((q.val * 8 + j.val / 768) * 128 + (j.val % 768 - 640)) % 1024 = (spot j).val; omega

/-- Its grouped bias at a column: the given bias at the column's place. -/
theorem ref_b (b : S6144.Idx → EReal) (z : S6144.Idx) (j : Fin 6144) (hj : (z 0).val = j.val) : val_main_v15 (F := Ideal) b z = b (ix1 (spot j)) := by
  refine (val_main_v15_apply (F := Ideal) b z).trans ?_
  have h1 : j.val < 6144 := j.isLt
  have hs : (spot j).val = place j.val := rfl
  unfold val_main_v14
  unfold place at hs
  split at hs
  · refine (concatenate_apply_piece (t := Cert.Reference9Ideal.S8x768) 1 _ _ _ 0 (by simp) Cert.Reference9Ideal.S8x512 _ rfl rfl 0 rfl
      (ix2 (⟨j.val / 768, by omega⟩ : Fin 8) (⟨j.val % 768, by omega⟩ : Fin 512)) ?_ ?_).trans ?_
    · intro a ha
      match a with
      | ⟨0, _⟩ => show j.val / 768 = (z 0).val / 768; omega
      | ⟨1, _⟩ => exact absurd rfl ha
    · show 0 + j.val % 768 = (z 0).val % 768; omega
    · refine (val_main_v11_apply (F := Ideal) b _).trans ((val_main_v8_apply (F := Ideal) b _).trans (congrArg b (funext fun a => Fin.ext ?_)))
      match a with
      | ⟨0, _⟩ => show j.val / 768 * 512 + j.val % 768 = (spot j).val; omega
  · split at hs
    · refine (concatenate_apply_piece (t := Cert.Reference9Ideal.S8x768) 1 _ _ _ 1 (by simp) Cert.Reference9Ideal.S8x128 _ rfl rfl 512 rfl
        (ix2 (⟨j.val / 768, by omega⟩ : Fin 8) (⟨j.val % 768 - 512, by omega⟩ : Fin 128)) ?_ ?_).trans ?_
      · intro a ha
        match a with
        | ⟨0, _⟩ => show j.val / 768 = (z 0).val / 768; omega
        | ⟨1, _⟩ => exact absurd rfl ha
      · show 512 + (j.val % 768 - 512) = (z 0).val % 768; omega
      · refine (val_main_v12_apply (F := Ideal) b _).trans ((val_main_v9_apply (F := Ideal) b _).trans (congrArg b (funext fun a => Fin.ext ?_)))
        match a with
        | ⟨0, _⟩ => show 4096 + (j.val / 768 * 128 + (j.val % 768 - 512)) = (spot j).val; omega
    · refine (concatenate_apply_piece (t := Cert.Reference9Ideal.S8x768) 1 _ _ _ 2 (by simp) Cert.Reference9Ideal.S8x128 _ rfl rfl 640 rfl
        (ix2 (⟨j.val / 768, by omega⟩ : Fin 8) (⟨j.val % 768 - 640, by omega⟩ : Fin 128)) ?_ ?_).trans ?_
      · intro a ha
        match a with
        | ⟨0, _⟩ => show j.val / 768 = (z 0).val / 768; omega
        | ⟨1, _⟩ => exact absurd rfl ha
      · show 640 + (j.val % 768 - 640) = (z 0).val % 768; omega
      · refine (val_main_v13_apply (F := Ideal) b _).trans ((val_main_v10_apply (F := Ideal) b _).trans (congrArg b (funext fun a => Fin.ext ?_)))
        match a with
        | ⟨0, _⟩ => show 5120 + (j.val / 768 * 128 + (j.val % 768 - 640)) = (spot j).val; omega

/-- The reference's array as the sequences of tokens. -/
theorem seq_at (x : S32768x6144.Idx → EReal) (z : Cert.Reference9Ideal.S8x4096x6144.Idx) (i : Fin 32768) (k : Fin 6144)
    (h : 4096 * (z 0).val + (z 1).val = i.val) (hk : (z 2).val = k.val) : val_main_v17 (F := Ideal) x z = x (ix2 i k) := by
  rw [val_main_v17_apply]
  refine congrArg x (funext fun a => ?_)
  have h0 : (z 0).val < 8 := (z 0).isLt
  have h1 : (z 1).val < 4096 := (z 1).isLt
  have h2 : (z 2).val < 6144 := (z 2).isLt
  match a with
  | ⟨0, _⟩ => exact Fin.ext (by show (((z 0).val * 4096 + (z 1).val) * 6144 + (z 2).val) / 6144 = i.val; omega)
  | ⟨1, _⟩ => exact Fin.ext (by show (((z 0).val * 4096 + (z 1).val) * 6144 + (z 2).val) % 6144 = k.val; omega)

/-- The tokens laid behind three rows of zeros, in each sequence. -/
theorem padded_at (x : S32768x6144.Idx → EReal) (z : Cert.Reference9Ideal.S8x4099x6144.Idx) (i : Fin 32768) (d : ℕ) (hd : d ≤ 3) (k : Fin 6144)
    (h0 : (z 0).val = i.val / 4096) (h1 : (z 1).val + d = i.val % 4096 + 3) (h2 : (z 2).val = k.val) :
    val_main_v18 (F := Ideal) x z = prev x d i k := by
  unfold val_main_v18 prev
  rw [pad_apply]
  have hz : (z 1).val < 4099 := (z 1).isLt
  by_cases hr : d ≤ i.val % 4096
  · rw [if_pos hr, dif_pos (fun a => by
      match a with
      | ⟨0, _⟩ => show 0 ≤ (z 0).val ∧ ((z 0).val - 0) % 1 = 0 ∧ ((z 0).val - 0) / 1 < 8; omega
      | ⟨1, _⟩ => show 3 ≤ (z 1).val ∧ ((z 1).val - 3) % 1 = 0 ∧ ((z 1).val - 3) / 1 < 4096; omega
      | ⟨2, _⟩ => show 0 ≤ (z 2).val ∧ ((z 2).val - 0) % 1 = 0 ∧ ((z 2).val - 0) / 1 < 6144; omega)]
    refine seq_at x _ _ k ?_ ?_
    · show 4096 * (((z 0).val - 0) / 1) + ((z 1).val - 3) / 1 = i.val - d
      omega
    · show ((z 2).val - 0) / 1 = k.val
      omega
  · rw [if_neg hr, dif_neg (fun hn => by
      have := (hn ⟨1, by decide⟩).1
      have : 3 ≤ (z 1).val := this
      omega)]
    show (((0#32).toInt : ℝ) : EReal) = 0
    simp

/-- The reference's last step: a value times one over one more than the exponential of it, negated. -/
theorem act_at (x : S32768x6144.Idx → EReal) (w : S4x6144.Idx → EReal) (b : S6144.Idx → EReal) (z : Cert.Reference9Ideal.S8x4096x6144.Idx) :
    val_main_v51 (F := Ideal) x w b z = act (val_main_v50 (F := Ideal) x w b z) := by
  rw [val_main_v51_apply, val_main_call1_v5_apply, val_main_call1_v4_apply, val_main_call1_v3_apply, val_main_call1_v2_apply, val_main_call1_v1_apply,
    val_main_call1_v0_apply]
  generalize val_main_v50 (F := Ideal) x w b z = y
  show y * Ideal.div (Ideal.ofBits .f32 0x3F800000#32) (Ideal.ofBits .f32 0x3F800000#32 + Ideal.exp (-y)) = _
  rw [one_f32]
  rfl

/-- The sums before it. -/
theorem sum_at (x : S32768x6144.Idx → EReal) (w : S4x6144.Idx → EReal) (b : S6144.Idx → EReal) (z : Cert.Reference9Ideal.S8x4096x6144.Idx) (i : Fin 32768)
    (k : Fin 6144) (h0 : (z 0).val = i.val / 4096) (h1 : (z 1).val = i.val % 4096) (h2 : (z 2).val = k.val) :
    val_main_v50 (F := Ideal) x w b z = x (ix2 i k) * w (ix2 3 (spot k)) + b (ix1 (spot k)) + prev x 1 i k * w (ix2 2 (spot k))
      + prev x 2 i k * w (ix2 1 (spot k)) + prev x 3 i k * w (ix2 0 (spot k)) := by
  have hk : (z 2).val % 6144 = k.val := by have := k.isLt; omega
  have e3 : val_main_v21 (F := Ideal) x z = prev x 3 i k :=
    (val_main_v21_apply (F := Ideal) x z).trans (padded_at x _ i 3 (by decide) k h0 (by show (z 1).val + 3 = _; omega) h2)
  have e2 : val_main_v29 (F := Ideal) x z = prev x 2 i k :=
    (val_main_v29_apply (F := Ideal) x z).trans (padded_at x _ i 2 (by decide) k h0 (by show 1 + (z 1).val + 2 = _; omega) h2)
  have e1 : val_main_v36 (F := Ideal) x z = prev x 1 i k :=
    (val_main_v36_apply (F := Ideal) x z).trans (padded_at x _ i 1 (by decide) k h0 (by show 2 + (z 1).val + 1 = _; omega) h2)
  have e0 : val_main_v43 (F := Ideal) x z = x (ix2 i k) :=
    ((val_main_v43_apply (F := Ideal) x z).trans (padded_at x _ i 0 (by decide) k h0 (by show 3 + (z 1).val + 0 = _; omega) h2)).trans (if_pos (Nat.zero_le _))
  have w0 : val_main_v23 (F := Ideal) w z = w (ix2 0 (spot k)) := by
    rw [val_main_v23_apply, val_main_v22_apply, val_main_v20_apply, val_main_v19_apply]
    exact ref_w w _ 0 k rfl hk
  have w1 : val_main_v31 (F := Ideal) w z = w (ix2 1 (spot k)) := by
    rw [val_main_v31_apply, val_main_v30_apply, val_main_v28_apply, val_main_v27_apply]
    exact ref_w w _ 1 k rfl hk
  have w2 : val_main_v38 (F := Ideal) w z = w (ix2 2 (spot k)) := by
    rw [val_main_v38_apply, val_main_v37_apply, val_main_v35_apply, val_main_v34_apply]
    exact ref_w w _ 2 k rfl hk
  have w3 : val_main_v45 (F := Ideal) w z = w (ix2 3 (spot k)) := by
    rw [val_main_v45_apply, val_main_v44_apply, val_main_v42_apply, val_main_v41_apply]
    exact ref_w w _ 3 k rfl hk
  have eb : val_main_v49 (F := Ideal) b z = b (ix1 (spot k)) := by
    rw [val_main_v49_apply, val_main_v48_apply]
    exact ref_b b _ k h2
  rw [val_main_v50_apply, val_main_v47_apply, val_main_v46_apply, val_main_v40_apply, val_main_v39_apply, val_main_v33_apply, val_main_v32_apply,
    val_main_v26_apply, val_main_v25_apply, val_main_v24_apply, e0, e1, e2, e3, w0, w1, w2, w3, eb]
  show Ideal.ofBits .f32 0x00000000#32 + w (ix2 0 (spot k)) * prev x 3 i k + w (ix2 1 (spot k)) * prev x 2 i k + w (ix2 2 (spot k)) * prev x 1 i k
    + w (ix2 3 (spot k)) * x (ix2 i k) + b (ix1 (spot k)) = _
  rw [show Ideal.ofBits .f32 0x00000000#32 = 0 from zero_f32, zero_add, mul_comm (w _), mul_comm (w _), mul_comm (w _), mul_comm (w _)]
  ac_rfl

/-- The reference's array is the convolution, over the weights and the bias at the columns' places. -/
theorem ref_eq (x : S32768x6144.Idx → EReal) (w : S4x6144.Idx → EReal) (b : S6144.Idx → EReal) (W : S4x6144.Idx → EReal) (B : S1x6144.Idx → EReal)
    (hW : ∀ (q : Fin 4) (j : Fin 6144), W (ix2 q j) = w (ix2 q (spot j))) (hB : ∀ j : Fin 6144, B (ix2 u0 j) = b (ix1 (spot j))) :
    val_main_v53 (F := Ideal) x w b = conv x W B := by
  funext y
  obtain ⟨i, k, rfl⟩ : ∃ (i : Fin 32768) (k : Fin 6144), y = ix2 i k := ⟨y 0, y 1, funext fun a => by match a with | ⟨0, _⟩ => rfl | ⟨1, _⟩ => rfl⟩
  refine (val_main_v52_apply (F := Ideal) x w b (ix2 i k)).trans ((act_at x w b _).trans (congrArg act ?_))
  refine (sum_at x w b _ i k ?_ ?_ ?_).trans ?_
  · show (i.val * 6144 + k.val) / 25165824 = i.val / 4096; omega
  · show (i.val * 6144 + k.val) / 6144 % 4096 = i.val % 4096; omega
  · show (i.val * 6144 + k.val) % 6144 = k.val; omega
  · rw [← hW, ← hW, ← hW, ← hW, ← hB]

end

/-- The call runs, keeps its arguments, and ends with its counters at zero. -/
theorem frame_kernel : Cert.quiescent_Kernel9 := fun m ρ _ => Cert.Kernel9.Gen.frame m ρ
/-- So does the idealized call. -/
theorem frame_ideal : Cert.quiescent_Kernel9Ideal := fun m ρ _ => Cert.Kernel9Ideal.Gen.frame m ρ
/-- So does the reference. -/
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
/-- The idealized call is the call's own text. -/
theorem preserves : Cert.preserves_Kernel9_Kernel9Ideal := trivial
/-- Call and reference leave the same array: the convolution. -/
theorem algebraic : Cert.algebraic_Kernel9Ideal_Reference9Ideal := by
  intro m ρ m' ρ' _ hag
  refine ⟨_, Cert.Kernel9Ideal.Value.run_blocks (F := Ideal) m ρ,
    (θ_run Cert.Reference9Ideal.defs _ _).mono (fun _ h c => ⟨(h c).1.trans ?_, (h c).2⟩) (Cert.Reference9Ideal.Value.run (F := Ideal) m' ρ')⟩
  rw [Cert.Reference9Ideal.Read.val_main_v53_eq, (hag c).1, (hag c).2.1, (hag c).2.2, final_eq m c, V_main_arg0]
  exact ref_eq _ _ _ _ _ (w_spot m c) (b_spot m c)

end Cert.Proof.ScanConv

end
-- ==== Proof.FfnRun.lean ====
/- One step of the experts' products: a block of 1024 tokens against 512 experts, the answers weighed with the gates and
   added to what the steps before left. -/
module

public import proofs.«01_k».proof.Defs
public import proofs.«01_k».proof.Proof.Tile
public import proofs.«01_k».proof.Proof.Gen.Kernel10Ideal.Value
public import Idealize.ShloMosaic.Lib.Pipeline.ValueKit.Tiles
public import Idealize.ShloMosaic.Lib.WritesUnit
public import Idealize.ShloMosaic.Lib.Pipeline.ValueKit.Geometry
public import Idealize.ShloMosaic.PureOps.Ideal.Laws

@[expose] public section

set_option maxRecDepth 16384

noncomputable section

namespace Cert.Proof.Ffn

open Idealize.ShloMosaic Idealize.ShloMosaic.TcCoe Idealize.ShloMosaic.ValueIdx Idealize.SL.Sem Cert.Proof.Tile
open Cert.Kernel10Ideal Cert.Kernel10Ideal.Gen

/-- The bf16 word of one half. -/
theorem half_bf16 : Ideal.ofBits .bf16 0x3F00#16 = ((1 / 2 : ℝ) : EReal) := by
  simp [Ideal.ofBits, Ideal.ieee, -EReal.coe_mul]; norm_num

/-- The exact gaussian error linear unit. -/
def gelu (s : EReal) : EReal := ((1 / 2 : ℝ) : EReal) * s * (1 + Ideal.erf (s * (((Real.sqrt 2)⁻¹ : ℝ) : EReal)))

/-- The answer of the block's expert `q` to its token `r`, weighed: the gates are the rows of key `p + q / 128`. -/
def answer (x : S1024x2048.Idx → EReal) (d : S1x2048x512.Idx → EReal) (g : S1x8192x128.Idx → EReal) (p : ℕ) (hp : p ≤ 4) (r : Fin 1024) (q : Fin 512) : EReal :=
  gelu (∑ k : Fin 2048, x (ix2 r k) * d (ix3 u0 k q)) * g (ix3 u0 ⟨8 * r.val + (p + q.val / 128), by omega⟩ ⟨q.val % 128, by omega⟩)

/-- What a step leaves in its block, over what was there. -/
def blk (x : S1024x2048.Idx → EReal) (d : S1x2048x512.Idx → EReal) (u : S512x2048.Idx → EReal) (g : S1x8192x128.Idx → EReal) (p : ℕ) (hp : p ≤ 4)
    (old : S1024x2048.Idx → EReal) : S1024x2048.Idx → EReal :=
  fun y => old y + ∑ q : Fin 512, answer x d g p hp (y 0) q * u (ix2 q (y 1))

/-- The scores of a block. -/
theorem score_at (x : Vec Ideal S1024x2048 .bf16) (d : Vec Ideal S1x2048x512 .bf16) (r : Fin 1024) (q : Fin 512) :
    k0_pay2 (F := Ideal) x d (ix2 r q) = ∑ k : Fin 2048, x (ix2 r k) * d (ix3 u0 k q) := by
  unfold k0_pay2
  refine (Ideal.matmul_plain_apply (φ₁ := .bf16) (φ₂ := .bf16) none x _ _ r q).trans ?_
  rw [show constant (F := Ideal) S1024x512 .f32 0x00000000#32 (ix2 r q) = 0 from zero_f32, zero_add]
  refine Finset.sum_congr rfl fun k _ => congrArg (x (ix2 r k) * ·) ?_
  refine shapeCast_apply d _ (ix2 k q) (ix3 u0 k q) ?_
  rw [Shape.rowMajor_val_three, Shape.rowMajor_val_two]
  show (0 * 2048 + k.val) * 512 + q.val = k.val * 512 + q.val
  omega

/-- The weighed answers of 128 experts, as a step computes them from the scores `s`. -/
def piece (s : FVec Ideal S1024x512 .f32) (o : ℕ) (h : S1024x512.Slices ![0, o] S1024x128) (v : Vec Ideal S1x1024x128 .f32) : FVec Ideal S1024x128 .bf16 :=
  mulf (mulf (mulf (broadcast S1024x128 (Scalar.ofBits .bf16 0x3F00#16)) (truncf .bf16 (extractStridedSlice S1024x128 ![0, o] s h) bitsLt_bf16_f32))
      (addf (broadcast S1024x128 (Scalar.ofBits .bf16 0x3F80#16))
        (erf (mulf (truncf .bf16 (extractStridedSlice S1024x128 ![0, o] s h) bitsLt_bf16_f32) (broadcast S1024x128 (Named.named κ "rsqrt2" 0x3F35#16))))))
    (truncf .bf16 (shapeCast S1024x128 v shapeCasts_S1x1024x128_S1024x128) bitsLt_bf16_f32)

/-- The same at a place. -/
theorem piece_at (s : FVec Ideal S1024x512 .f32) (o : ℕ) (h : S1024x512.Slices ![0, o] S1024x128) (v : Vec Ideal S1x1024x128 .f32) (r : Fin 1024) (l : Fin 128)
    (ho : o + l.val < 512) : piece s o h v (ix2 r l) = gelu (s (ix2 r ⟨o + l.val, ho⟩)) * v (ix3 u0 r l) := by
  have e : extractStridedSlice S1024x128 ![0, o] s h (ix2 r l) = s (ix2 r ⟨o + l.val, ho⟩) :=
    extractStridedSlice_apply _ _ _ _ _ (fun a => by
      match a with
      | ⟨0, _⟩ => exact (Nat.zero_add _).symm
      | ⟨1, _⟩ => rfl)
  have ev : shapeCast S1024x128 v shapeCasts_S1x1024x128_S1024x128 (ix2 r l) = v (ix3 u0 r l) := by
    refine shapeCast_apply v _ (ix2 r l) (ix3 u0 r l) ?_
    rw [Shape.rowMajor_val_three, Shape.rowMajor_val_two]
    show (0 * 1024 + r.val) * 128 + l.val = r.val * 128 + l.val
    omega
  show Ideal.ofBits .bf16 0x3F00#16 * extractStridedSlice S1024x128 ![0, o] s h (ix2 r l)
      * (Ideal.ofBits .bf16 0x3F80#16 + Ideal.erf (extractStridedSlice S1024x128 ![0, o] s h (ix2 r l) * (Named.named κ "rsqrt2" 0x3F35#16 : Ideal .bf16)))
      * shapeCast S1024x128 v shapeCasts_S1x1024x128_S1024x128 (ix2 r l) = _
  rw [e, ev, half_bf16, one_bf16, show (Named.named κ "rsqrt2" 0x3F35#16 : Ideal .bf16) = (((Real.sqrt 2)⁻¹ : ℝ) : EReal) from
    IdealRules.named_const.ideal_named_scalar _ _ _ _ rfl]
  rfl

/-- The four pieces side by side. -/
def pieces (s : FVec Ideal S1024x512 .f32) (g0 g1 g2 g3 : Vec Ideal S1x1024x128 .f32) : FVec Ideal S1024x512 .bf16 :=
  concatenate S1024x512 1 [⟨S1024x128, piece s 0 slices_S1024x512_o0_0_S1024x128 g0⟩, ⟨S1024x128, piece s 128 slices_S1024x512_o0_128_S1024x128 g1⟩,
    ⟨S1024x128, piece s 256 slices_S1024x512_o0_256_S1024x128 g2⟩, ⟨S1024x128, piece s 384 slices_S1024x512_o0_384_S1024x128 g3⟩]
    concatenates_S1024x128_S1024x128_S1024x128_S1024x128_S1024x512_d1

/-- The pieces at a place. -/
theorem pieces_at (s : FVec Ideal S1024x512 .f32) (g0 g1 g2 g3 : Vec Ideal S1x1024x128 .f32) (f : Fin 1024 → Fin 512 → EReal)
    (h0 : ∀ r (l : Fin 128), g0 (ix3 u0 r l) = f r ⟨0 + l.val, by omega⟩) (h1 : ∀ r (l : Fin 128), g1 (ix3 u0 r l) = f r ⟨128 + l.val, by omega⟩)
    (h2 : ∀ r (l : Fin 128), g2 (ix3 u0 r l) = f r ⟨256 + l.val, by omega⟩) (h3 : ∀ r (l : Fin 128), g3 (ix3 u0 r l) = f r ⟨384 + l.val, by omega⟩)
    (r : Fin 1024) (q : Fin 512) : pieces s g0 g1 g2 g3 (ix2 r q) = gelu (s (ix2 r q)) * f r q := by
  have one : ∀ (n o : ℕ) (hn : n < 4) (h : S1024x512.Slices ![0, o] S1024x128) (v : Vec Ideal S1x1024x128 .f32) (hoq : o ≤ q.val) (hq : q.val < o + 128)
      (hv : ∀ (l : Fin 128) (hl : o + l.val < 512), v (ix3 u0 r l) = f r ⟨o + l.val, hl⟩)
      (e : pieces s g0 g1 g2 g3 (ix2 r q) = piece s o h v (ix2 r ⟨q.val - o, by omega⟩)), pieces s g0 g1 g2 g3 (ix2 r q) = gelu (s (ix2 r q)) * f r q := by
    intro n o hn h v hoq hq hv e
    have hqe : (⟨o + (q.val - o), by omega⟩ : Fin 512) = q := Fin.ext (by show o + (q.val - o) = q.val; omega)
    rw [e, piece_at s o h v r ⟨q.val - o, by omega⟩ (by show o + (q.val - o) < 512; omega), hv _ (by show o + (q.val - o) < 512; omega)]
    show gelu (s (ix2 r ⟨o + (q.val - o), _⟩)) * f r ⟨o + (q.val - o), _⟩ = _
    rw [hqe]
  have hq := q.isLt
  by_cases c0 : q.val < 128
  · refine one 0 0 (by decide) slices_S1024x512_o0_0_S1024x128 g0 (Nat.zero_le _) (by omega) (fun l _ => h0 r l) ?_
    exact concatenate_apply_piece (t := S1024x512) 1 _ _ (ix2 r q) 0 (by simp) S1024x128 _ rfl rfl 0 rfl (ix2 r ⟨q.val - 0, by omega⟩) (fun a ha => by
      match a with
      | ⟨0, _⟩ => rfl
      | ⟨1, _⟩ => exact absurd rfl ha) (by show 0 + (q.val - 0) = q.val; omega)
  by_cases c1 : q.val < 256
  · refine one 1 128 (by decide) slices_S1024x512_o0_128_S1024x128 g1 (by omega) (by omega) (fun l _ => h1 r l) ?_
    exact concatenate_apply_piece (t := S1024x512) 1 _ _ (ix2 r q) 1 (by simp) S1024x128 _ rfl rfl 128 rfl (ix2 r ⟨q.val - 128, by omega⟩) (fun a ha => by
      match a with
      | ⟨0, _⟩ => rfl
      | ⟨1, _⟩ => exact absurd rfl ha) (by show 128 + (q.val - 128) = q.val; omega)
  by_cases c2 : q.val < 384
  · refine one 2 256 (by decide) slices_S1024x512_o0_256_S1024x128 g2 (by omega) (by omega) (fun l _ => h2 r l) ?_
    exact concatenate_apply_piece (t := S1024x512) 1 _ _ (ix2 r q) 2 (by simp) S1024x128 _ rfl rfl 256 rfl (ix2 r ⟨q.val - 256, by omega⟩) (fun a ha => by
      match a with
      | ⟨0, _⟩ => rfl
      | ⟨1, _⟩ => exact absurd rfl ha) (by show 256 + (q.val - 256) = q.val; omega)
  · refine one 3 384 (by decide) slices_S1024x512_o0_384_S1024x128 g3 (by omega) (by omega) (fun l _ => h3 r l) ?_
    exact concatenate_apply_piece (t := S1024x512) 1 _ _ (ix2 r q) 3 (by simp) S1024x128 _ rfl rfl 384 rfl (ix2 r ⟨q.val - 384, by omega⟩) (fun a ha => by
      match a with
      | ⟨0, _⟩ => rfl
      | ⟨1, _⟩ => exact absurd rfl ha) (by show 384 + (q.val - 384) = q.val; omega)

/-- Half of a step's columns: the answers' product with the experts' output weights, on what was there. -/
def onto (a : FVec Ideal S1024x512 .bf16) (o : Vec Ideal S1024x1024 .f32) (u : Vec Ideal S512x1024 .bf16) : FVec Ideal S1024x1024 .f32 :=
  addf (shapeCast S1024x1024 o shapeCasts_S1024x1024_S1024x1024)
    (matmul (φ₁ := .bf16) (φ₂ := .bf16) dot_S1024x512_S512x1024_S1024x1024_1_0_0_1_n_n none a (shapeCast S512x1024 u shapeCasts_S512x1024_S512x1024) (constant S1024x1024 .f32 0x00000000#32))

/-- The same at a place. -/
theorem onto_at (a : FVec Ideal S1024x512 .bf16) (o : Vec Ideal S1024x1024 .f32) (u : Vec Ideal S512x1024 .bf16) (r : Fin 1024) (k : Fin 1024) :
    onto a o u (ix2 r k) = o (ix2 r k) + ∑ q : Fin 512, a (ix2 r q) * u (ix2 q k) := by
  unfold onto
  rw [shapeCast_self, shapeCast_self]
  refine congrArg (o (ix2 r k) + ·) ((Ideal.matmul_plain_apply (φ₁ := .bf16) (φ₂ := .bf16) none a u _ r k).trans ?_)
  rw [show constant (F := Ideal) S1024x1024 .f32 0x00000000#32 (ix2 r k) = 0 from zero_f32, zero_add]

/-- The two kinds of step compute the same halves from what they read: the first columns. -/
theorem first_even (x : Vec Ideal S1024x2048 .bf16) (d : Vec Ideal S1x2048x512 .bf16) (g0 g1 g2 g3 : Vec Ideal S1x1024x128 .f32) (o : Vec Ideal S1024x1024 .f32)
    (u : Vec Ideal S512x1024 .bf16) : k0_pay9 (F := Ideal) (k0_pay2 x d) (k0_pay3 x d g0) (k0_pay4 x d g1) (k0_pay6 x d) (k0_pay7 x d) (Scalar.ofBits .bf16 0x3F80#16) g2 g3 o u
      = onto (pieces (k0_pay2 x d) g0 g1 g2 g3) o u := rfl
/-- The last columns. -/
theorem last_even (x : Vec Ideal S1024x2048 .bf16) (d : Vec Ideal S1x2048x512 .bf16) (g0 g1 g2 g3 : Vec Ideal S1x1024x128 .f32) (o : Vec Ideal S1024x1024 .f32)
    (u : Vec Ideal S512x1024 .bf16) : k0_pay10 (F := Ideal) (k0_pay2 x d) (k0_pay3 x d g0) (k0_pay4 x d g1) (k0_pay6 x d) (k0_pay7 x d) (Scalar.ofBits .bf16 0x3F80#16) g2 g3 o u
      = onto (pieces (k0_pay2 x d) g0 g1 g2 g3) o u := rfl
/-- The first columns of an odd step. -/
theorem first_odd (x : Vec Ideal S1024x2048 .bf16) (d : Vec Ideal S1x2048x512 .bf16) (g0 g1 g2 g3 : Vec Ideal S1x1024x128 .f32) (o : Vec Ideal S1024x1024 .f32)
    (u : Vec Ideal S512x1024 .bf16) : k0_pay18 (F := Ideal) (k0_pay11 x d) (k0_pay12 x d g0) (k0_pay13 x d g1) (k0_pay15 x d) (k0_pay16 x d) (Scalar.ofBits .bf16 0x3F80#16) g2 g3 o u
      = onto (pieces (k0_pay2 x d) g0 g1 g2 g3) o u := rfl
/-- The last columns of an odd step. -/
theorem last_odd (x : Vec Ideal S1024x2048 .bf16) (d : Vec Ideal S1x2048x512 .bf16) (g0 g1 g2 g3 : Vec Ideal S1x1024x128 .f32) (o : Vec Ideal S1024x1024 .f32)
    (u : Vec Ideal S512x1024 .bf16) : k0_pay19 (F := Ideal) (k0_pay11 x d) (k0_pay12 x d g0) (k0_pay13 x d g1) (k0_pay15 x d) (k0_pay16 x d) (Scalar.ofBits .bf16 0x3F80#16) g2 g3 o u
      = onto (pieces (k0_pay2 x d) g0 g1 g2 g3) o u := rfl

/-- The gates of every eighth row, as a load reads them. -/
theorem gate_at (v : View sig .tc .vmem S1x8192x128 .f32) (f : v.ty.Contents (Elt Ideal)) (o : ℕ) (ho : o < 8)
    (inb : ∀ a, S1x1024x128.size a = 0 ∨ (![0, o, 0] : Fin 3 → ℕ) a + (![1, 8, 1] : Fin 3 → ℕ) a * (S1x1024x128.size a - 1) < S1x8192x128.size a) (r : Fin 1024) (l : Fin 128) :
    v.readAt (Elt Ideal) (⟨![0, o, 0], S1x1024x128.size, ![1, 8, 1], inb⟩ : LoadRect S1x8192x128) f (ix3 u0 r l)
      = v.read (Elt Ideal) f (ix3 u0 ⟨8 * r.val + o, by omega⟩ l) := by
  rw [View.readAt_apply]
  refine congrArg _ (funext fun a => Fin.ext ?_)
  match a with
  | ⟨0, _⟩ => rfl
  | ⟨1, _⟩ => show o + 8 * r.val = 8 * r.val + o; omega
  | ⟨2, _⟩ => show 0 + 1 * l.val = l.val; omega

/-- Columns from `o` on, as a load reads them. -/
theorem cols_at {n : ℕ} {φ : EltTy} (v : View sig .tc .vmem (S2 n 2048) φ) (f : v.ty.Contents (Elt Ideal)) (o : ℕ) (ho : o ≤ 1024)
    (inb : ∀ a, (![0, o] : Fin 2 → ℕ) a + (S2 n 1024).size a ≤ (S2 n 2048).size a) (r : Fin n) (k : Fin 1024) :
    v.readAt (Elt Ideal) (Rect.unit (s := S2 n 2048) ![0, o] (S2 n 1024).size inb).toLoadRect f (ix2 r k) = v.read (Elt Ideal) f (ix2 r ⟨o + k.val, by omega⟩) := by
  rw [View.readAt_apply]
  refine congrArg _ (funext fun a => Fin.ext ?_)
  match a with
  | ⟨0, _⟩ => show 0 + 1 * r.val = r.val; omega
  | ⟨1, _⟩ => show o + 1 * k.val = o + k.val; omega

/-- A place is its two coordinates. -/
theorem pair {n m : ℕ} (y : (S2 n m).Idx) : y = ix2 (y 0) (y 1) := funext fun a => by
  match a with
  | ⟨0, _⟩ => rfl
  | ⟨1, _⟩ => rfl

/-- A load of the whole block of tokens reads it. -/
theorem tokens_ld (x : Vec Ideal S1024x2048 .bf16) (inb : ∀ a, (![0, 0] : Fin 2 → ℕ) a + S1024x2048.size a ≤ S1024x2048.size a) :
    View.ld x (Rect.unit (s := S1024x2048) ![0, 0] ![1024, 2048] inb) = x :=
  View.ld_unit_zero (S := S1024x2048) (by funext a; fin_cases a <;> rfl) _ _

/-- A load of the whole block of input weights reads it. -/
theorem weights_ld (x : Vec Ideal S1x2048x512 .bf16) (inb : ∀ a, (![0, 0, 0] : Fin 3 → ℕ) a + S1x2048x512.size a ≤ S1x2048x512.size a) :
    View.ld x (Rect.unit (s := S1x2048x512) ![0, 0, 0] ![1, 2048, 512] inb) = x :=
  View.ld_unit_zero (S := S1x2048x512) (by funext a; fin_cases a <;> rfl) _ _

/-- What the two halves of a step's columns leave, laid over anything. -/
theorem step_at (v : View sig .tc .vmem S1024x2048 .f32) (f : v.ty.Contents (Elt Ideal)) (L : List (View.Piece (Elt Ideal) S1024x2048 .f32))
    (inb0 : ∀ a, (![0, 0] : Fin 2 → ℕ) a + S1024x1024.size a ≤ S1024x2048.size a) (inb1 : ∀ a, (![0, 1024] : Fin 2 → ℕ) a + S1024x1024.size a ≤ S1024x2048.size a)
    (w1 w2 : Vec Ideal S1024x1024 .f32) (x : Vec Ideal S1024x2048 .bf16) (d : Vec Ideal S1x2048x512 .bf16) (g0 g1 g2 g3 : Vec Ideal S1x1024x128 .f32)
    (o1 o2 : Vec Ideal S1024x1024 .f32) (u1 u2 : Vec Ideal S512x1024 .bf16) (e1 : w1 = onto (pieces (k0_pay2 x d) g0 g1 g2 g3) o1 u1)
    (e2 : w2 = onto (pieces (k0_pay2 x d) g0 g1 g2 g3) o2 u2) (g : S1x8192x128.Idx → EReal) (u : S512x2048.Idx → EReal) (old : S1024x2048.Idx → EReal) (p : ℕ) (hp : p ≤ 4)
    (h0 : ∀ (r : Fin 1024) (l : Fin 128), g0 (ix3 u0 r l) = g (ix3 u0 ⟨8 * r.val + (p + 0), by omega⟩ l))
    (h1 : ∀ (r : Fin 1024) (l : Fin 128), g1 (ix3 u0 r l) = g (ix3 u0 ⟨8 * r.val + (p + 1), by omega⟩ l))
    (h2 : ∀ (r : Fin 1024) (l : Fin 128), g2 (ix3 u0 r l) = g (ix3 u0 ⟨8 * r.val + (p + 2), by omega⟩ l))
    (h3 : ∀ (r : Fin 1024) (l : Fin 128), g3 (ix3 u0 r l) = g (ix3 u0 ⟨8 * r.val + (p + 3), by omega⟩ l))
    (ho1 : ∀ (r : Fin 1024) (k : Fin 1024), o1 (ix2 r k) = old (ix2 r ⟨0 + k.val, by omega⟩))
    (ho2 : ∀ (r : Fin 1024) (k : Fin 1024), o2 (ix2 r k) = old (ix2 r ⟨1024 + k.val, by omega⟩))
    (hu1 : ∀ (q : Fin 512) (k : Fin 1024), u1 (ix2 q k) = u (ix2 q ⟨0 + k.val, by omega⟩))
    (hu2 : ∀ (q : Fin 512) (k : Fin 1024), u2 (ix2 q k) = u (ix2 q ⟨1024 + k.val, by omega⟩)) (y : S1024x2048.Idx) :
    v.read (Elt Ideal) (v.writes (Elt Ideal) f ((⟨Rect.unit (s := S1024x2048) ![0, 1024] S1024x1024.size inb1, w2⟩ : View.Piece (Elt Ideal) S1024x2048 .f32)
      :: (⟨Rect.unit (s := S1024x2048) ![0, 0] S1024x1024.size inb0, w1⟩ : View.Piece (Elt Ideal) S1024x2048 .f32) :: L)) y = blk x d u g p hp old y := by
  obtain ⟨r, k, rfl⟩ : ∃ (r : Fin 1024) (k : Fin 2048), y = ix2 r k := ⟨_, _, pair y⟩
  have ans : ∀ q : Fin 512, pieces (k0_pay2 x d) g0 g1 g2 g3 (ix2 r q) = answer x d g p hp r q := fun q => by
    refine (pieces_at (k0_pay2 x d) g0 g1 g2 g3 (fun r q => g (ix3 u0 ⟨8 * r.val + (p + q.val / 128), by omega⟩ ⟨q.val % 128, by omega⟩)) ?_ ?_ ?_ ?_ r q).trans ?_
    · exact fun r l => (h0 r l).trans (congrArg g (congrArg₂ (ix3 u0) (Fin.ext (by show 8 * r.val + (p + 0) = 8 * r.val + (p + (0 + l.val) / 128); omega))
        (Fin.ext (by show l.val = (0 + l.val) % 128; omega))))
    · exact fun r l => (h1 r l).trans (congrArg g (congrArg₂ (ix3 u0) (Fin.ext (by show 8 * r.val + (p + 1) = 8 * r.val + (p + (128 + l.val) / 128); omega))
        (Fin.ext (by show l.val = (128 + l.val) % 128; omega))))
    · exact fun r l => (h2 r l).trans (congrArg g (congrArg₂ (ix3 u0) (Fin.ext (by show 8 * r.val + (p + 2) = 8 * r.val + (p + (256 + l.val) / 128); omega))
        (Fin.ext (by show l.val = (256 + l.val) % 128; omega))))
    · exact fun r l => (h3 r l).trans (congrArg g (congrArg₂ (ix3 u0) (Fin.ext (by show 8 * r.val + (p + 3) = 8 * r.val + (p + (384 + l.val) / 128); omega))
        (Fin.ext (by show l.val = (384 + l.val) % 128; omega))))
    · rw [score_at]; rfl
  have half : ∀ (o : Vec Ideal S1024x1024 .f32) (w : Vec Ideal S512x1024 .bf16) (b : ℕ) (hb : b ≤ k.val) (hk : k.val - b < 1024)
      (ho : o (ix2 r ⟨k.val - b, hk⟩) = old (ix2 r ⟨b + (k.val - b), by omega⟩)) (hw : ∀ q : Fin 512, w (ix2 q ⟨k.val - b, hk⟩) = u (ix2 q ⟨b + (k.val - b), by omega⟩)),
      onto (pieces (k0_pay2 x d) g0 g1 g2 g3) o w (ix2 r ⟨k.val - b, hk⟩) = blk x d u g p hp old (ix2 r k) := fun o w b hb hk ho hw => by
    have hkb : (⟨b + (k.val - b), by omega⟩ : Fin 2048) = k := Fin.ext (by show b + (k.val - b) = k.val; omega)
    rw [onto_at, ho, hkb]
    refine congrArg (old (ix2 r k) + ·) (Finset.sum_congr rfl fun q _ => ?_)
    rw [ans q, hw q, hkb]
  subst e1 e2
  by_cases hk : k.val < 1024
  · refine (View.read_writes_cons_unit_of_not_mem v f inb1 _ _ (ix2 r k) rfl 1 (.inl hk)).trans ?_
    refine (View.read_writes_cons_unit_of_mem v f inb0 _ L (ix2 r k) (ix2 r ⟨k.val - 0, by omega⟩) rfl (fun a => ?_)).trans
      (half o1 u1 0 (by omega) (by omega) (ho1 r _) (fun q => hu1 q _))
    match a with
    | ⟨0, _⟩ => exact (Nat.zero_add _).symm
    | ⟨1, _⟩ => show k.val = 0 + (k.val - 0); omega
  · refine (View.read_writes_cons_unit_of_mem v f inb1 _ _ (ix2 r k) (ix2 r ⟨k.val - 1024, by omega⟩) rfl (fun a => ?_)).trans
      (half o2 u2 1024 (by omega) (by omega) (ho2 r _) (fun q => hu2 q _))
    match a with
    | ⟨0, _⟩ => exact (Nat.zero_add _).symm
    | ⟨1, _⟩ => show k.val = 1024 + (k.val - 1024); omega

section Whole

variable (c : Dev nD) (i : grid0.Coords) (arg2 : Memref sig .tc .vmem S1024x2048 .bf16) (harg2 : arg2.IsWhole) (arg3 : Memref sig .tc .vmem S1x2048x512 .bf16) (harg3 : arg3.IsWhole)
  (arg4 : Memref sig .tc .vmem S512x2048 .bf16) (harg4 : arg4.IsWhole) (arg5 : Memref sig .tc .vmem S1x8192x128 .f32) (harg5 : arg5.IsWhole)
  (arg6 : Memref sig .tc .vmem S1024x2048 .f32) (harg6 : arg6.IsWhole) (x0 : Vec Ideal S1024x2048 .bf16) (x1 : Vec Ideal S1x2048x512 .bf16)
  (x2 : Vec Ideal S512x2048 .bf16) (x3 : Vec Ideal S1x8192x128 .f32)

/-- The gates of every eighth row of the block. -/
theorem gates_ld (p n : ℕ) (hn : p + n < 8) (o : ℕ) (ho : o = p + n)
    (inb : ∀ a, S1x1024x128.size a = 0 ∨ (![0, o, 0] : Fin 3 → ℕ) a + (![1, 8, 1] : Fin 3 → ℕ) a * (S1x1024x128.size a - 1) < S1x8192x128.size a) (r : Fin 1024) (l : Fin 128) :
    arg5.view.readAt (Elt Ideal) (⟨![0, o, 0], S1x1024x128.size, ![1, 8, 1], inb⟩ : LoadRect S1x8192x128) (harg5.unread x3) (ix3 u0 r l)
      = x3 (ix3 u0 ⟨8 * r.val + (p + n), by omega⟩ l) := by
  subst ho
  rw [gate_at arg5.view _ (p + n) hn, harg5.read_unread]

/-- Half of the columns of the block of output weights. -/
theorem up_ld (o : ℕ) (ho : o ≤ 1024) (inb : ∀ a, (![0, o] : Fin 2 → ℕ) a + S512x1024.size a ≤ S512x2048.size a) (q : Fin 512) (k : Fin 1024) :
    arg4.view.readAt (Elt Ideal) (Rect.unit (s := S512x2048) ![0, o] S512x1024.size inb).toLoadRect (harg4.unread x2) (ix2 q k) = x2 (ix2 q ⟨o + k.val, by omega⟩) := by
  refine (cols_at (n := 512) arg4.view _ o ho inb q k).trans ?_
  rw [harg4.read_unread]

/-- An even step after the first: what was there and the answers of its experts. -/
theorem out_C (h0 : ¬cond0_0 i) (h1 : cond0_1 i) (h2 : ¬cond0_2 i) (xo : Vec Ideal S1024x2048 .f32) :
    out0_C_4 (F := Ideal) c i arg2 harg2 arg3 harg3 arg4 harg4 arg5 harg5 arg6 harg6 h0 h1 h2 x0 x1 x2 x3 xo = blk x0 x1 x2 x3 0 (by omega) xo := by
  unfold out0_C_4 kernelRun0_C
  dsimp only
  unfold kernelRun0_C.sl.r_5 kernelRun0_C.sl.v79 kernelRun0_C.sl.r kernelRun0_C.sl.r_1 kernelRun0_C.sl.r_2 kernelRun0_C.sl.r_3 kernelRun0_C.sl.r_4
  simp only [View.readAt_eq_ld arg2.view, View.readAt_eq_ld arg3.view, harg2.read_unread, harg3.read_unread, tokens_ld, weights_ld]
  funext y
  refine step_at _ _ [] _ _ _ _ x0 x1 _ _ _ _ _ _ _ _ (first_even x0 x1 _ _ _ _ _ _) (last_even x0 x1 _ _ _ _ _ _) x3 x2 xo 0 (by omega)
    (gates_ld arg5 harg5 x3 0 0 (by decide) _ rfl _) (gates_ld arg5 harg5 x3 0 1 (by decide) _ rfl _) (gates_ld arg5 harg5 x3 0 2 (by decide) _ rfl _)
    (gates_ld arg5 harg5 x3 0 3 (by decide) _ rfl _) (fun r k => ?_) (fun r k => ?_) (up_ld arg4 harg4 x2 0 (by omega) _) (up_ld arg4 harg4 x2 1024 (by omega) _) y
  · exact (cols_at (n := 1024) arg6.view _ 0 (by omega) _ r k).trans (congrFun (harg6.read_unread _) _)
  · exact (cols_at (n := 1024) arg6.view _ 1024 (by omega) _ r k).trans (congrFun (harg6.read_unread _) _)

/-- An odd step: the same with the other half of its gates. -/
theorem out_B (h0 : ¬cond0_0 i) (h1 : ¬cond0_1 i) (h2 : cond0_2 i) (xo : Vec Ideal S1024x2048 .f32) :
    out0_B_4 (F := Ideal) c i arg2 harg2 arg3 harg3 arg4 harg4 arg5 harg5 arg6 harg6 h0 h1 h2 x0 x1 x2 x3 xo = blk x0 x1 x2 x3 4 (by omega) xo := by
  unfold out0_B_4 kernelRun0_B
  dsimp only
  unfold kernelRun0_B.sl.r_5 kernelRun0_B.sl.v79 kernelRun0_B.sl.r kernelRun0_B.sl.r_1 kernelRun0_B.sl.r_2 kernelRun0_B.sl.r_3 kernelRun0_B.sl.r_4
  simp only [View.readAt_eq_ld arg2.view, View.readAt_eq_ld arg3.view, harg2.read_unread, harg3.read_unread, tokens_ld, weights_ld]
  funext y
  refine step_at _ _ [] _ _ _ _ x0 x1 _ _ _ _ _ _ _ _ (first_odd x0 x1 _ _ _ _ _ _) (last_odd x0 x1 _ _ _ _ _ _) x3 x2 xo 4 (by omega)
    (gates_ld arg5 harg5 x3 4 0 (by decide) _ rfl _) (gates_ld arg5 harg5 x3 4 1 (by decide) _ rfl _) (gates_ld arg5 harg5 x3 4 2 (by decide) _ rfl _)
    (gates_ld arg5 harg5 x3 4 3 (by decide) _ rfl _) (fun r k => ?_) (fun r k => ?_) (up_ld arg4 harg4 x2 0 (by omega) _) (up_ld arg4 harg4 x2 1024 (by omega) _) y
  · exact (cols_at (n := 1024) arg6.view _ 0 (by omega) _ r k).trans (congrFun (harg6.read_unread _) _)
  · exact (cols_at (n := 1024) arg6.view _ 1024 (by omega) _ r k).trans (congrFun (harg6.read_unread _) _)

/-- The zeros a first step begins with. -/
theorem zeros_at (v : View sig .tc .vmem S1024x2048 .f32) (f : v.ty.Contents (Elt Ideal)) (y : S1024x2048.Idx) :
    v.read (Elt Ideal) (v.writes (Elt Ideal) f (kernelRun0_A.sl.H4_1 (F := Ideal))) y = 0 := by
  refine (View.read_writes_cons_unit_of_mem v f _ _ [] y y rfl (fun a => ?_)).trans zero_f32
  match a with
  | ⟨0, _⟩ => exact (Nat.zero_add _).symm
  | ⟨1, _⟩ => exact (Nat.zero_add _).symm

/-- A first step: the answers of its experts over zeros. -/
theorem out_A (h0 : cond0_0 i) (h1 : cond0_1 i) (h2 : ¬cond0_2 i) :
    out0_A_4 (F := Ideal) c i arg2 harg2 arg3 harg3 arg4 harg4 arg5 harg5 arg6 harg6 h0 h1 h2 x0 x1 x2 x3 = blk x0 x1 x2 x3 0 (by omega) (fun _ => 0) := by
  unfold out0_A_4 kernelRun0_A
  dsimp only
  unfold kernelRun0_A.sl.r_5 kernelRun0_A.sl.v79 kernelRun0_A.sl.H4_2 kernelRun0_A.sl.v72 kernelRun0_A.sl.r kernelRun0_A.sl.r_1 kernelRun0_A.sl.r_2 kernelRun0_A.sl.r_3
    kernelRun0_A.sl.r_4 View.readCov
  simp only [View.readAt_eq_ld arg2.view, View.readAt_eq_ld arg3.view, harg2.read_unread, harg3.read_unread, tokens_ld, weights_ld]
  funext y
  refine step_at _ _ _ _ _ _ _ x0 x1 _ _ _ _ _ _ _ _ (first_even x0 x1 _ _ _ _ _ _) (last_even x0 x1 _ _ _ _ _ _) x3 x2 (fun _ => 0) 0 (by omega)
    (gates_ld arg5 harg5 x3 0 0 (by decide) _ rfl _) (gates_ld arg5 harg5 x3 0 1 (by decide) _ rfl _) (gates_ld arg5 harg5 x3 0 2 (by decide) _ rfl _)
    (gates_ld arg5 harg5 x3 0 3 (by decide) _ rfl _) (fun r k => ?_) (fun r k => ?_) (up_ld arg4 harg4 x2 0 (by omega) _) (up_ld arg4 harg4 x2 1024 (by omega) _) y
  · exact (cols_at (n := 1024) arg6.view _ 0 (by omega) _ r k).trans (zeros_at _ _ _)
  · refine (cols_at (n := 1024) arg6.view _ 1024 (by omega) _ r k).trans ?_
    exact (View.read_writes_cons_unit_of_not_mem arg6.view _ _ _ _ _ rfl 1 (.inr (Nat.le_add_right 1024 k.val))).trans (zeros_at _ _ _)

end Whole

end Cert.Proof.Ffn

end
-- ==== Proof.Ffn.lean ====
/- The experts' products, whole: each place of the result is the sum over all the experts, and the reference's; the call's
   five claims. -/
module

public import proofs.«01_k».proof.Proof.FfnRun
public import proofs.«01_k».proof.Proof.Gen.Kernel10.Frame
public import proofs.«01_k».proof.Proof.Gen.Reference10Ideal.Run
public import proofs.«01_k».proof.Proof.Gen.Reference10Ideal.Read
public import Idealize.ShloMosaic.Lib.Quiescent
public import Idealize.ShloMosaic.Lib.KernelVsHost
public import Idealize.ShloMosaic.Lib.StableHlo.Predicate
public import Idealize.ShloMosaic.Lib.Pointwise.ShapeOpsCore

@[expose] public section

set_option maxRecDepth 16384

noncomputable section

namespace Cert.Proof.Ffn

open Idealize.ShloMosaic hiding ix1 ix2 ix3
open Idealize.ShloMosaic.TcCoe Idealize.ShloMosaic.ValueIdx Idealize.SL.Sem Cert.Proof.Tile
open Cert.Kernel10Ideal Cert.Kernel10Ideal.Gen

/-- What expert `e` adds to the token `i`: its answer, weighed, times its output weights. -/
def term (N : S32768x2048.Idx → EReal) (G : S16x262144x128.Idx → EReal) (D U : S16384x2048.Idx → EReal) (i : Fin 32768) (k : Fin 2048) (e : ℕ) : EReal :=
  if h : e < 16384 then
    gelu (∑ l : Fin 2048, N (ix2 i l) * D (ix2 ⟨e, h⟩ l)) * G (ix3 ⟨e / 1024, by omega⟩ ⟨8 * i.val + e / 128 % 8, by omega⟩ ⟨e % 128, by omega⟩) * U (ix2 ⟨e, h⟩ k)
  else 0

/-- The sum over all experts. -/
def total (N : S32768x2048.Idx → EReal) (G : S16x262144x128.Idx → EReal) (D U : S16384x2048.Idx → EReal) : S32768x2048.Idx → EReal :=
  fun y => ∑ e ∈ Finset.range 16384, term N G D U (y 0) (y 1) e

/-- The sum at a token and a column, its experts counted to `n`. -/
theorem total_at (N : S32768x2048.Idx → EReal) (G : S16x262144x128.Idx → EReal) (D U : S16384x2048.Idx → EReal) (i : Fin 32768) (k : Fin 2048) (n : ℕ) (hn : n = 16384) :
    ∑ e ∈ Finset.range n, term N G D U i k e = total N G D U (ix2 i k) := by
  subst hn
  rfl

/-- The block each grid point reads and writes. -/
theorem index_all : ∀ t : Fin cfg0.N,
    (win0_0.index t 0 = t.val / 32 ∧ win0_0.index t 1 = 0) ∧ (win0_1.index t 0 = t.val % 32 ∧ win0_1.index t 1 = 0 ∧ win0_1.index t 2 = 0)
      ∧ (win0_2.index t 0 = t.val % 32 ∧ win0_2.index t 1 = 0) ∧ (win0_3.index t 0 = t.val % 32 / 2 ∧ win0_3.index t 1 = t.val / 32 ∧ win0_3.index t 2 = 0)
      ∧ (win0_4.index t 0 = t.val / 32 ∧ win0_4.index t 1 = 0) ∧ t.val < 1024 :=
  (by decide +kernel : ∀ t : Fin grid0.N, _)

section
variable (m : (ℓ : Loc nD τ sig) → Buf (Elt Ideal) ℓ) (c : Dev nD)

/-- The tokens of a step. -/
theorem x_at (t : Fin cfg0.N) (r : Fin 1024) (l : Fin 2048) (i : Fin 32768) (hi : i.val = 1024 * (t.val / 32) + r.val) :
    (iblk m c 0 t : S1024x2048.Idx → EReal) (ix2 r l) = (V m c main_arg0 : S32768x2048.Idx → EReal) (ix2 i l) := by
  obtain ⟨⟨a0, a1⟩, -⟩ := index_all t
  refine congrArg (V m c main_arg0) (funext fun a => ?_)
  match a with
  | ⟨0, _⟩ => exact Fin.ext (by show win0_0.index t 0 * 1024 + 1 * r.val = i.val; rw [a0]; omega)
  | ⟨1, _⟩ => exact Fin.ext (by show win0_0.index t 1 * 2048 + 1 * l.val = l.val; rw [a1]; omega)

/-- The input weights the steps read: the given ones, in 32 blocks of 512 experts, each turned. -/
theorem V_down : V m c main_v3 = transpose S32x2048x512 [0, 2, 1] (shapeCast S32x512x2048 (m ((c : Thread nD τ).loc main_arg2)) shapeCasts_S16384x2048_S32x512x2048)
    transposes_S32x512x2048_S32x2048x512_0_2_1 := by
  show StableHlo.after _ _ _ = _
  after_results
  rfl

/-- The output weights the steps read: the given ones. -/
theorem V_up : V m c main_v1 = m ((c : Thread nD τ).loc main_arg3) := by
  show StableHlo.after _ _ _ = _
  after_results
  rfl

/-- The input weights of a step. -/
theorem d_at (t : Fin cfg0.N) (l : Fin 2048) (q : Fin 512) (e : Fin 16384) (he : e.val = 512 * (t.val % 32) + q.val) :
    (iblk m c 1 t : S1x2048x512.Idx → EReal) (ix3 u0 l q) = m ((c : Thread nD τ).loc main_arg2) (ix2 e l) := by
  obtain ⟨-, ⟨b0, b1, b2⟩, -⟩ := index_all t
  have hj : t.val % 32 < 32 := Nat.mod_lt _ (by decide)
  have e1 : (iblk m c 1 t : S1x2048x512.Idx → EReal) (ix3 u0 l q) = (V m c main_v3 : S32x2048x512.Idx → EReal) (ix3 ⟨t.val % 32, hj⟩ l q) := by
    refine congrArg (V m c main_v3) (funext fun a => ?_)
    match a with
    | ⟨0, _⟩ => exact Fin.ext (by show win0_1.index t 0 * 1 + 1 * 0 = t.val % 32; rw [b0]; omega)
    | ⟨1, _⟩ => exact Fin.ext (by show win0_1.index t 1 * 2048 + 1 * l.val = l.val; rw [b1]; omega)
    | ⟨2, _⟩ => exact Fin.ext (by show win0_1.index t 2 * 512 + 1 * q.val = q.val; rw [b2]; omega)
  rw [e1, V_down]
  refine (transpose_apply [0, 2, 1] _ transposes_S32x512x2048_S32x2048x512_0_2_1 (ix3 ⟨t.val % 32, hj⟩ l q) (ix3 ⟨t.val % 32, hj⟩ q l) (fun b => match b with
    | ⟨0, _⟩ => rfl
    | ⟨1, _⟩ => rfl
    | ⟨2, _⟩ => rfl)).trans ?_
  refine shapeCast_apply _ _ _ (ix2 e l) ?_
  rw [Shape.rowMajor_val_three, Shape.rowMajor_val_two]
  show e.val * 2048 + l.val = (t.val % 32 * 512 + q.val) * 2048 + l.val
  omega

/-- The output weights of a step. -/
theorem u_at (t : Fin cfg0.N) (q : Fin 512) (k : Fin 2048) (e : Fin 16384) (he : e.val = 512 * (t.val % 32) + q.val) :
    (iblk m c 2 t : S512x2048.Idx → EReal) (ix2 q k) = m ((c : Thread nD τ).loc main_arg3) (ix2 e k) := by
  obtain ⟨-, -, ⟨b0, b1⟩, -⟩ := index_all t
  rw [← V_up m c]
  refine congrArg (V m c main_v1) (funext fun a => ?_)
  match a with
  | ⟨0, _⟩ => exact Fin.ext (by show win0_2.index t 0 * 512 + 1 * q.val = e.val; rw [b0]; omega)
  | ⟨1, _⟩ => exact Fin.ext (by show win0_2.index t 1 * 2048 + 1 * k.val = k.val; rw [b1]; omega)

/-- The gates of a step. -/
theorem g_at (t : Fin cfg0.N) (y : Fin 8192) (l : Fin 128) (w : Fin 16) (z : Fin 262144) (hw : w.val = t.val % 32 / 2) (hz : z.val = 8192 * (t.val / 32) + y.val) :
    (iblk m c 3 t : S1x8192x128.Idx → EReal) (ix3 u0 y l) = (V m c main_arg1 : S16x262144x128.Idx → EReal) (ix3 w z l) := by
  obtain ⟨-, -, -, ⟨b0, b1, b2⟩, -⟩ := index_all t
  refine congrArg (V m c main_arg1) (funext fun a => ?_)
  match a with
  | ⟨0, _⟩ => exact Fin.ext (by show win0_3.index t 0 * 1 + 1 * 0 = w.val; rw [b0]; omega)
  | ⟨1, _⟩ => exact Fin.ext (by show win0_3.index t 1 * 8192 + 1 * y.val = z.val; rw [b1]; omega)
  | ⟨2, _⟩ => exact Fin.ext (by show win0_3.index t 2 * 128 + 1 * l.val = l.val; rw [b2]; omega)

/-- The terms of this call's arrays. -/
abbrev here (i : Fin 32768) (k : Fin 2048) (e : ℕ) : EReal :=
  term (V m c main_arg0) (V m c main_arg1) (m ((c : Thread nD τ).loc main_arg2)) (m ((c : Thread nD τ).loc main_arg3)) i k e

/-- A step adds the terms of its 512 experts. -/
theorem blk_at (t : Fin cfg0.N) (p : ℕ) (hp : p ≤ 4) (hpt : p = 4 * (t.val % 2)) (old : S1024x2048.Idx → EReal) (r : Fin 1024) (k : Fin 2048) (i : Fin 32768)
    (hi : i.val = 1024 * (t.val / 32) + r.val) (hold : old (ix2 r k) = ∑ e ∈ Finset.range (512 * (t.val % 32)), here m c i k e) :
    blk (iblk m c 0 t) (iblk m c 1 t) (iblk m c 2 t) (iblk m c 3 t) p hp old (ix2 r k) = ∑ e ∈ Finset.range (512 * (t.val % 32) + 512), here m c i k e := by
  rw [Finset.sum_range_add, ← hold, Finset.sum_range (fun q => here m c i k (512 * (t.val % 32) + q))]
  have hj : t.val % 32 < 32 := Nat.mod_lt _ (by decide)
  refine congrArg (old (ix2 r k) + ·) (Finset.sum_congr rfl fun q _ => ?_)
  have he : 512 * (t.val % 32) + q.val < 16384 := by omega
  unfold here term answer
  rw [dif_pos he]
  refine congrArg₂ (fun a b : EReal => a * b) (congrArg₂ (fun a b : EReal => a * b) (congrArg gelu (Finset.sum_congr rfl fun l _ => ?_)) ?_) ?_
  · exact congrArg₂ (fun a b : EReal => a * b) (x_at m c t r l i hi) (d_at m c t l q ⟨_, he⟩ rfl)
  · refine (g_at m c t _ _ ⟨(512 * (t.val % 32) + q.val) / 1024, by omega⟩ ⟨8 * i.val + (512 * (t.val % 32) + q.val) / 128 % 8, by omega⟩ ?_ ?_).trans ?_
    · show (512 * (t.val % 32) + q.val) / 1024 = t.val % 32 / 2; omega
    · show 8 * i.val + (512 * (t.val % 32) + q.val) / 128 % 8 = 8192 * (t.val / 32) + (8 * r.val + (p + q.val / 128)); omega
    · exact congrArg (fun l => V m c main_arg1 (ix3 _ _ l)) (Fin.ext (by show q.val % 128 = (512 * (t.val % 32) + q.val) % 128; omega))
  · exact u_at m c t q k ⟨_, he⟩ rfl

/-- What a point leaves: the terms of all the experts up to it. -/
theorem point_at (n : ℕ) : ∀ (hn : n < cfg0.N) (r : Fin 1024) (k : Fin 2048) (i : Fin 32768) (hi : i.val = 1024 * (n / 32) + r.val),
    outsAt0 m c n hn (ix2 r k) = ∑ e ∈ Finset.range (512 * (n % 32) + 512), here m c i k e := by
  induction n using Nat.strong_induction_on with
  | _ n ih =>
    intro hn r k i hi
    by_cases h0 : n % 32 = 0
    · have h1 : n % 2 = 0 := by omega
      have h2 : ¬ n % 2 = 1 := by omega
      refine (congrFun (outsAt0_A m c ⟨n, hn⟩ h0 h1 h2) _).trans ?_
      refine (congrFun (out_A c (grid0.coords ⟨n, hn⟩) _ (hs0_0 _) _ (hs0_1 _) _ (hs0_2 _) _ (hs0_3 _) _ (hs0_4 _) (iblk m c 0 _) (iblk m c 1 _) (iblk m c 2 _)
        (iblk m c 3 _) _ _ _) _).trans (blk_at m c ⟨n, hn⟩ 0 (by omega) (by show 0 = 4 * (n % 2); omega) _ r k i hi ?_)
      show 0 = ∑ e ∈ Finset.range (512 * (n % 32)), here m c i k e
      rw [h0]
      rfl
    · have hprev : outsAt0 m c (n - 1) (Nat.lt_of_le_of_lt (Nat.sub_le _ _) hn) (ix2 r k) = ∑ e ∈ Finset.range (512 * (n % 32)), here m c i k e := by
        refine (ih (n - 1) (by omega) _ r k i (by omega)).trans ?_
        rw [show 512 * ((n - 1) % 32) + 512 = 512 * (n % 32) by omega]
      by_cases h1 : n % 2 = 0
      · have h2 : ¬ n % 2 = 1 := by omega
        refine (congrFun (outsAt0_C m c ⟨n, hn⟩ h0 h1 h2) _).trans ?_
        exact (congrFun (out_C c (grid0.coords ⟨n, hn⟩) _ (hs0_0 _) _ (hs0_1 _) _ (hs0_2 _) _ (hs0_3 _) _ (hs0_4 _) (iblk m c 0 _) (iblk m c 1 _) (iblk m c 2 _)
          (iblk m c 3 _) _ _ _ _) _).trans (blk_at m c ⟨n, hn⟩ 0 (by omega) (by show 0 = 4 * (n % 2); omega) _ r k i hi hprev)
      · have h2 : n % 2 = 1 := by omega
        refine (congrFun (outsAt0_B m c ⟨n, hn⟩ h0 h1 h2) _).trans ?_
        exact (congrFun (out_B c (grid0.coords ⟨n, hn⟩) _ (hs0_0 _) _ (hs0_1 _) _ (hs0_2 _) _ (hs0_3 _) _ (hs0_4 _) (iblk m c 0 _) (iblk m c 1 _) (iblk m c 2 _)
          (iblk m c 3 _) _ _ _ _) _).trans (blk_at m c ⟨n, hn⟩ 4 (by omega) (by show 4 = 4 * (n % 2); omega) _ r k i hi hprev)

/-- The call's array is the sum over all experts. -/
theorem final_eq : (dats (F := Ideal) m 0 c).arrAt 4 cfg0.N
    = total (V m c main_arg0) (V m c main_arg1) (m ((c : Thread nD τ).loc main_arg2)) (m ((c : Thread nD τ).loc main_arg3)) := by
  refine (dats (F := Ideal) m 0 c).arrAt_eq_of_covers 4 _ (by decide +kernel) fun t hf y => ?_
  obtain ⟨-, -, -, -, ⟨e0, e1⟩, ht⟩ := index_all t
  have hl := (flush0_4 t).mp hf
  rw [after0_4]
  refine (cast_eq _ _).trans ?_
  obtain ⟨r, k, rfl⟩ : ∃ (r : Fin 1024) (k : Fin 2048), y = ix2 r k := ⟨_, _, pair y⟩
  refine (point_at m c t.val t.isLt r k ⟨1024 * (t.val / 32) + r.val, by omega⟩ rfl).trans ?_
  refine (total_at _ _ _ _ _ k _ (by rw [hl])).trans (congrArg (total (V m c main_arg0) (V m c main_arg1) (m ((c : Thread nD τ).loc main_arg2)) (m ((c : Thread nD τ).loc main_arg3)))
    (funext fun a => ?_))
  match a with
  | ⟨0, _⟩ => exact Fin.ext (by show 1024 * (t.val / 32) + r.val = win0_4.index t 0 * 1024 + 1 * r.val; rw [e0]; omega)
  | ⟨1, _⟩ => exact Fin.ext (by show k.val = win0_4.index t 1 * 2048 + 1 * k.val; rw [e1]; omega)

end

section
open Cert.Reference10Ideal.Read

/-- The f32 word of one half. -/
theorem half_f32 : Ideal.ofBits .f32 0x3F000000#32 = ((1 / 2 : ℝ) : EReal) := by
  simp [Ideal.ofBits, Ideal.ieee, -EReal.coe_mul]; norm_num

/-- The reference's factor is the reciprocal of the root of two. -/
theorem root_at (i : Cert.Reference10Ideal.S_.Idx) : val_main_v9 (F := Ideal) i = (((Real.sqrt 2)⁻¹ : ℝ) : EReal) := by
  have w2 : Ideal.ofBits .f32 0x40000000#32 = ((2 : ℝ) : EReal) := by
    simp [Ideal.ofBits, Ideal.ieee, -EReal.coe_mul]; norm_num
  have h : Real.sqrt 2 ≠ 0 := (Real.sqrt_pos.mpr (by norm_num)).ne'
  show Ideal.div (Ideal.ofBits .f32 0x3F800000#32) (Ideal.sqrt (Ideal.ofBits .f32 0x40000000#32)) = _
  rw [one_f32, w2, Ideal.sqrt_coe, if_neg (by norm_num), Ideal.div_coe h, ← EReal.coe_mul, one_mul, one_div]

/-- The reference's answer of an expert to a token. -/
theorem act_at (n : S32768x2048.Idx → EReal) (d : S16384x2048.Idx → EReal) (i : Fin 32768) (e : Fin 16384) :
    val_main_v15 (F := Ideal) n d (ix2 i e) = gelu (∑ l : Fin 2048, n (ix2 i l) * d (ix2 e l)) := by
  have hs : val_main_v5 (F := Ideal) n d (ix2 i e) = ∑ l : Fin 2048, n (ix2 i l) * d (ix2 e l) := by
    rw [val_main_v5_apply]
    refine Finset.sum_congr rfl fun l _ => congrArg₂ (fun a b : EReal => a * b) ?_ ?_
    · refine (val_main_v3_apply (F := Ideal) n _).trans (congrArg n (funext fun a => ?_))
      match a with
      | ⟨0, _⟩ => rfl
      | ⟨1, _⟩ => rfl
    · refine (val_main_v4_apply (F := Ideal) d _).trans (congrArg d (funext fun a => ?_))
      match a with
      | ⟨0, _⟩ => rfl
      | ⟨1, _⟩ => rfl
  rw [val_main_v15_apply, val_main_v7_apply, val_main_v6_apply, val_main_cst_apply, val_main_v14_apply, val_main_v13_apply, val_main_cst_2_apply, val_main_v12_apply,
    val_main_v11_apply, val_main_v10_apply, root_at, hs]
  generalize (∑ l : Fin 2048, n (ix2 i l) * d (ix2 e l)) = s
  show Ideal.ofBits .f32 0x3F000000#32 * s * (Ideal.ofBits .f32 0x3F800000#32 + Ideal.erf (s * (((Real.sqrt 2)⁻¹ : ℝ) : EReal))) = _
  rw [half_f32, one_f32]
  rfl

/-- The reference's gates, a row to a token. -/
theorem gate_ref (g : S16x262144x128.Idx → EReal) (i : Fin 32768) (e : Fin 16384) :
    val_main_v2 (F := Ideal) g (ix2 i e) = g (ix3 ⟨e.val / 1024, by omega⟩ ⟨8 * i.val + e.val / 128 % 8, by omega⟩ ⟨e.val % 128, by omega⟩) := by
  refine (val_main_v2_apply (F := Ideal) g _).trans ((val_main_v1_apply (F := Ideal) g _).trans ((val_main_v0_apply (F := Ideal) g _).trans
    (congrArg g (funext fun a => Fin.ext ?_))))
  have hi := i.isLt
  have he := e.isLt
  have h0 : (i.val * 16384 + e.val) / 16384 = i.val := by omega
  have h1 : (i.val * 16384 + e.val) / 1024 % 16 = e.val / 1024 := by omega
  have h2 : (i.val * 16384 + e.val) / 128 % 8 = e.val / 128 % 8 := by omega
  have h3 : (i.val * 16384 + e.val) % 128 = e.val % 128 := by omega
  match a with
  | ⟨0, _⟩ =>
    show (((((i.val * 16384 + e.val) / 1024 % 16) * 32768 + (i.val * 16384 + e.val) / 16384) * 8 + (i.val * 16384 + e.val) / 128 % 8) * 128
      + (i.val * 16384 + e.val) % 128) / 33554432 = e.val / 1024
    rw [h0, h1, h2, h3]
    omega
  | ⟨1, _⟩ =>
    show (((((i.val * 16384 + e.val) / 1024 % 16) * 32768 + (i.val * 16384 + e.val) / 16384) * 8 + (i.val * 16384 + e.val) / 128 % 8) * 128
      + (i.val * 16384 + e.val) % 128) / 128 % 262144 = 8 * i.val + e.val / 128 % 8
    rw [h0, h1, h2, h3]
    omega
  | ⟨2, _⟩ =>
    show (((((i.val * 16384 + e.val) / 1024 % 16) * 32768 + (i.val * 16384 + e.val) / 16384) * 8 + (i.val * 16384 + e.val) / 128 % 8) * 128
      + (i.val * 16384 + e.val) % 128) % 128 = e.val % 128
    rw [h0, h1, h2, h3]
    omega

/-- The reference's array is the sum over all experts. -/
theorem ref_eq (n : S32768x2048.Idx → EReal) (g : S16x262144x128.Idx → EReal) (d u : S16384x2048.Idx → EReal) :
    val_main_v17 (F := Ideal) n g d u = total n g d u := by
  funext y
  obtain ⟨i, k, rfl⟩ : ∃ (i : Fin 32768) (k : Fin 2048), y = ix2 i k := ⟨_, _, pair y⟩
  refine (val_main_v17_apply n g d u (ix2 i k)).trans (Eq.trans ?_ (Finset.sum_range (fun e => term n g d u i k e)).symm)
  refine Finset.sum_congr rfl fun e _ => ?_
  have hl : lidx_main_v17 (ix2 i k) e = ix2 i e := funext fun a => by
    match a with
    | ⟨0, _⟩ => rfl
    | ⟨1, _⟩ => rfl
  have hr : ridx_main_v17 (ix2 i k) e = ix2 e k := funext fun a => by
    match a with
    | ⟨0, _⟩ => rfl
    | ⟨1, _⟩ => rfl
  rw [hl, hr, val_main_v16_apply, act_at, gate_ref]
  unfold term
  rw [dif_pos e.isLt]
  exact congrArg (· * u (ix2 e k)) (mul_comm _ _)

end

/-- The call runs, keeps its arguments, and ends with its counters at zero. -/
theorem frame_kernel : Cert.quiescent_Kernel10 := fun m ρ _ => Cert.Kernel10.Gen.frame m ρ
/-- So does the idealized call. -/
theorem frame_ideal : Cert.quiescent_Kernel10Ideal := fun m ρ _ => Cert.Kernel10Ideal.Gen.frame m ρ
/-- So does the reference. -/
theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
/-- The idealized call is the call's own text but for its named constant. -/
theorem preserves : Cert.preserves_Kernel10_Kernel10Ideal :=
  IdealRules.named_const.statement Cert.Kernel10Ideal.κ "rsqrt2" .bf16 0x3F35#16 (((Real.sqrt 2)⁻¹ : ℝ) : EReal) rfl
/-- Call and reference leave the same array: the sum over all experts. -/
theorem algebraic : Cert.algebraic_Kernel10Ideal_Reference10Ideal := by
  intro m ρ m' ρ' _ hag
  refine ⟨_, Cert.Kernel10Ideal.Value.run_blocks (F := Ideal) m ρ,
    (θ_run Cert.Reference10Ideal.defs _ _).mono (fun _ h c => ⟨(h c).1.trans ?_, (h c).2⟩) (Cert.Reference10Ideal.Value.run (F := Ideal) m' ρ')⟩
  rw [Cert.Reference10Ideal.Read.val_main_v17_eq, (hag c).1, (hag c).2.1, (hag c).2.2.1, (hag c).2.2.2, final_eq m c, V_main_arg0, V_main_arg1]
  exact ref_eq _ _ _ _

end Cert.Proof.Ffn

end
-- ==== Proof.GatesRun.lean ====
/- One step of the table of gates: 128 tokens, a tile of the table to each; each place of a tile is a sum over the token's picks. -/
module

public import proofs.«01_k».proof.Proof.Tile
public import proofs.«01_k».proof.Proof.Gen.Kernel11Ideal.Value
public import Idealize.ShloMosaic.Lib.WritesUnit
public import Idealize.ShloMosaic.Lib.Pipeline.ReadBack
public import Idealize.ShloMosaic.Lib.ValueLayout

@[expose] public section

set_option maxRecDepth 16384

noncomputable section

namespace Cert.Proof.Gates

open Idealize.ShloMosaic
open Idealize.ShloMosaic.TcCoe Idealize.ShloMosaic.ValueIdx Idealize.SL.Sem Cert.Proof.Tile
open Cert.Kernel11Ideal Cert.Kernel11Ideal.Gen

/-- What one pick adds to the table's place of first key `a` and second key `b`: its gate where the keys are its own, and zero elsewhere. -/
def pick (k₁ k₂ : BitVec 32) (g : EReal) (a b : ℕ) : EReal :=
  (if k₁ = BitVec.ofNat 32 a then g else 0) * (if k₂ = BitVec.ofNat 32 b then 1 else 0)

/-- Choosing by a test that holds just where `p` does. -/
theorem select_of {p : Prop} [Decidable p] {b : BitVec 1} (h : b = BitVec.ofBool (decide p)) (x y : EReal) : Scalar.select b x y = if p then x else y := by
  subst h
  by_cases hp : p
  · rw [decide_eq_true hp, if_pos hp]; rfl
  · rw [decide_eq_false hp, if_neg hp]; rfl

/-- Two words are equal just where the numbers they stand for are. -/
theorem eq_words (x y : BitVec 32) : Ideal.cmp .oeq (((x.toInt : ℤ) : ℝ) : EReal) (((y.toInt : ℤ) : ℝ) : EReal) = BitVec.ofBool (decide (y = x)) := by
  refine congrArg BitVec.ofBool (decide_eq_decide.mpr ?_)
  rw [EReal.coe_eq_coe_iff, Int.cast_inj, BitVec.toInt_inj]
  exact eq_comm

/-- A token's row lies in the matrix. -/
theorem row_inb (t : Fin 128) : ∀ a, (![t.val, 0] : Fin 2 → ℕ) a + S1x128.size a ≤ S128x128.size a := fun a => match a with
  | ⟨0, _⟩ => t.isLt
  | ⟨1, _⟩ => le_refl 128

/-- A token's tile lies in the block. -/
theorem tile_inb (t : Fin 128) : ∀ a, (![0, 8 * t.val, 0] : Fin 3 → ℕ) a + S16x8x128.size a ≤ S16x1024x128.size a := fun a => match a with
  | ⟨0, _⟩ => le_refl 16
  | ⟨1, _⟩ => by have := t.isLt; show 8 * t.val + 8 ≤ 1024; omega
  | ⟨2, _⟩ => le_refl 128

/-- A token's row of what the stores `L` left in a matrix. -/
def row (v : Memref sig .tc .vmem S128x128 .f32) (L : List (View.Piece (Elt Ideal) S128x128 .f32)) (t : Fin 128) : Vec Ideal S1x128 .f32 :=
  v.view.readCov L (Rect.unit (s := S128x128) ![t.val, 0] S1x128.size (row_inb t)).toLoadRect

/-- A token's row after one store of the whole matrix. -/
theorem row_fill (v : Memref sig .tc .vmem S128x128 .f32) (inb : ∀ a, (![0, 0] : Fin 2 → ℕ) a + S128x128.size a ≤ S128x128.size a)
    (Z : Vec Ideal S128x128 .f32) (t q : Fin 128) : row v [⟨Rect.unit ![0, 0] S128x128.size inb, Z⟩] t (ix2 u0 q) = Z (ix2 t q) := by
  unfold row
  rw [View.readCov_fill v.view inb Z [] _ (by decide)]
  refine congrArg Z (funext fun a => Fin.ext ?_)
  match a with
  | ⟨0, _⟩ => show t.val + 1 * 0 = t.val; omega
  | ⟨1, _⟩ => show 0 + 1 * q.val = q.val; omega

/-- The keys a row is compared with: the row numbers. -/
theorem key_at (a q : Fin 128) : k0_pay5 (F := Ideal) (ix2 a q) = ((((BitVec.ofNat 32 a.val).toInt : ℤ) : ℝ) : EReal) := by
  show ((((BitVec.ofNat 32 (0 * 128 + a.val)).toInt : ℤ) : ℝ) : EReal) = _
  rw [Nat.zero_mul, Nat.zero_add]

/-- A tile of the table from a token's rows: a sum over its picks. -/
theorem tile_at (r₁ r₂ g : Vec Ideal S1x128 .f32) (k₁ k₂ : Fin 128 → BitVec 32) (w : Fin 128 → EReal)
    (h₁ : ∀ q : Fin 128, r₁ (ix2 u0 q) = ((((k₁ q).toInt : ℤ) : ℝ) : EReal)) (h₂ : ∀ q : Fin 128, r₂ (ix2 u0 q) = ((((k₂ q).toInt : ℤ) : ℝ) : EReal))
    (hg : ∀ q : Fin 128, g (ix2 u0 q) = w q) (r : Fin 16) (s : Fin 8) (l : Fin 128) :
    k0_pay12 (F := Ideal) k0_pay5 r₁ r₂ g (ix3 r s l) = ∑ q : Fin 128, pick (k₁ q) (k₂ q) (w q) (8 * r.val + s.val) l.val := by
  have ha : 8 * r.val + s.val < 128 := by omega
  unfold k0_pay12
  refine (shapeCast_apply (t := S16x8x128) _ _ (ix3 r s l) (ix2 ⟨8 * r.val + s.val, ha⟩ l) ?_).trans ?_
  · rw [Shape.rowMajor_val_three, Shape.rowMajor_val_two]
    show (8 * r.val + s.val) * 128 + l.val = (r.val * 8 + s.val) * 128 + l.val
    omega
  refine (Ideal.matmul_transposedRhs_apply (φ₁ := .bf16) (φ₂ := .bf16) none _ _ _ ⟨8 * r.val + s.val, ha⟩ l).trans ?_
  rw [constant_apply, zero_f32, EReal.coe_zero, zero_add]
  refine Finset.sum_congr rfl fun q _ => congrArg₂ (fun a b : EReal => a * b) ?_ ?_
  · refine (select_of (p := k₁ q = BitVec.ofNat 32 (8 * r.val + s.val)) (Eq.trans ?_ (eq_words _ _)) _ _).trans ?_
    · exact congrArg₂ (Ideal.cmp .oeq) (key_at ⟨8 * r.val + s.val, ha⟩ q) ((broadcastTo_1b_ab_apply r₁ _ _ q).trans (h₁ q))
    · refine congrArg₂ (fun a b : EReal => if k₁ q = BitVec.ofNat 32 (8 * r.val + s.val) then a else b) ?_ zero_f32
      refine (broadcastTo_1b_ab_apply _ _ _ q).trans (Eq.trans ?_ (hg q))
      exact shapeCast_apply g _ (ix2 0 q) (ix2 u0 q) rfl
  · refine (select_of (p := k₂ q = BitVec.ofNat 32 l.val) (Eq.trans ?_ (eq_words _ _)) _ _).trans ?_
    · exact congrArg₂ (Ideal.cmp .oeq) (key_at l q) ((broadcastTo_1b_ab_apply r₂ _ _ q).trans (h₂ q))
    · exact congrArg₂ (fun a b : EReal => if k₂ q = BitVec.ofNat 32 l.val then a else b) one_f32 zero_f32

section
variable (c : Dev nD) (i : grid0.Coords)
  (arg1 : Memref sig .tc .vmem S128x128 .i32) (harg1 : arg1.IsWhole) (arg2 : Memref sig .tc .vmem S128x128 .i32) (harg2 : arg2.IsWhole)
  (arg3 : Memref sig .tc .vmem S128x128 .f32) (harg3 : arg3.IsWhole) (arg4 : Memref sig .tc .vmem S16x1024x128 .f32) (harg4 : arg4.IsWhole)
  (arg5 : Memref sig .tc .vmem S128x128 .f32) (harg5 : arg5.IsWhole) (arg6 : Memref sig .tc .vmem S128x128 .f32) (harg6 : arg6.IsWhole)
  (arg7 : Memref sig .tc .vmem S128x128 .f32) (harg7 : arg7.IsWhole)
  (x0 x1 : Vec Ideal S128x128 .i32) (x2 : Vec Ideal S128x128 .f32)

/-- The tile the step stores for the token `t`. -/
def piece (t : Fin 128) : FVec Ideal S16x8x128 .f32 :=
  k0_pay12 k0_pay5 (row arg5 (kernelRun0_A.sl.HS0_1 c arg1 harg1 x0) t) (row arg6 (kernelRun0_A.sl.HS1_1 c arg2 harg2 x1) t)
    (row arg7 (kernelRun0_A.sl.HS2_1 c arg3 harg3 x2) t)

/-- The step's stores are the tiles of the 128 tokens, in order. -/
theorem out_tiles : out0_A_3 c i arg1 harg1 arg2 harg2 arg3 harg3 arg4 harg4 arg5 harg5 arg6 harg6 arg7 harg7 x0 x1 x2
    = VO0_3.read (Elt Ideal) (VO0_3.writes (Elt Ideal) (VO0_3.junk)
      (View.tilePieces S16x8x128.size (fun t : Fin 128 => ![0, 8 * t.val, 0]) tile_inb (piece c arg1 harg1 arg2 harg2 arg3 harg3 arg5 arg6 arg7 x0 x1 x2) 128 (le_refl 128))) := by
  refine congrArg (fun L => VO0_3.read (Elt Ideal) (VO0_3.writes (Elt Ideal) VO0_3.junk L)) ?_
  unfold kernelRun0_A
  rfl

/-- The matrix of first keys is turned before the rows are read. -/
theorem first_at (t q : Fin 128) : row arg5 (kernelRun0_A.sl.HS0_1 c arg1 harg1 x0) t (ix2 u0 q) = ((((x0 (ix2 q t)).toInt : ℤ) : ℝ) : EReal) := by
  unfold kernelRun0_A.sl.HS0_1
  refine (row_fill arg5 _ _ t q).trans ?_
  rw [View.readAt_eq_ld arg1.view, harg1.read_unread, View.ld_unit_zero (S := S128x128) (by funext a; fin_cases a <;> rfl)]
  unfold k0_pay2
  rw [shapeCast_apply _ _ (ix2 t q) (ix2 t q) rfl]
  exact transpose_apply [1, 0] _ transposes_S128x128_p1_0_S128x128 (ix2 t q) (ix2 q t) (fun b => match b with
    | ⟨0, _⟩ => rfl
    | ⟨1, _⟩ => rfl)

/-- So is the matrix of second keys. -/
theorem second_at (t q : Fin 128) : row arg6 (kernelRun0_A.sl.HS1_1 c arg2 harg2 x1) t (ix2 u0 q) = ((((x1 (ix2 q t)).toInt : ℤ) : ℝ) : EReal) := by
  unfold kernelRun0_A.sl.HS1_1
  refine (row_fill arg6 _ _ t q).trans ?_
  rw [View.readAt_eq_ld arg2.view, harg2.read_unread, View.ld_unit_zero (S := S128x128) (by funext a; fin_cases a <;> rfl)]
  unfold k0_pay3
  rw [shapeCast_apply _ _ (ix2 t q) (ix2 t q) rfl]
  exact transpose_apply [1, 0] _ transposes_S128x128_p1_0_S128x128 (ix2 t q) (ix2 q t) (fun b => match b with
    | ⟨0, _⟩ => rfl
    | ⟨1, _⟩ => rfl)

/-- So is the matrix of gates. -/
theorem gate_at (t q : Fin 128) : row arg7 (kernelRun0_A.sl.HS2_1 c arg3 harg3 x2) t (ix2 u0 q) = x2 (ix2 q t) := by
  unfold kernelRun0_A.sl.HS2_1
  refine (row_fill arg7 _ _ t q).trans ?_
  rw [View.readAt_eq_ld arg3.view, harg3.read_unread, View.ld_unit_zero (S := S128x128) (by funext a; fin_cases a <;> rfl)]
  unfold k0_pay4
  rw [shapeCast_apply _ _ (ix2 t q) (ix2 t q) rfl]
  exact transpose_apply [1, 0] _ transposes_S128x128_p1_0_S128x128 (ix2 t q) (ix2 q t) (fun b => match b with
    | ⟨0, _⟩ => rfl
    | ⟨1, _⟩ => rfl)

/-- What the step leaves at row `8 t + s` of plane `r`: the sum over the picks of the token `t`. -/
theorem step_at (t : Fin 128) (r : Fin 16) (s : Fin 8) (l : Fin 128) (z : Fin 1024) (hz : z.val = 8 * t.val + s.val) :
    out0_A_3 c i arg1 harg1 arg2 harg2 arg3 harg3 arg4 harg4 arg5 harg5 arg6 harg6 arg7 harg7 x0 x1 x2 (ix3 r z l)
      = ∑ q : Fin 128, pick (x0 (ix2 q t)) (x1 (ix2 q t)) (x2 (ix2 q t)) (8 * r.val + s.val) l.val := by
  rw [out_tiles]
  refine (View.read_tilePieces VO0_3 _ _ _ _ _ 128 (le_refl 128) (ix3 r z l) t t.isLt (ix3 r s l) (fun a => ?_) 1 (fun t' ht => ?_)).trans ?_
  · match a with
    | ⟨0, _⟩ => show r.val = 0 + r.val; omega
    | ⟨1, _⟩ => exact hz
    | ⟨2, _⟩ => show l.val = 0 + l.val; omega
  · have : t'.val ≠ t.val := fun h => ht (Fin.ext h)
    show z.val < 8 * t'.val ∨ 8 * t'.val + 8 ≤ z.val
    omega
  · exact tile_at _ _ _ (fun q => x0 (ix2 q t)) (fun q => x1 (ix2 q t)) (fun q => x2 (ix2 q t)) (fun q => first_at c arg1 harg1 arg5 x0 t q)
      (fun q => second_at c arg2 harg2 arg6 x1 t q) (fun q => gate_at c arg3 harg3 arg7 x2 t q) r s l

end

end Cert.Proof.Gates

end
-- ==== Proof.Gates.lean ====
/- The table of gates, whole: each place is the sum over the token's picks, and the reference's; the call's five claims. -/
module

public import proofs.«01_k».proof.Defs
public import proofs.«01_k».proof.Proof.GatesRun
public import proofs.«01_k».proof.Proof.Gen.Kernel11.Frame
public import proofs.«01_k».proof.Proof.Gen.Reference11Ideal.Run
public import proofs.«01_k».proof.Proof.Gen.Reference11Ideal.Read
public import Idealize.ShloMosaic.Lib.Pipeline.ValueKit.Geometry
public import Idealize.ShloMosaic.Lib.Quiescent
public import Idealize.ShloMosaic.Lib.KernelVsHost
public import Idealize.ShloMosaic.Lib.StableHlo.Predicate
public import Idealize.ShloMosaic.Lib.Pointwise.ShapeOpsCore

@[expose] public section

set_option maxRecDepth 16384

noncomputable section

namespace Cert.Proof.Gates

open Idealize.ShloMosaic hiding ix1 ix2 ix3
open Idealize.ShloMosaic.TcCoe Idealize.ShloMosaic.ValueIdx Idealize.SL.Sem Cert.Proof.Tile
open Cert.Kernel11Ideal Cert.Kernel11Ideal.Gen

/-- The table of gates: row `8 t + s` of plane `r` holds, for the token `t`, first key `8 r + s` against all second keys. -/
def table (K₁ K₂ : S128x32768.Idx → BitVec 32) (G : S128x32768.Idx → EReal) : S16x262144x128.Idx → EReal := fun y =>
  ∑ q : Fin 128, pick (K₁ (ix2 q ⟨(y 1).val / 8, Nat.div_lt_of_lt_mul (show (y 1).val < 8 * 32768 from (y 1).isLt)⟩))
    (K₂ (ix2 q ⟨(y 1).val / 8, Nat.div_lt_of_lt_mul (show (y 1).val < 8 * 32768 from (y 1).isLt)⟩))
    (G (ix2 q ⟨(y 1).val / 8, Nat.div_lt_of_lt_mul (show (y 1).val < 8 * 32768 from (y 1).isLt)⟩)) (8 * (y 0).val + (y 1).val % 8) (y 2).val

/-- The table at a token's place. -/
theorem table_at (K₁ K₂ : S128x32768.Idx → BitVec 32) (G : S128x32768.Idx → EReal) (y : S16x262144x128.Idx) (t : Fin 32768) (a b : ℕ)
    (ht : (y 1).val / 8 = t.val) (ha : 8 * (y 0).val + (y 1).val % 8 = a) (hb : (y 2).val = b) :
    table K₁ K₂ G y = ∑ q : Fin 128, pick (K₁ (ix2 q t)) (K₂ (ix2 q t)) (G (ix2 q t)) a b := by
  subst ha hb
  obtain rfl : (⟨(y 1).val / 8, Nat.div_lt_of_lt_mul (show (y 1).val < 8 * 32768 from (y 1).isLt)⟩ : Fin 32768) = t := Fin.ext ht
  rfl

/-- The block each grid point reads and writes. -/
theorem index_all : ∀ t : Fin cfg0.N,
    (win0_0.index t 0 = 0 ∧ win0_0.index t 1 = t.val) ∧ (win0_1.index t 0 = 0 ∧ win0_1.index t 1 = t.val) ∧ (win0_2.index t 0 = 0 ∧ win0_2.index t 1 = t.val)
      ∧ (win0_3.index t 0 = 0 ∧ win0_3.index t 1 = t.val ∧ win0_3.index t 2 = 0) ∧ t.val < 256 :=
  (by decide +kernel : ∀ t : Fin grid0.N, _)

section
variable (m : (ℓ : Loc nD τ sig) → Buf (Elt Ideal) ℓ) (c : Dev nD)

/-- The first keys of a step. -/
theorem first_blk (t : Fin cfg0.N) (q j : Fin 128) (i : Fin 32768) (hi : i.val = 128 * t.val + j.val) :
    (iblk m c 0 t : S128x128.Idx → BitVec 32) (ix2 q j) = (V m c main_arg0 : S128x32768.Idx → BitVec 32) (ix2 q i) := by
  obtain ⟨⟨a0, a1⟩, -⟩ := index_all t
  refine congrArg (V m c main_arg0) (funext fun a => ?_)
  match a with
  | ⟨0, _⟩ => exact Fin.ext (by show win0_0.index t 0 * 128 + 1 * q.val = q.val; rw [a0]; omega)
  | ⟨1, _⟩ => exact Fin.ext (by show win0_0.index t 1 * 128 + 1 * j.val = i.val; rw [a1]; omega)

/-- The second keys of a step. -/
theorem second_blk (t : Fin cfg0.N) (q j : Fin 128) (i : Fin 32768) (hi : i.val = 128 * t.val + j.val) :
    (iblk m c 1 t : S128x128.Idx → BitVec 32) (ix2 q j) = (V m c main_arg1 : S128x32768.Idx → BitVec 32) (ix2 q i) := by
  obtain ⟨-, ⟨a0, a1⟩, -⟩ := index_all t
  refine congrArg (V m c main_arg1) (funext fun a => ?_)
  match a with
  | ⟨0, _⟩ => exact Fin.ext (by show win0_1.index t 0 * 128 + 1 * q.val = q.val; rw [a0]; omega)
  | ⟨1, _⟩ => exact Fin.ext (by show win0_1.index t 1 * 128 + 1 * j.val = i.val; rw [a1]; omega)

/-- The gates of a step. -/
theorem gate_blk (t : Fin cfg0.N) (q j : Fin 128) (i : Fin 32768) (hi : i.val = 128 * t.val + j.val) :
    (iblk m c 2 t : S128x128.Idx → EReal) (ix2 q j) = (V m c main_arg2 : S128x32768.Idx → EReal) (ix2 q i) := by
  obtain ⟨-, -, ⟨a0, a1⟩, -⟩ := index_all t
  refine congrArg (V m c main_arg2) (funext fun a => ?_)
  match a with
  | ⟨0, _⟩ => exact Fin.ext (by show win0_2.index t 0 * 128 + 1 * q.val = q.val; rw [a0]; omega)
  | ⟨1, _⟩ => exact Fin.ext (by show win0_2.index t 1 * 128 + 1 * j.val = i.val; rw [a1]; omega)

/-- The call's array is the table. -/
theorem final_eq : (dats (F := Ideal) m 0 c).arrAt 3 cfg0.N = table (V m c main_arg0) (V m c main_arg1) (V m c main_arg2) := by
  refine (dats (F := Ideal) m 0 c).arrAt_eq_of_covers 3 _ (by decide +kernel) fun t hf y => ?_
  obtain ⟨-, -, -, ⟨e0, e1, e2⟩, ht⟩ := index_all t
  rw [after0_3]
  refine (cast_eq _ _).trans ?_
  obtain ⟨r, z, l, rfl⟩ : ∃ (r : Fin 16) (z : Fin 1024) (l : Fin 128), y = ix3 r z l := ⟨y 0, y 1, y 2, by funext a; fin_cases a <;> rfl⟩
  refine (step_at c (grid0.coords t) _ (hs0_0 t) _ (hs0_1 t) _ (hs0_2 t) _ (hs0_3 t) _ _ _ _ _ _ (iblk m c 0 t) (iblk m c 1 t) (iblk m c 2 t)
    ⟨z.val / 8, by omega⟩ r ⟨z.val % 8, by omega⟩ l z (by show z.val = 8 * (z.val / 8) + z.val % 8; omega)).trans ?_
  refine Eq.trans (Finset.sum_congr rfl fun q _ => ?_) (table_at _ _ _ _ ⟨128 * t.val + z.val / 8, by omega⟩ (8 * r.val + z.val % 8) l.val ?_ ?_ ?_).symm
  · rw [first_blk m c t q ⟨z.val / 8, by omega⟩ ⟨128 * t.val + z.val / 8, by omega⟩ rfl, second_blk m c t q ⟨z.val / 8, by omega⟩ ⟨128 * t.val + z.val / 8, by omega⟩ rfl,
      gate_blk m c t q ⟨z.val / 8, by omega⟩ ⟨128 * t.val + z.val / 8, by omega⟩ rfl]
  · show (win0_3.index t 1 * 1024 + 1 * z.val) / 8 = 128 * t.val + z.val / 8
    rw [e1]; omega
  · show 8 * (win0_3.index t 0 * 16 + 1 * r.val) + (win0_3.index t 1 * 1024 + 1 * z.val) % 8 = 8 * r.val + z.val % 8
    rw [e0, e1]; omega
  · show win0_3.index t 2 * 128 + 1 * l.val = l.val
    rw [e2]; omega

end

section
open Cert.Reference11Ideal.Read

/-- The reference's entry of a pick at a first key: its gate where the key is its own. -/
theorem left_at (K₁ : S128x32768.Idx → BitVec 32) (G : S128x32768.Idx → EReal) (q : Fin 128) (t : Fin 32768) (a : Fin 128) :
    val_main_v7 (F := Ideal) K₁ G (ix3 q t a) = if K₁ (ix2 q t) = BitVec.ofNat 32 a.val then G (ix2 q t) else 0 := by
  rw [val_main_v7_apply]
  refine (select_of (p := K₁ (ix2 q t) = BitVec.ofNat 32 a.val) ?_ _ _).trans (congrArg₂ (fun x y : EReal => if K₁ (ix2 q t) = BitVec.ofNat 32 a.val then x else y) ?_ ?_)
  · rw [val_main_v5_apply, val_main_v3_apply, val_main_v1_apply, val_main_v4_apply, val_main_v2_apply, val_main_v0_apply]
    have e : idx_main_v1 (idx_main_v3 (ix3 q t a)) = ix2 q t := funext fun b => by
      match b with
      | ⟨0, _⟩ => rfl
      | ⟨1, _⟩ => rfl
    rw [e]
    rfl
  · rw [val_main_call0_v1_apply, val_main_v6_apply]
    refine congrArg G (funext fun b => ?_)
    match b with
    | ⟨0, _⟩ => rfl
    | ⟨1, _⟩ => rfl
  · rw [val_main_call0_v2_apply]
    exact zero_f32

/-- The reference's entry of a pick at a second key: one where the key is its own. -/
theorem right_at (K₂ : S128x32768.Idx → BitVec 32) (q : Fin 128) (t : Fin 32768) (b : Fin 128) :
    val_main_v13 (F := Ideal) K₂ (ix3 q t b) = if K₂ (ix2 q t) = BitVec.ofNat 32 b.val then 1 else 0 := by
  rw [val_main_v13_apply]
  refine (select_of (p := K₂ (ix2 q t) = BitVec.ofNat 32 b.val) ?_ _ _).trans (congrArg₂ (fun x y : EReal => if K₂ (ix2 q t) = BitVec.ofNat 32 b.val then x else y) ?_ ?_)
  · rw [val_main_v12_apply, val_main_v10_apply, val_main_v8_apply, val_main_v11_apply, val_main_v9_apply, val_main_v0_apply]
    have e : idx_main_v8 (idx_main_v10 (ix3 q t b)) = ix2 q t := funext fun b => by
      match b with
      | ⟨0, _⟩ => rfl
      | ⟨1, _⟩ => rfl
    rw [e]
    rfl
  · rw [val_main_call1_v0_apply]
    exact one_f32
  · rw [val_main_call1_v1_apply]
    exact zero_f32

/-- The reference's table of a token, both keys apart. -/
theorem dot_at (K₁ K₂ : S128x32768.Idx → BitVec 32) (G : S128x32768.Idx → EReal) (y : Cert.Reference11Ideal.S32768x128x128.Idx) (t : Fin 32768) (a b : Fin 128)
    (ht : (y 0).val = t.val) (ha : (y 1).val = a.val) (hb : (y 2).val = b.val) :
    val_main_v14 (F := Ideal) K₁ K₂ G y = ∑ q : Fin 128, pick (K₁ (ix2 q t)) (K₂ (ix2 q t)) (G (ix2 q t)) a.val b.val := by
  rw [val_main_v14_apply]
  refine Finset.sum_congr rfl fun q _ => ?_
  have hl : lidx_main_v14 y q = ix3 q t a := funext fun x => by
    match x with
    | ⟨0, _⟩ => rfl
    | ⟨1, _⟩ => exact Fin.ext ht
    | ⟨2, _⟩ => exact Fin.ext ha
  have hr : ridx_main_v14 y q = ix3 q t b := funext fun x => by
    match x with
    | ⟨0, _⟩ => rfl
    | ⟨1, _⟩ => exact Fin.ext ht
    | ⟨2, _⟩ => exact Fin.ext hb
  rw [hl, hr, left_at, right_at]
  rfl

/-- The reference's array is the table. -/
theorem ref_eq (K₁ K₂ : S128x32768.Idx → BitVec 32) (G : S128x32768.Idx → EReal) : val_main_v17 (F := Ideal) K₁ K₂ G = table K₁ K₂ G := by
  funext y
  obtain ⟨r, z, l, rfl⟩ : ∃ (r : Fin 16) (z : Fin 262144) (l : Fin 128), y = ix3 r z l := ⟨y 0, y 1, y 2, by funext a; fin_cases a <;> rfl⟩
  have hr := r.isLt
  have hz := z.isLt
  have hl := l.isLt
  have h0 : ((r.val * 262144 + z.val) * 128 + l.val) / 33554432 = r.val := by omega
  have h1 : ((r.val * 262144 + z.val) * 128 + l.val) / 1024 % 32768 = z.val / 8 := by omega
  have h2 : ((r.val * 262144 + z.val) * 128 + l.val) / 128 % 8 = z.val % 8 := by omega
  have h3 : ((r.val * 262144 + z.val) * 128 + l.val) % 128 = l.val := by omega
  rw [val_main_v17_apply, val_main_v16_apply, val_main_v15_apply]
  refine (dot_at K₁ K₂ G _ ⟨z.val / 8, by omega⟩ ⟨8 * r.val + z.val % 8, by omega⟩ l ?_ ?_ ?_).trans
    (table_at K₁ K₂ G (ix3 r z l) ⟨z.val / 8, by omega⟩ _ _ rfl rfl rfl).symm
  · show ((((((r.val * 262144 + z.val) * 128 + l.val) / 1024 % 32768) * 16 + ((r.val * 262144 + z.val) * 128 + l.val) / 33554432) * 8
      + ((r.val * 262144 + z.val) * 128 + l.val) / 128 % 8) * 128 + ((r.val * 262144 + z.val) * 128 + l.val) % 128) / 16384 = z.val / 8
    rw [h0, h1, h2, h3]
    omega
  · show ((((((r.val * 262144 + z.val) * 128 + l.val) / 1024 % 32768) * 16 + ((r.val * 262144 + z.val) * 128 + l.val) / 33554432) * 8
      + ((r.val * 262144 + z.val) * 128 + l.val) / 128 % 8) * 128 + ((r.val * 262144 + z.val) * 128 + l.val) % 128) / 128 % 128 = 8 * r.val + z.val % 8
    rw [h0, h1, h2, h3]
    omega
  · show ((((((r.val * 262144 + z.val) * 128 + l.val) / 1024 % 32768) * 16 + ((r.val * 262144 + z.val) * 128 + l.val) / 33554432) * 8
      + ((r.val * 262144 + z.val) * 128 + l.val) / 128 % 8) * 128 + ((r.val * 262144 + z.val) * 128 + l.val) % 128) % 128 = l.val
    rw [h0, h1, h2, h3]
    omega

end

/-- The call runs, keeps its arguments, and ends with its counters at zero. -/
theorem frame_kernel : Cert.quiescent_Kernel11 := fun m ρ _ => Cert.Kernel11.Gen.frame m ρ
/-- So does the idealized call. -/
theorem frame_ideal : Cert.quiescent_Kernel11Ideal := fun m ρ _ => Cert.Kernel11Ideal.Gen.frame m ρ
/-- So does the reference. -/
theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
/-- The idealized call is the call's own text. -/
theorem preserves : Cert.preserves_Kernel11_Kernel11Ideal := trivial
/-- Call and reference leave the same array: the table of gates. -/
theorem algebraic : Cert.algebraic_Kernel11Ideal_Reference11Ideal := by
  intro m ρ m' ρ' _ hag
  refine ⟨_, Cert.Kernel11Ideal.Value.run_blocks (F := Ideal) m ρ,
    (θ_run Cert.Reference11Ideal.defs _ _).mono (fun _ h c => ⟨(h c).1.trans ?_, (h c).2⟩) (Cert.Reference11Ideal.Value.run (F := Ideal) m' ρ')⟩
  rw [Cert.Reference11Ideal.Read.val_main_v17_eq, (hag c).1, (hag c).2.1, (hag c).2.2, final_eq m c, V_main_arg0, V_main_arg1, V_main_arg2]
  exact ref_eq _ _ _

end Cert.Proof.Gates

end
-- ==== Proof.lean ====
/- The certificate: every claim of `Cert.Claim` (proofs.«01_k».proof.Defs), assembled. -/
module

public import proofs.«01_k».proof.Proof.Claims
public import proofs.«01_k».proof.Proof.InProj
public import proofs.«01_k».proof.Proof.Out
public import proofs.«01_k».proof.Proof.Query
public import proofs.«01_k».proof.Proof.Norm
public import proofs.«01_k».proof.Proof.Step
public import proofs.«01_k».proof.Proof.Last
public import proofs.«01_k».proof.Proof.Conv
public import proofs.«01_k».proof.Proof.ScanRef
public import proofs.«01_k».proof.Proof.Ffn
public import proofs.«01_k».proof.Proof.Gates

@[expose] public section

noncomputable section

namespace Cert.Proof

/-- Every claim of the certificate holds. -/
theorem claim : Cert.Claim :=
  ⟨inferInstance, inferInstance, inferInstance, inferInstance, inferInstance, inferInstance, inferInstance, inferInstance, inferInstance, inferInstance, inferInstance, inferInstance,
    inferInstance, inferInstance, inferInstance, inferInstance, inferInstance, inferInstance, inferInstance, inferInstance, inferInstance,
    inferInstance, inferInstance, inferInstance, inferInstance, inferInstance, inferInstance, inferInstance, inferInstance, inferInstance, inferInstance,
    inferInstance, inferInstance, inferInstance, frame_kernel, frame_ideal,
    frame_ideal_pre, frame_ref, frame_ref_pre, InProj.frame_kernel, InProj.frame_ideal, InProj.frame_ref, Out.frame_kernel,
    Out.frame_ideal, Out.frame_ref, Query.frame_kernel, Query.frame_ideal, Query.frame_ref, Norm.frame_kernel, Norm.frame_ideal,
    Norm.frame_ref, Step.frame_kernel, Step.frame_ideal, Step.frame_ref, Last.frame_kernel, Last.frame_ideal, Last.frame_ref,
    Conv.frame_kernel, Conv.frame_ideal, Conv.frame_ref, ScanConv.frame_kernel, ScanConv.frame_ideal, ScanConv.frame_ref, Ffn.frame_kernel, Ffn.frame_ideal,
    Ffn.frame_ref, Gates.frame_kernel, Gates.frame_ideal, Gates.frame_ref, preserves, algebraic, InProj.preserves, InProj.algebraic, Out.preserves,
    Out.algebraic, Query.preserves, Query.algebraic, Norm.preserves, Norm.algebraic, Step.preserves, Step.algebraic, Last.preserves,
    Last.algebraic, Conv.preserves, Conv.algebraic, ScanConv.preserves,
    ScanConv.algebraic, Ffn.preserves, Ffn.algebraic, Gates.preserves, Gates.algebraic⟩

end Cert.Proof

end
